-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16)
      ∧ r.2.mem ((c.tc : Thread Cert.Kernel2.nD Cert.Kernel2.τ).loc Cert.Kernel2.main_arg17) = m ((c.tc : Thread Cert.Kernel2.nD Cert.Kernel2.τ).loc Cert.Kernel2.main_arg17)
      ∧ r.2.mem ((c.tc : Thread Cert.Kernel2.nD Cert.Kernel2.τ).loc Cert.Kernel2.main_arg18) = m ((c.tc : Thread Cert.Kernel2.nD Cert.Kernel2.τ).loc Cert.Kernel2.main_arg18))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
      ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
      ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17)
      ∧ r.2.mem ((c.tc : Thread Cert.Reference2Ideal.nD Cert.Reference2Ideal.τ).loc Cert.Reference2Ideal.main_arg18) = m ((c.tc : Thread Cert.Reference2Ideal.nD Cert.Reference2Ideal.τ).loc Cert.Reference2Ideal.main_arg18))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)
      ∧ m' ((c.tc : Thread Cert.Reference2Ideal.nD Cert.Reference2Ideal.τ).loc Cert.Reference2Ideal.main_arg17) = m ((c.tc : Thread Cert.Kernel2Ideal.nD Cert.Kernel2Ideal.τ).loc Cert.Kernel2Ideal.main_arg17)
      ∧ m' ((c.tc : Thread Cert.Reference2Ideal.nD Cert.Reference2Ideal.τ).loc Cert.Reference2Ideal.main_arg18) = m ((c.tc : Thread Cert.Kernel2Ideal.nD Cert.Kernel2Ideal.τ).loc Cert.Kernel2Ideal.main_arg18)) →
    ∃ (v0 : (c : Dev Cert.Kernel2Ideal.nD) → Buf (Elt Ideal) ((c.tc : Thread Cert.Kernel2Ideal.nD Cert.Kernel2Ideal.τ).loc Cert.Kernel2Ideal.main_v24)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v24) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
          ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
          ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v62) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16)
          ∧ r.2.mem ((c.tc : Thread Cert.Reference2Ideal.nD Cert.Reference2Ideal.τ).loc Cert.Reference2Ideal.main_arg17) = m' ((c.tc : Thread Cert.Reference2Ideal.nD Cert.Reference2Ideal.τ).loc Cert.Reference2Ideal.main_arg17)
          ∧ r.2.mem ((c.tc : Thread Cert.Reference2Ideal.nD Cert.Reference2Ideal.τ).loc Cert.Reference2Ideal.main_arg18) = m' ((c.tc : Thread Cert.Reference2Ideal.nD Cert.Reference2Ideal.τ).loc Cert.Reference2Ideal.main_arg18))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)) →
    ∃ (v0 : (c : Dev Cert.Kernel3Ideal.nD) → Buf (Elt Ideal) ((c.tc : Thread Cert.Kernel3Ideal.nD Cert.Kernel3Ideal.τ).loc Cert.Kernel3Ideal.main_v28_0)) (v1 : (c : Dev Cert.Kernel3Ideal.nD) → Buf (Elt Ideal) ((c.tc : Thread Cert.Kernel3Ideal.nD Cert.Kernel3Ideal.τ).loc Cert.Kernel3Ideal.main_v28_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v28_0) = v0 c
          ∧ r.2.mem ((c.tc : Thread Cert.Kernel3Ideal.nD Cert.Kernel3Ideal.τ).loc Cert.Kernel3Ideal.main_v28_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v55) = v0 c
          ∧ r.2.mem ((c.tc : Thread Cert.Reference3Ideal.nD Cert.Reference3Ideal.τ).loc Cert.Reference3Ideal.main_v56) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S8x8192x8x96 : Shape := ⟨4, ![8, 8192, 8, 96]⟩
abbrev S8x8192x8x64 : Shape := ⟨4, ![8, 8192, 8, 64]⟩
abbrev S8x256x8x96 : Shape := ⟨4, ![8, 256, 8, 96]⟩
abbrev S8x256x8x64 : Shape := ⟨4, ![8, 256, 8, 64]⟩
abbrev S_ : Shape := ⟨0, ![]⟩

class Facts : Prop where
  bcast_S_S8x8192x8x96 : S_.BroadcastsInDim S8x8192x8x96 (![] : Fin 0 → Fin S8x8192x8x96.rank)
  reducesTo_S8x8192x8x96_S_d0_1_2_3 : S8x8192x8x96.ReducesTo [0, 1, 2, 3] S_
  h_S_ : 0 < S_.numel
  bcast_S_S8x256x8x96 : S_.BroadcastsInDim S8x256x8x96 (![] : Fin 0 → Fin S8x256x8x96.rank)
  reducesTo_S8x256x8x96_S_d0_1_2_3 : S8x256x8x96.ReducesTo [0, 1, 2, 3] S_

variable [Facts]

def fn {F : FTy → Type} [FloatOps F] (main_arg0 : FVec F S8x8192x8x96 .f32) (main_arg1 : FVec F S8x8192x8x96 .f32) (main_arg2 : FVec F S8x8192x8x64 .f32) (main_arg3 : FVec F S8x256x8x96 .f32) (main_arg4 : FVec F S8x256x8x96 .f32) (main_arg5 : FVec F S8x256x8x64 .f32) : IVec S_ 1 :=
  let main_v0 : FVec F S8x8192x8x96 .f32 := Host.absf main_arg0
  let main_cst : FVec F S_ .f32 := constant S_ .f32 0x7F800000#32
  let main_v1 : FVec F S8x8192x8x96 .f32 := broadcastInDim S8x8192x8x96 ![] bcast_S_S8x8192x8x96 main_cst
  let main_v2 : IVec S8x8192x8x96 1 := cmpf .olt main_v0 main_v1
  let main_c : IVec S_ 1 := constantI S_ 1 1#1
  let main_v3 : IVec S_ 1 := (fun x v => Host.reduce IntOp.andi x v reducesTo_S8x8192x8x96_S_d0_1_2_3 h_S_) main_v2 main_c
  let main_c_0 : IVec S_ 1 := constantI S_ 1 1#1
  let main_v4 : IVec S_ 1 := andi main_c_0 main_v3
  let main_v5 : FVec F S8x8192x8x96 .f32 := Host.absf main_arg1
  let main_cst_1 : FVec F S_ .f32 := constant S_ .f32 0x7F800000#32
  let main_v6 : FVec F S8x8192x8x96 .f32 := broadcastInDim S8x8192x8x96 ![] bcast_S_S8x8192x8x96 main_cst_1
  let main_v7 : IVec S8x8192x8x96 1 := cmpf .olt main_v5 main_v6
  let main_c_2 : IVec S_ 1 := constantI S_ 1 1#1
  let main_v8 : IVec S_ 1 := (fun x v => Host.reduce IntOp.andi x v reducesTo_S8x8192x8x96_S_d0_1_2_3 h_S_) main_v7 main_c_2
  let main_v9 : IVec S_ 1 := andi main_v4 main_v8
  let main_v10 : FVec F S8x256x8x96 .f32 := Host.absf main_arg4
  let main_cst_3 : FVec F S_ .f32 := constant S_ .f32 0x7F800000#32
  let main_v11 : FVec F S8x256x8x96 .f32 := broadcastInDim S8x256x8x96 ![] bcast_S_S8x256x8x96 main_cst_3
  let main_v12 : IVec S8x256x8x96 1 := cmpf .olt main_v10 main_v11
  let main_c_4 : IVec S_ 1 := constantI S_ 1 1#1
  let main_v13 : IVec S_ 1 := (fun x v => Host.reduce IntOp.andi x v reducesTo_S8x256x8x96_S_d0_1_2_3 h_S_) main_v12 main_c_4
  let main_v14 : IVec S_ 1 := andi main_v9 main_v13
  main_v14
-- ==== Kernel.lean ====
abbrev S8x8192x8x96 : Shape := ⟨4, ![8, 8192, 8, 96]⟩
abbrev S8x8192x8x64 : Shape := ⟨4, ![8, 8192, 8, 64]⟩
abbrev S8x256x8x96 : Shape := ⟨4, ![8, 256, 8, 96]⟩
abbrev S8x256x8x64 : Shape := ⟨4, ![8, 256, 8, 64]⟩
abbrev S8x8448x8x96 : Shape := ⟨4, ![8, 8448, 8, 96]⟩
abbrev S_ : Shape := ⟨0, ![]⟩
abbrev S8x8448x8x128 : Shape := ⟨4, ![8, 8448, 8, 128]⟩
abbrev S8x8448x1024 : Shape := ⟨3, ![8, 8448, 1024]⟩
abbrev S8x1024x8448 : Shape := ⟨3, ![8, 1024, 8448]⟩
abbrev S8x8448x8x64 : Shape := ⟨4, ![8, 8448, 8, 64]⟩
abbrev S8x8448x8x1 : Shape := ⟨4, ![8, 8448, 8, 1]⟩
abbrev S8x8448x8x15 : Shape := ⟨4, ![8, 8448, 8, 15]⟩
abbrev S8x8448x8x80 : Shape := ⟨4, ![8, 8448, 8, 80]⟩
abbrev S8x33x256x640 : Shape := ⟨4, ![8, 33, 256, 640]⟩
abbrev S8x33x640x256 : Shape := ⟨4, ![8, 33, 640, 256]⟩
abbrev S8x512x8192 : Shape := ⟨3, ![8, 512, 8192]⟩
abbrev S1x128x4096 : Shape := ⟨3, ![1, 128, 4096]⟩
abbrev S1x8448x128 : Shape := ⟨3, ![1, 8448, 128]⟩
abbrev S1x33x80x256 : Shape := ⟨4, ![1, 33, 80, 256]⟩
abbrev S1x64x4096 : Shape := ⟨3, ![1, 64, 4096]⟩
abbrev S256x1024 : Shape := ⟨2, ![256, 1024]⟩
abbrev S1x128x1024 : Shape := ⟨3, ![1, 128, 1024]⟩
abbrev S128x1024 : Shape := ⟨2, ![128, 1024]⟩
abbrev S1x1024 : Shape := ⟨2, ![1, 1024]⟩
abbrev S80x1024 : Shape := ⟨2, ![80, 1024]⟩
abbrev S1x256x128 : Shape := ⟨3, ![1, 256, 128]⟩
abbrev S256x128 : Shape := ⟨2, ![256, 128]⟩
abbrev S1024 : Shape := ⟨1, ![1024]⟩
abbrev S1x1x80x256 : Shape := ⟨4, ![1, 1, 80, 256]⟩
abbrev S80x256 : Shape := ⟨2, ![80, 256]⟩
abbrev S64x1024 : Shape := ⟨2, ![64, 1024]⟩
abbrev S1x64x1024 : Shape := ⟨3, ![1, 64, 1024]⟩

abbrev nBuf : Space → Nat
  | .hbm => 36
  | .vmem => 11
  | .smem => 0
  | _ => 0

abbrev bufTy : (tb : Table) → Fin (tcTables nBuf tb) → BufTy
  | .hbm, ⟨0, _⟩ => ⟨S8x8192x8x96, .f32⟩
  | .hbm, ⟨1, _⟩ => ⟨S8x8192x8x96, .f32⟩
  | .hbm, ⟨2, _⟩ => ⟨S8x8192x8x64, .f32⟩
  | .hbm, ⟨3, _⟩ => ⟨S8x256x8x96, .f32⟩
  | .hbm, ⟨4, _⟩ => ⟨S8x256x8x96, .f32⟩
  | .hbm, ⟨5, _⟩ => ⟨S8x256x8x64, .f32⟩
  | .hbm, ⟨6, _⟩ => ⟨S8x8448x8x96, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8x8448x8x96, .f32⟩
  | .hbm, ⟨13, _⟩ => ⟨S8x8448x8x96, .f32⟩
  | .hbm, ⟨14, _⟩ => ⟨S_, .i32⟩
  | .hbm, ⟨15, _⟩ => ⟨S_, .f32⟩
  | .hbm, ⟨16, _⟩ => ⟨S8x8448x8x128, .f32⟩
  | .hbm, ⟨17, _⟩ => ⟨S8x8448x1024, .f32⟩
  | .hbm, ⟨18, _⟩ => ⟨S8x1024x8448, .f32⟩
  | .hbm, ⟨19, _⟩ => ⟨S8x1024x8448, .bf16⟩
  | .hbm, ⟨20, _⟩ => ⟨S8x8448x8x96, .f32⟩
  | .hbm, ⟨21, _⟩ => ⟨S_, .i32⟩
  | .hbm, ⟨22, _⟩ => ⟨S_, .f32⟩
  | .hbm, ⟨23, _⟩ => ⟨S8x8448x8x128, .f32⟩
  | .hbm, ⟨24, _⟩ => ⟨S8x8448x1024, .f32⟩
  | .hbm, ⟨25, _⟩ => ⟨S8x8448x1024, .bf16⟩
  | .hbm, ⟨26, _⟩ => ⟨S8x8448x8x64, .f32⟩
  | .hbm, ⟨27, _⟩ => ⟨S_, .f32⟩
  | .hbm, ⟨28, _⟩ => ⟨S8x8448x8x1, .f32⟩
  | .hbm, ⟨29, _⟩ => ⟨S_, .f32⟩
  | .hbm, ⟨30, _⟩ => ⟨S8x8448x8x15, .f32⟩
  | .hbm, ⟨31, _⟩ => ⟨S8x8448x8x80, .f32⟩
  | .hbm, ⟨32, _⟩ => ⟨S8x33x256x640, .f32⟩
  | .hbm, ⟨33, _⟩ => ⟨S8x33x640x256, .f32⟩
  | .hbm, ⟨34, _⟩ => ⟨S8x33x640x256, .bf16⟩
  | .hbm, ⟨35, _⟩ => ⟨S8x512x8192, .bf16⟩
  | .local _ .vmem, ⟨0, _⟩ => ⟨S1x128x4096, .bf16⟩
  | .local _ .vmem, ⟨1, _⟩ => ⟨S1x128x4096, .bf16⟩
  | .local _ .vmem, ⟨2, _⟩ => ⟨S1x8448x128, .bf16⟩
  | .local _ .vmem, ⟨3, _⟩ => ⟨S1x8448x128, .bf16⟩
  | .local _ .vmem, ⟨4, _⟩ => ⟨S1x33x80x256, .bf16⟩
  | .local _ .vmem, ⟨5, _⟩ => ⟨S1x33x80x256, .bf16⟩
  | .local _ .vmem, ⟨6, _⟩ => ⟨S1x64x4096, .bf16⟩
  | .local _ .vmem, ⟨7, _⟩ => ⟨S1x64x4096, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | _, _ => ⟨S8x8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_call0_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 2], ![false, false, false]⟩

def k0_mult1 : BitVec 32 :=
  let c0_i32 : BitVec 32 := 0#32
  c0_i32
def k0_mult2 : BitVec 32 :=
  let c256_i32 : BitVec 32 := 256#32
  c256_i32
@[reducible] def k0_t1_loop : Scf.Loop 32 :=
  let c0_i32_15 : BitVec 32 := 0#32
  let c2_i32 : BitVec 32 := 2#32
  let v24 : BitVec 32 := Scalar.addi c0_i32_15 c2_i32
  let c1_i32 : BitVec 32 := 1#32
  ⟨c0_i32_15, v24, c1_i32⟩
def k0_mult3 (k0_t1 : Fin k0_t1_loop.trips) : BitVec 32 :=
  let c0_i32_15 : BitVec 32 := 0#32
  let c1_i32 : BitVec 32 := 1#32
  let arg10 : BitVec 32 := Scf.iv c0_i32_15 c1_i32 k0_t1
  let c15_i32 : BitVec 32 := 15#32
  let v344 : BitVec 32 := Scalar.muli arg10 c15_i32
  let c0_i32_203 : BitVec 32 := 0#32
  let v345 : BitVec 32 := Scalar.addi v344 c0_i32_203
  let c2_i32_204 : BitVec 32 := 2#32
  let v346 : BitVec 32 := Scalar.addi v345 c2_i32_204
  let c256_i32_205 : BitVec 32 := 256#32
  let v347 : BitVec 32 := Scalar.muli v346 c256_i32_205
  v347
def k0_off1 (k0_t1 : Fin k0_t1_loop.trips) (c0_i32_203 : BitVec 32) : Fin 3 → Nat :=
  let c0_206 : Index := 0#32
  let c0_i32_15 : BitVec 32 := 0#32
  let c1_i32 : BitVec 32 := 1#32
  let arg10 : BitVec 32 := Scf.iv c0_i32_15 c1_i32 k0_t1
  let c15_i32 : BitVec 32 := 15#32
  let v344 : BitVec 32 := Scalar.muli arg10 c15_i32
  let v345 : BitVec 32 := Scalar.addi v344 c0_i32_203
  let c2_i32_204 : BitVec 32 := 2#32
  let v346 : BitVec 32 := Scalar.addi v345 c2_i32_204
  let c256_i32_205 : BitVec 32 := 256#32
  let v347 : BitVec 32 := Scalar.muli v346 c256_i32_205
  let v348 : BitVec 32 := v347
  let v349 : Index := Scalar.indexCast v348
  let c0_207 : Index := 0#32
  ![0, v349.toNat, 0]
def k0_off2 (k0_t1 : Fin k0_t1_loop.trips) (c0_i32_203 : BitVec 32) : Fin 4 → Nat :=
  let c0_212 : Index := 0#32
  let c0_i32_15 : BitVec 32 := 0#32
  let c1_i32 : BitVec 32 := 1#32
  let arg10 : BitVec 32 := Scf.iv c0_i32_15 c1_i32 k0_t1
  let c15_i32 : BitVec 32 := 15#32
  let v344 : BitVec 32 := Scalar.muli arg10 c15_i32
  let v345 : BitVec 32 := Scalar.addi v344 c0_i32_203
  let v358 : Index := Scalar.indexCast v345
  let c0_213 : Index := 0#32
  let c0_214 : Index := 0#32
  ![0, v358.toNat, 0, 0]
def k0_mult4 (k0_t1 : Fin k0_t1_loop.trips) : BitVec 32 :=
  let c0_i32_15 : BitVec 32 := 0#32
  let c1_i32 : BitVec 32 := 1#32
  let arg10 : BitVec 32 := Scf.iv c0_i32_15 c1_i32 k0_t1
  let c15_i32_218 : BitVec 32 := 15#32
  let v373 : BitVec 32 := Scalar.muli arg10 c15_i32_218
  let c1_i32_219 : BitVec 32 := 1#32
  let v374 : BitVec 32 := Scalar.addi v373 c1_i32_219
  let c2_i32_220 : BitVec 32 := 2#32
  let v375 : BitVec 32 := Scalar.addi v374 c2_i32_220
  let c256_i32_221 : BitVec 32 := 256#32
  let v376 : BitVec 32 := Scalar.muli v375 c256_i32_221
  v376
def k0_mult5 (k0_t1 : Fin k0_t1_loop.trips) : BitVec 32 :=
  let c0_i32_15 : BitVec 32 := 0#32
  let c1_i32 : BitVec 32 := 1#32
  let arg10 : BitVec 32 := Scf.iv c0_i32_15 c1_i32 k0_t1
  let c15_i32_234 : BitVec 32 := 15#32
  let v402 : BitVec 32 := Scalar.muli arg10 c15_i32_234
  let c2_i32_235 : BitVec 32 := 2#32
  let v403 : BitVec 32 := Scalar.addi v402 c2_i32_235
  let c2_i32_236 : BitVec 32 := 2#32
  let v404 : BitVec 32 := Scalar.addi v403 c2_i32_236
  let c256_i32_237 : BitVec 32 := 256#32
  let v405 : BitVec 32 := Scalar.muli v404 c256_i32_237
  v405
def k0_mult6 (k0_t1 : Fin k0_t1_loop.trips) : BitVec 32 :=
  let c0_i32_15 : BitVec 32 := 0#32
  let c1_i32 : BitVec 32 := 1#32
  let arg10 : BitVec 32 := Scf.iv c0_i32_15 c1_i32 k0_t1
  let c15_i32_250 : BitVec 32 := 15#32
  let v431 : BitVec 32 := Scalar.muli arg10 c15_i32_250
  let c3_i32 : BitVec 32 := 3#32
  let v432 : BitVec 32 := Scalar.addi v431 c3_i32
  let c2_i32_251 : BitVec 32 := 2#32
  let v433 : BitVec 32 := Scalar.addi v432 c2_i32_251
  let c256_i32_252 : BitVec 32 := 256#32
  let v434 : BitVec 32 := Scalar.muli v433 c256_i32_252
  v434
def k0_mult7 (k0_t1 : Fin k0_t1_loop.trips) : BitVec 32 :=
  let c0_i32_15 : BitVec 32 := 0#32
  let c1_i32 : BitVec 32 := 1#32
  let arg10 : BitVec 32 := Scf.iv c0_i32_15 c1_i32 k0_t1
  let c15_i32_265 : BitVec 32 := 15#32
  let v460 : BitVec 32 := Scalar.muli arg10 c15_i32_265
  let c4_i32 : BitVec 32 := 4#32
  let v461 : BitVec 32 := Scalar.addi v460 c4_i32
  let c2_i32_266 : BitVec 32 := 2#32
  let v462 : BitVec 32 := Scalar.addi v461 c2_i32_266
  let c256_i32_267 : BitVec 32 := 256#32
  let v463 : BitVec 32 := Scalar.muli v462 c256_i32_267
  v463
def k0_mult8 (k0_t1 : Fin k0_t1_loop.trips) : BitVec 32 :=
  let c0_i32_15 : BitVec 32 := 0#32
  let c1_i32 : BitVec 32 := 1#32
  let arg10 : BitVec 32 := Scf.iv c0_i32_15 c1_i32 k0_t1
  let c15_i32_280 : BitVec 32 := 15#32
  let v489 : BitVec 32 := Scalar.muli arg10 c15_i32_280
  let c5_i32 : BitVec 32 := 5#32
  let v490 : BitVec 32 := Scalar.addi v489 c5_i32
  let c2_i32_281 : BitVec 32 := 2#32
  let v491 : BitVec 32 := Scalar.addi v490 c2_i32_281
  let c256_i32_282 : BitVec 32 := 256#32
  let v492 : BitVec 32 := Scalar.muli v491 c256_i32_282
  v492
def k0_mult9 (k0_t1 : Fin k0_t1_loop.trips) : BitVec 32 :=
  let c0_i32_15 : BitVec 32 := 0#32
  let c1_i32 : BitVec 32 := 1#32
  let arg10 : BitVec 32 := Scf.iv c0_i32_15 c1_i32 k0_t1
  let c15_i32_295 : BitVec 32 := 15#32
  let v518 : BitVec 32 := Scalar.muli arg10 c15_i32_295
  let c6_i32 : BitVec 32 := 6#32
  let v519 : BitVec 32 := Scalar.addi v518 c6_i32
  let c2_i32_296 : BitVec 32 := 2#32
  let v520 : BitVec 32 := Scalar.addi v519 c2_i32_296
  let c256_i32_297 : BitVec 32 := 256#32
  let v521 : BitVec 32 := Scalar.muli v520 c256_i32_297
  v521
def k0_mult10 (k0_t1 : Fin k0_t1_loop.trips) : BitVec 32 :=
  let c0_i32_15 : BitVec 32 := 0#32
  let c1_i32 : BitVec 32 := 1#32
  let arg10 : BitVec 32 := Scf.iv c0_i32_15 c1_i32 k0_t1
  let c15_i32_310 : BitVec 32 := 15#32
  let v547 : BitVec 32 := Scalar.muli arg10 c15_i32_310
  let c7_i32 : BitVec 32 := 7#32
  let v548 : BitVec 32 := Scalar.addi v547 c7_i32
  let c2_i32_311 : BitVec 32 := 2#32
  let v549 : BitVec 32 := Scalar.addi v548 c2_i32_311
  let c256_i32_312 : BitVec 32 := 256#32
  let v550 : BitVec 32 := Scalar.muli v549 c256_i32_312
  v550
def k0_mult11 (k0_t1 : Fin k0_t1_loop.trips) : BitVec 32 :=
  let c0_i32_15 : BitVec 32 := 0#32
  let c1_i32 : BitVec 32 := 1#32
  let arg10 : BitVec 32 := Scf.iv c0_i32_15 c1_i32 k0_t1
  let c15_i32_325 : BitVec 32 := 15#32
  let v576 : BitVec 32 := Scalar.muli arg10 c15_i32_325
  let c8_i32 : BitVec 32 := 8#32
  let v577 : BitVec 32 := Scalar.addi v576 c8_i32
  let c2_i32_326 : BitVec 32 := 2#32
  let v578 : BitVec 32 := Scalar.addi v577 c2_i32_326
  let c256_i32_327 : BitVec 32 := 256#32
  let v579 : BitVec 32 := Scalar.muli v578 c256_i32_327
  v579
def k0_mult12 (k0_t1 : Fin k0_t1_loop.trips) : BitVec 32 :=
  let c0_i32_15 : BitVec 32 := 0#32
  let c1_i32 : BitVec 32 := 1#32
  let arg10 : BitVec 32 := Scf.iv c0_i32_15 c1_i32 k0_t1
  let c15_i32_340 : BitVec 32 := 15#32
  let v605 : BitVec 32 := Scalar.muli arg10 c15_i32_340
  let c9_i32 : BitVec 32 := 9#32
  let v606 : BitVec 32 := Scalar.addi v605 c9_i32
  let c2_i32_341 : BitVec 32 := 2#32
  let v607 : BitVec 32 := Scalar.addi v606 c2_i32_341
  let c256_i32_342 : BitVec 32 := 256#32
  let v608 : BitVec 32 := Scalar.muli v607 c256_i32_342
  v608
def k0_mult13 (k0_t1 : Fin k0_t1_loop.trips) : BitVec 32 :=
  let c0_i32_15 : BitVec 32 := 0#32
  let c1_i32 : BitVec 32 := 1#32
  let arg10 : BitVec 32 := Scf.iv c0_i32_15 c1_i32 k0_t1
  let c15_i32_355 : BitVec 32 := 15#32
  let v634 : BitVec 32 := Scalar.muli arg10 c15_i32_355
  let c10_i32 : BitVec 32 := 10#32
  let v635 : BitVec 32 := Scalar.addi v634 c10_i32
  let c2_i32_356 : BitVec 32 := 2#32
  let v636 : BitVec 32 := Scalar.addi v635 c2_i32_356
  let c256_i32_357 : BitVec 32 := 256#32
  let v637 : BitVec 32 := Scalar.muli v636 c256_i32_357
  v637
def k0_mult14 (k0_t1 : Fin k0_t1_loop.trips) : BitVec 32 :=
  let c0_i32_15 : BitVec 32 := 0#32
  let c1_i32 : BitVec 32 := 1#32
  let arg10 : BitVec 32 := Scf.iv c0_i32_15 c1_i32 k0_t1
  let c15_i32_370 : BitVec 32 := 15#32
  let v663 : BitVec 32 := Scalar.muli arg10 c15_i32_370
  let c11_i32 : BitVec 32 := 11#32
  let v664 : BitVec 32 := Scalar.addi v663 c11_i32
  let c2_i32_371 : BitVec 32 := 2#32
  let v665 : BitVec 32 := Scalar.addi v664 c2_i32_371
  let c256_i32_372 : BitVec 32 := 256#32
  let v666 : BitVec 32 := Scalar.muli v665 c256_i32_372
  v666
def k0_mult15 (k0_t1 : Fin k0_t1_loop.trips) : BitVec 32 :=
  let c0_i32_15 : BitVec 32 := 0#32
  let c1_i32 : BitVec 32 := 1#32
  let arg10 : BitVec 32 := Scf.iv c0_i32_15 c1_i32 k0_t1
  let c15_i32_385 : BitVec 32 := 15#32
  let v692 : BitVec 32 := Scalar.muli arg10 c15_i32_385
  let c12_i32 : BitVec 32 := 12#32
  let v693 : BitVec 32 := Scalar.addi v692 c12_i32
  let c2_i32_386 : BitVec 32 := 2#32
  let v694 : BitVec 32 := Scalar.addi v693 c2_i32_386
  let c256_i32_387 : BitVec 32 := 256#32
  let v695 : BitVec 32 := Scalar.muli v694 c256_i32_387
  v695
def k0_mult16 (k0_t1 : Fin k0_t1_loop.trips) : BitVec 32 :=
  let c0_i32_15 : BitVec 32 := 0#32
  let c1_i32 : BitVec 32 := 1#32
  let arg10 : BitVec 32 := Scf.iv c0_i32_15 c1_i32 k0_t1
  let c15_i32_400 : BitVec 32 := 15#32
  let v721 : BitVec 32 := Scalar.muli arg10 c15_i32_400
  let c13_i32 : BitVec 32 := 13#32
  let v722 : BitVec 32 := Scalar.addi v721 c13_i32
  let c2_i32_401 : BitVec 32 := 2#32
  let v723 : BitVec 32 := Scalar.addi v722 c2_i32_401
  let c256_i32_402 : BitVec 32 := 256#32
  let v724 : BitVec 32 := Scalar.muli v723 c256_i32_402
  v724
def k0_mult17 (k0_t1 : Fin k0_t1_loop.trips) : BitVec 32 :=
  let c0_i32_15 : BitVec 32 := 0#32
  let c1_i32 : BitVec 32 := 1#32
  let arg10 : BitVec 32 := Scf.iv c0_i32_15 c1_i32 k0_t1
  let c15_i32_415 : BitVec 32 := 15#32
  let v750 : BitVec 32 := Scalar.muli arg10 c15_i32_415
  let c14_i32 : BitVec 32 := 14#32
  let v751 : BitVec 32 := Scalar.addi v750 c14_i32
  let c2_i32_416 : BitVec 32 := 2#32
  let v752 : BitVec 32 := Scalar.addi v751 c2_i32_416
  let c256_i32_417 : BitVec 32 := 256#32
  let v753 : BitVec 32 := Scalar.muli v752 c256_i32_417
  v753
def k0_mult18 : BitVec 32 :=
  let c8192_i32 : BitVec 32 := 8192#32
  c8192_i32
def k0_mult19 : BitVec 32 :=
  let c0_i32_48 : BitVec 32 := 0#32
  c0_i32_48
def k0_mult20 : BitVec 32 :=
  let c256_i32_55 : BitVec 32 := 256#32
  c256_i32_55
@[reducible] def k0_t2_loop : Scf.Loop 32 :=
  let c0_i32_62 : BitVec 32 := 0#32
  let c2_i32_63 : BitVec 32 := 2#32
  let v110 : BitVec 32 := Scalar.addi c0_i32_62 c2_i32_63
  let c1_i32_64 : BitVec 32 := 1#32
  ⟨c0_i32_62, v110, c1_i32_64⟩
def k0_mult21 (k0_t2 : Fin k0_t2_loop.trips) : BitVec 32 :=
  let c0_i32_62 : BitVec 32 := 0#32
  let c1_i32_64 : BitVec 32 := 1#32
  let arg10 : BitVec 32 := Scf.iv c0_i32_62 c1_i32_64 k0_t2
  let c15_i32 : BitVec 32 := 15#32
  let v344 : BitVec 32 := Scalar.muli arg10 c15_i32
  let c0_i32_203 : BitVec 32 := 0#32
  let v345 : BitVec 32 := Scalar.addi v344 c0_i32_203
  let c2_i32_204 : BitVec 32 := 2#32
  let v346 : BitVec 32 := Scalar.addi v345 c2_i32_204
  let c256_i32_205 : BitVec 32 := 256#32
  let v347 : BitVec 32 := Scalar.muli v346 c256_i32_205
  v347
def k0_off3 (k0_t2 : Fin k0_t2_loop.trips) (c0_i32_203 : BitVec 32) : Fin 3 → Nat :=
  let c0_206 : Index := 0#32
  let c0_i32_62 : BitVec 32 := 0#32
  let c1_i32_64 : BitVec 32 := 1#32
  let arg10 : BitVec 32 := Scf.iv c0_i32_62 c1_i32_64 k0_t2
  let c15_i32 : BitVec 32 := 15#32
  let v344 : BitVec 32 := Scalar.muli arg10 c15_i32
  let v345 : BitVec 32 := Scalar.addi v344 c0_i32_203
  let c2_i32_204 : BitVec 32 := 2#32
  let v346 : BitVec 32 := Scalar.addi v345 c2_i32_204
  let c256_i32_205 : BitVec 32 := 256#32
  let v347 : BitVec 32 := Scalar.muli v346 c256_i32_205
  let v348 : BitVec 32 := v347
  let v349 : Index := Scalar.indexCast v348
  let c0_207 : Index := 0#32
  ![0, v349.toNat, 0]
def k0_off4 (k0_t2 : Fin k0_t2_loop.trips) (c0_i32_203 : BitVec 32) : Fin 4 → Nat :=
  let c0_212 : Index := 0#32
  let c0_i32_62 : BitVec 32 := 0#32
  let c1_i32_64 : BitVec 32 := 1#32
  let arg10 : BitVec 32 := Scf.iv c0_i32_62 c1_i32_64 k0_t2
  let c15_i32 : BitVec 32 := 15#32
  let v344 : BitVec 32 := Scalar.muli arg10 c15_i32
  let v345 : BitVec 32 := Scalar.addi v344 c0_i32_203
  let v358 : Index := Scalar.indexCast v345
  let c0_213 : Index := 0#32
  let c0_214 : Index := 0#32
  ![0, v358.toNat, 0, 0]
def k0_mult22 (k0_t2 : Fin k0_t2_loop.trips) : BitVec 32 :=
  let c0_i32_62 : BitVec 32 := 0#32
  let c1_i32_64 : BitVec 32 := 1#32
  let arg10 : BitVec 32 := Scf.iv c0_i32_62 c1_i32_64 k0_t2
  let c15_i32_218 : BitVec 32 := 15#32
  let v373 : BitVec 32 := Scalar.muli arg10 c15_i32_218
  let c1_i32_219 : BitVec 32 := 1#32
  let v374 : BitVec 32 := Scalar.addi v373 c1_i32_219
  let c2_i32_220 : BitVec 32 := 2#32
  let v375 : BitVec 32 := Scalar.addi v374 c2_i32_220
  let c256_i32_221 : BitVec 32 := 256#32
  let v376 : BitVec 32 := Scalar.muli v375 c256_i32_221
  v376
def k0_mult23 (k0_t2 : Fin k0_t2_loop.trips) : BitVec 32 :=
  let c0_i32_62 : BitVec 32 := 0#32
  let c1_i32_64 : BitVec 32 := 1#32
  let arg10 : BitVec 32 := Scf.iv c0_i32_62 c1_i32_64 k0_t2
  let c15_i32_234 : BitVec 32 := 15#32
  let v402 : BitVec 32 := Scalar.muli arg10 c15_i32_234
  let c2_i32_235 : BitVec 32 := 2#32
  let v403 : BitVec 32 := Scalar.addi v402 c2_i32_235
  let c2_i32_236 : BitVec 32 := 2#32
  let v404 : BitVec 32 := Scalar.addi v403 c2_i32_236
  let c256_i32_237 : BitVec 32 := 256#32
  let v405 : BitVec 32 := Scalar.muli v404 c256_i32_237
  v405
def k0_mult24 (k0_t2 : Fin k0_t2_loop.trips) : BitVec 32 :=
  let c0_i32_62 : BitVec 32 := 0#32
  let c1_i32_64 : BitVec 32 := 1#32
  let arg10 : BitVec 32 := Scf.iv c0_i32_62 c1_i32_64 k0_t2
  let c15_i32_250 : BitVec 32 := 15#32
  let v431 : BitVec 32 := Scalar.muli arg10 c15_i32_250
  let c3_i32 : BitVec 32 := 3#32
  let v432 : BitVec 32 := Scalar.addi v431 c3_i32
  let c2_i32_251 : BitVec 32 := 2#32
  let v433 : BitVec 32 := Scalar.addi v432 c2_i32_251
  let c256_i32_252 : BitVec 32 := 256#32
  let v434 : BitVec 32 := Scalar.muli v433 c256_i32_252
  v434
def k0_mult25 (k0_t2 : Fin k0_t2_loop.trips) : BitVec 32 :=
  let c0_i32_62 : BitVec 32 := 0#32
  let c1_i32_64 : BitVec 32 := 1#32
  let arg10 : BitVec 32 := Scf.iv c0_i32_62 c1_i32_64 k0_t2
  let c15_i32_265 : BitVec 32 := 15#32
  let v460 : BitVec 32 := Scalar.muli arg10 c15_i32_265
  let c4_i32 : BitVec 32 := 4#32
  let v461 : BitVec 32 := Scalar.addi v460 c4_i32
  let c2_i32_266 : BitVec 32 := 2#32
  let v462 : BitVec 32 := Scalar.addi v461 c2_i32_266
  let c256_i32_267 : BitVec 32 := 256#32
  let v463 : BitVec 32 := Scalar.muli v462 c256_i32_267
  v463
def k0_mult26 (k0_t2 : Fin k0_t2_loop.trips) : BitVec 32 :=
  let c0_i32_62 : BitVec 32 := 0#32
  let c1_i32_64 : BitVec 32 := 1#32
  let arg10 : BitVec 32 := Scf.iv c0_i32_62 c1_i32_64 k0_t2
  let c15_i32_280 : BitVec 32 := 15#32
  let v489 : BitVec 32 := Scalar.muli arg10 c15_i32_280
  let c5_i32 : BitVec 32 := 5#32
  let v490 : BitVec 32 := Scalar.addi v489 c5_i32
  let c2_i32_281 : BitVec 32 := 2#32
  let v491 : BitVec 32 := Scalar.addi v490 c2_i32_281
  let c256_i32_282 : BitVec 32 := 256#32
  let v492 : BitVec 32 := Scalar.muli v491 c256_i32_282
  v492
def k0_mult27 (k0_t2 : Fin k0_t2_loop.trips) : BitVec 32 :=
  let c0_i32_62 : BitVec 32 := 0#32
  let c1_i32_64 : BitVec 32 := 1#32
  let arg10 : BitVec 32 := Scf.iv c0_i32_62 c1_i32_64 k0_t2
  let c15_i32_295 : BitVec 32 := 15#32
  let v518 : BitVec 32 := Scalar.muli arg10 c15_i32_295
  let c6_i32 : BitVec 32 := 6#32
  let v519 : BitVec 32 := Scalar.addi v518 c6_i32
  let c2_i32_296 : BitVec 32 := 2#32
  let v520 : BitVec 32 := Scalar.addi v519 c2_i32_296
  let c256_i32_297 : BitVec 32 := 256#32
  let v521 : BitVec 32 := Scalar.muli v520 c256_i32_297
  v521
def k0_mult28 (k0_t2 : Fin k0_t2_loop.trips) : BitVec 32 :=
  let c0_i32_62 : BitVec 32 := 0#32
  let c1_i32_64 : BitVec 32 := 1#32
  let arg10 : BitVec 32 := Scf.iv c0_i32_62 c1_i32_64 k0_t2
  let c15_i32_310 : BitVec 32 := 15#32
  let v547 : BitVec 32 := Scalar.muli arg10 c15_i32_310
  let c7_i32 : BitVec 32 := 7#32
  let v548 : BitVec 32 := Scalar.addi v547 c7_i32
  let c2_i32_311 : BitVec 32 := 2#32
  let v549 : BitVec 32 := Scalar.addi v548 c2_i32_311
  let c256_i32_312 : BitVec 32 := 256#32
  let v550 : BitVec 32 := Scalar.muli v549 c256_i32_312
  v550
def k0_mult29 (k0_t2 : Fin k0_t2_loop.trips) : BitVec 32 :=
  let c0_i32_62 : BitVec 32 := 0#32
  let c1_i32_64 : BitVec 32 := 1#32
  let arg10 : BitVec 32 := Scf.iv c0_i32_62 c1_i32_64 k0_t2
  let c15_i32_325 : BitVec 32 := 15#32
  let v576 : BitVec 32 := Scalar.muli arg10 c15_i32_325
  let c8_i32 : BitVec 32 := 8#32
  let v577 : BitVec 32 := Scalar.addi v576 c8_i32
  let c2_i32_326 : BitVec 32 := 2#32
  let v578 : BitVec 32 := Scalar.addi v577 c2_i32_326
  let c256_i32_327 : BitVec 32 := 256#32
  let v579 : BitVec 32 := Scalar.muli v578 c256_i32_327
  v579
def k0_mult30 (k0_t2 : Fin k0_t2_loop.trips) : BitVec 32 :=
  let c0_i32_62 : BitVec 32 := 0#32
  let c1_i32_64 : BitVec 32 := 1#32
  let arg10 : BitVec 32 := Scf.iv c0_i32_62 c1_i32_64 k0_t2
  let c15_i32_340 : BitVec 32 := 15#32
  let v605 : BitVec 32 := Scalar.muli arg10 c15_i32_340
  let c9_i32 : BitVec 32 := 9#32
  let v606 : BitVec 32 := Scalar.addi v605 c9_i32
  let c2_i32_341 : BitVec 32 := 2#32
  let v607 : BitVec 32 := Scalar.addi v606 c2_i32_341
  let c256_i32_342 : BitVec 32 := 256#32
  let v608 : BitVec 32 := Scalar.muli v607 c256_i32_342
  v608
def k0_mult31 (k0_t2 : Fin k0_t2_loop.trips) : BitVec 32 :=
  let c0_i32_62 : BitVec 32 := 0#32
  let c1_i32_64 : BitVec 32 := 1#32
  let arg10 : BitVec 32 := Scf.iv c0_i32_62 c1_i32_64 k0_t2
  let c15_i32_355 : BitVec 32 := 15#32
  let v634 : BitVec 32 := Scalar.muli arg10 c15_i32_355
  let c10_i32 : BitVec 32 := 10#32
  let v635 : BitVec 32 := Scalar.addi v634 c10_i32
  let c2_i32_356 : BitVec 32 := 2#32
  let v636 : BitVec 32 := Scalar.addi v635 c2_i32_356
  let c256_i32_357 : BitVec 32 := 256#32
  let v637 : BitVec 32 := Scalar.muli v636 c256_i32_357
  v637
def k0_mult32 (k0_t2 : Fin k0_t2_loop.trips) : BitVec 32 :=
  let c0_i32_62 : BitVec 32 := 0#32
  let c1_i32_64 : BitVec 32 := 1#32
  let arg10 : BitVec 32 := Scf.iv c0_i32_62 c1_i32_64 k0_t2
  let c15_i32_370 : BitVec 32 := 15#32
  let v663 : BitVec 32 := Scalar.muli arg10 c15_i32_370
  let c11_i32 : BitVec 32 := 11#32
  let v664 : BitVec 32 := Scalar.addi v663 c11_i32
  let c2_i32_371 : BitVec 32 := 2#32
  let v665 : BitVec 32 := Scalar.addi v664 c2_i32_371
  let c256_i32_372 : BitVec 32 := 256#32
  let v666 : BitVec 32 := Scalar.muli v665 c256_i32_372
  v666
def k0_mult33 (k0_t2 : Fin k0_t2_loop.trips) : BitVec 32 :=
  let c0_i32_62 : BitVec 32 := 0#32
  let c1_i32_64 : BitVec 32 := 1#32
  let arg10 : BitVec 32 := Scf.iv c0_i32_62 c1_i32_64 k0_t2
  let c15_i32_385 : BitVec 32 := 15#32
  let v692 : BitVec 32 := Scalar.muli arg10 c15_i32_385
  let c12_i32 : BitVec 32 := 12#32
  let v693 : BitVec 32 := Scalar.addi v692 c12_i32
  let c2_i32_386 : BitVec 32 := 2#32
  let v694 : BitVec 32 := Scalar.addi v693 c2_i32_386
  let c256_i32_387 : BitVec 32 := 256#32
  let v695 : BitVec 32 := Scalar.muli v694 c256_i32_387
  v695
def k0_mult34 (k0_t2 : Fin k0_t2_loop.trips) : BitVec 32 :=
  let c0_i32_62 : BitVec 32 := 0#32
  let c1_i32_64 : BitVec 32 := 1#32
  let arg10 : BitVec 32 := Scf.iv c0_i32_62 c1_i32_64 k0_t2
  let c15_i32_400 : BitVec 32 := 15#32
  let v721 : BitVec 32 := Scalar.muli arg10 c15_i32_400
  let c13_i32 : BitVec 32 := 13#32
  let v722 : BitVec 32 := Scalar.addi v721 c13_i32
  let c2_i32_401 : BitVec 32 := 2#32
  let v723 : BitVec 32 := Scalar.addi v722 c2_i32_401
  let c256_i32_402 : BitVec 32 := 256#32
  let v724 : BitVec 32 := Scalar.muli v723 c256_i32_402
  v724
def k0_mult35 (k0_t2 : Fin k0_t2_loop.trips) : BitVec 32 :=
  let c0_i32_62 : BitVec 32 := 0#32
  let c1_i32_64 : BitVec 32 := 1#32
  let arg10 : BitVec 32 := Scf.iv c0_i32_62 c1_i32_64 k0_t2
  let c15_i32_415 : BitVec 32 := 15#32
  let v750 : BitVec 32 := Scalar.muli arg10 c15_i32_415
  let c14_i32 : BitVec 32 := 14#32
  let v751 : BitVec 32 := Scalar.addi v750 c14_i32
  let c2_i32_416 : BitVec 32 := 2#32
  let v752 : BitVec 32 := Scalar.addi v751 c2_i32_416
  let c256_i32_417 : BitVec 32 := 256#32
  let v753 : BitVec 32 := Scalar.muli v752 c256_i32_417
  v753
def k0_mult36 : BitVec 32 :=
  let c8192_i32_66 : BitVec 32 := 8192#32
  c8192_i32_66
def k0_mult37 : BitVec 32 :=
  let c0_i32_101 : BitVec 32 := 0#32
  c0_i32_101
def k0_mult38 : BitVec 32 :=
  let c256_i32_108 : BitVec 32 := 256#32
  c256_i32_108
@[reducible] def k0_t3_loop : Scf.Loop 32 :=
  let c0_i32_115 : BitVec 32 := 0#32
  let c2_i32_116 : BitVec 32 := 2#32
  let v196 : BitVec 32 := Scalar.addi c0_i32_115 c2_i32_116
  let c1_i32_117 : BitVec 32 := 1#32
  ⟨c0_i32_115, v196, c1_i32_117⟩
def k0_mult39 (k0_t3 : Fin k0_t3_loop.trips) : BitVec 32 :=
  let c0_i32_115 : BitVec 32 := 0#32
  let c1_i32_117 : BitVec 32 := 1#32
  let arg10 : BitVec 32 := Scf.iv c0_i32_115 c1_i32_117 k0_t3
  let c15_i32 : BitVec 32 := 15#32
  let v344 : BitVec 32 := Scalar.muli arg10 c15_i32
  let c0_i32_203 : BitVec 32 := 0#32
  let v345 : BitVec 32 := Scalar.addi v344 c0_i32_203
  let c2_i32_204 : BitVec 32 := 2#32
  let v346 : BitVec 32 := Scalar.addi v345 c2_i32_204
  let c256_i32_205 : BitVec 32 := 256#32
  let v347 : BitVec 32 := Scalar.muli v346 c256_i32_205
  v347
def k0_off5 (k0_t3 : Fin k0_t3_loop.trips) (c0_i32_203 : BitVec 32) : Fin 3 → Nat :=
  let c0_206 : Index := 0#32
  let c0_i32_115 : BitVec 32 := 0#32
  let c1_i32_117 : BitVec 32 := 1#32
  let arg10 : BitVec 32 := Scf.iv c0_i32_115 c1_i32_117 k0_t3
  let c15_i32 : BitVec 32 := 15#32
  let v344 : BitVec 32 := Scalar.muli arg10 c15_i32
  let v345 : BitVec 32 := Scalar.addi v344 c0_i32_203
  let c2_i32_204 : BitVec 32 := 2#32
  let v346 : BitVec 32 := Scalar.addi v345 c2_i32_204
  let c256_i32_205 : BitVec 32 := 256#32
  let v347 : BitVec 32 := Scalar.muli v346 c256_i32_205
  let v348 : BitVec 32 := v347
  let v349 : Index := Scalar.indexCast v348
  let c0_207 : Index := 0#32
  ![0, v349.toNat, 0]
def k0_off6 (k0_t3 : Fin k0_t3_loop.trips) (c0_i32_203 : BitVec 32) : Fin 4 → Nat :=
  let c0_212 : Index := 0#32
  let c0_i32_115 : BitVec 32 := 0#32
  let c1_i32_117 : BitVec 32 := 1#32
  let arg10 : BitVec 32 := Scf.iv c0_i32_115 c1_i32_117 k0_t3
  let c15_i32 : BitVec 32 := 15#32
  let v344 : BitVec 32 := Scalar.muli arg10 c15_i32
  let v345 : BitVec 32 := Scalar.addi v344 c0_i32_203
  let v358 : Index := Scalar.indexCast v345
  let c0_213 : Index := 0#32
  let c0_214 : Index := 0#32
  ![0, v358.toNat, 0, 0]
def k0_mult40 (k0_t3 : Fin k0_t3_loop.trips) : BitVec 32 :=
  let c0_i32_115 : BitVec 32 := 0#32
  let c1_i32_117 : BitVec 32 := 1#32
  let arg10 : BitVec 32 := Scf.iv c0_i32_115 c1_i32_117 k0_t3
  let c15_i32_218 : BitVec 32 := 15#32
  let v373 : BitVec 32 := Scalar.muli arg10 c15_i32_218
  let c1_i32_219 : BitVec 32 := 1#32
  let v374 : BitVec 32 := Scalar.addi v373 c1_i32_219
  let c2_i32_220 : BitVec 32 := 2#32
  let v375 : BitVec 32 := Scalar.addi v374 c2_i32_220
  let c256_i32_221 : BitVec 32 := 256#32
  let v376 : BitVec 32 := Scalar.muli v375 c256_i32_221
  v376
def k0_mult41 (k0_t3 : Fin k0_t3_loop.trips) : BitVec 32 :=
  let c0_i32_115 : BitVec 32 := 0#32
  let c1_i32_117 : BitVec 32 := 1#32
  let arg10 : BitVec 32 := Scf.iv c0_i32_115 c1_i32_117 k0_t3
  let c15_i32_234 : BitVec 32 := 15#32
  let v402 : BitVec 32 := Scalar.muli arg10 c15_i32_234
  let c2_i32_235 : BitVec 32 := 2#32
  let v403 : BitVec 32 := Scalar.addi v402 c2_i32_235
  let c2_i32_236 : BitVec 32 := 2#32
  let v404 : BitVec 32 := Scalar.addi v403 c2_i32_236
  let c256_i32_237 : BitVec 32 := 256#32
  let v405 : BitVec 32 := Scalar.muli v404 c256_i32_237
  v405
def k0_mult42 (k0_t3 : Fin k0_t3_loop.trips) : BitVec 32 :=
  let c0_i32_115 : BitVec 32 := 0#32
  let c1_i32_117 : BitVec 32 := 1#32
  let arg10 : BitVec 32 := Scf.iv c0_i32_115 c1_i32_117 k0_t3
  let c15_i32_250 : BitVec 32 := 15#32
  let v431 : BitVec 32 := Scalar.muli arg10 c15_i32_250
  let c3_i32 : BitVec 32 := 3#32
  let v432 : BitVec 32 := Scalar.addi v431 c3_i32
  let c2_i32_251 : BitVec 32 := 2#32
  let v433 : BitVec 32 := Scalar.addi v432 c2_i32_251
  let c256_i32_252 : BitVec 32 := 256#32
  let v434 : BitVec 32 := Scalar.muli v433 c256_i32_252
  v434
def k0_mult43 (k0_t3 : Fin k0_t3_loop.trips) : BitVec 32 :=
  let c0_i32_115 : BitVec 32 := 0#32
  let c1_i32_117 : BitVec 32 := 1#32
  let arg10 : BitVec 32 := Scf.iv c0_i32_115 c1_i32_117 k0_t3
  let c15_i32_265 : BitVec 32 := 15#32
  let v460 : BitVec 32 := Scalar.muli arg10 c15_i32_265
  let c4_i32 : BitVec 32 := 4#32
  let v461 : BitVec 32 := Scalar.addi v460 c4_i32
  let c2_i32_266 : BitVec 32 := 2#32
  let v462 : BitVec 32 := Scalar.addi v461 c2_i32_266
  let c256_i32_267 : BitVec 32 := 256#32
  let v463 : BitVec 32 := Scalar.muli v462 c256_i32_267
  v463
def k0_mult44 (k0_t3 : Fin k0_t3_loop.trips) : BitVec 32 :=
  let c0_i32_115 : BitVec 32 := 0#32
  let c1_i32_117 : BitVec 32 := 1#32
  let arg10 : BitVec 32 := Scf.iv c0_i32_115 c1_i32_117 k0_t3
  let c15_i32_280 : BitVec 32 := 15#32
  let v489 : BitVec 32 := Scalar.muli arg10 c15_i32_280
  let c5_i32 : BitVec 32 := 5#32
  let v490 : BitVec 32 := Scalar.addi v489 c5_i32
  let c2_i32_281 : BitVec 32 := 2#32
  let v491 : BitVec 32 := Scalar.addi v490 c2_i32_281
  let c256_i32_282 : BitVec 32 := 256#32
  let v492 : BitVec 32 := Scalar.muli v491 c256_i32_282
  v492
def k0_mult45 (k0_t3 : Fin k0_t3_loop.trips) : BitVec 32 :=
  let c0_i32_115 : BitVec 32 := 0#32
  let c1_i32_117 : BitVec 32 := 1#32
  let arg10 : BitVec 32 := Scf.iv c0_i32_115 c1_i32_117 k0_t3
  let c15_i32_295 : BitVec 32 := 15#32
  let v518 : BitVec 32 := Scalar.muli arg10 c15_i32_295
  let c6_i32 : BitVec 32 := 6#32
  let v519 : BitVec 32 := Scalar.addi v518 c6_i32
  let c2_i32_296 : BitVec 32 := 2#32
  let v520 : BitVec 32 := Scalar.addi v519 c2_i32_296
  let c256_i32_297 : BitVec 32 := 256#32
  let v521 : BitVec 32 := Scalar.muli v520 c256_i32_297
  v521
def k0_mult46 (k0_t3 : Fin k0_t3_loop.trips) : BitVec 32 :=
  let c0_i32_115 : BitVec 32 := 0#32
  let c1_i32_117 : BitVec 32 := 1#32
  let arg10 : BitVec 32 := Scf.iv c0_i32_115 c1_i32_117 k0_t3
  let c15_i32_310 : BitVec 32 := 15#32
  let v547 : BitVec 32 := Scalar.muli arg10 c15_i32_310
  let c7_i32 : BitVec 32 := 7#32
  let v548 : BitVec 32 := Scalar.addi v547 c7_i32
  let c2_i32_311 : BitVec 32 := 2#32
  let v549 : BitVec 32 := Scalar.addi v548 c2_i32_311
  let c256_i32_312 : BitVec 32 := 256#32
  let v550 : BitVec 32 := Scalar.muli v549 c256_i32_312
  v550
def k0_mult47 (k0_t3 : Fin k0_t3_loop.trips) : BitVec 32 :=
  let c0_i32_115 : BitVec 32 := 0#32
  let c1_i32_117 : BitVec 32 := 1#32
  let arg10 : BitVec 32 := Scf.iv c0_i32_115 c1_i32_117 k0_t3
  let c15_i32_325 : BitVec 32 := 15#32
  let v576 : BitVec 32 := Scalar.muli arg10 c15_i32_325
  let c8_i32 : BitVec 32 := 8#32
  let v577 : BitVec 32 := Scalar.addi v576 c8_i32
  let c2_i32_326 : BitVec 32 := 2#32
  let v578 : BitVec 32 := Scalar.addi v577 c2_i32_326
  let c256_i32_327 : BitVec 32 := 256#32
  let v579 : BitVec 32 := Scalar.muli v578 c256_i32_327
  v579
def k0_mult48 (k0_t3 : Fin k0_t3_loop.trips) : BitVec 32 :=
  let c0_i32_115 : BitVec 32 := 0#32
  let c1_i32_117 : BitVec 32 := 1#32
  let arg10 : BitVec 32 := Scf.iv c0_i32_115 c1_i32_117 k0_t3
  let c15_i32_340 : BitVec 32 := 15#32
  let v605 : BitVec 32 := Scalar.muli arg10 c15_i32_340
  let c9_i32 : BitVec 32 := 9#32
  let v606 : BitVec 32 := Scalar.addi v605 c9_i32
  let c2_i32_341 : BitVec 32 := 2#32
  let v607 : BitVec 32 := Scalar.addi v606 c2_i32_341
  let c256_i32_342 : BitVec 32 := 256#32
  let v608 : BitVec 32 := Scalar.muli v607 c256_i32_342
  v608
def k0_mult49 (k0_t3 : Fin k0_t3_loop.trips) : BitVec 32 :=
  let c0_i32_115 : BitVec 32 := 0#32
  let c1_i32_117 : BitVec 32 := 1#32
  let arg10 : BitVec 32 := Scf.iv c0_i32_115 c1_i32_117 k0_t3
  let c15_i32_355 : BitVec 32 := 15#32
  let v634 : BitVec 32 := Scalar.muli arg10 c15_i32_355
  let c10_i32 : BitVec 32 := 10#32
  let v635 : BitVec 32 := Scalar.addi v634 c10_i32
  let c2_i32_356 : BitVec 32 := 2#32
  let v636 : BitVec 32 := Scalar.addi v635 c2_i32_356
  let c256_i32_357 : BitVec 32 := 256#32
  let v637 : BitVec 32 := Scalar.muli v636 c256_i32_357
  v637
def k0_mult50 (k0_t3 : Fin k0_t3_loop.trips) : BitVec 32 :=
  let c0_i32_115 : BitVec 32 := 0#32
  let c1_i32_117 : BitVec 32 := 1#32
  let arg10 : BitVec 32 := Scf.iv c0_i32_115 c1_i32_117 k0_t3
  let c15_i32_370 : BitVec 32 := 15#32
  let v663 : BitVec 32 := Scalar.muli arg10 c15_i32_370
  let c11_i32 : BitVec 32 := 11#32
  let v664 : BitVec 32 := Scalar.addi v663 c11_i32
  let c2_i32_371 : BitVec 32 := 2#32
  let v665 : BitVec 32 := Scalar.addi v664 c2_i32_371
  let c256_i32_372 : BitVec 32 := 256#32
  let v666 : BitVec 32 := Scalar.muli v665 c256_i32_372
  v666
def k0_mult51 (k0_t3 : Fin k0_t3_loop.trips) : BitVec 32 :=
  let c0_i32_115 : BitVec 32 := 0#32
  let c1_i32_117 : BitVec 32 := 1#32
  let arg10 : BitVec 32 := Scf.iv c0_i32_115 c1_i32_117 k0_t3
  let c15_i32_385 : BitVec 32 := 15#32
  let v692 : BitVec 32 := Scalar.muli arg10 c15_i32_385
  let c12_i32 : BitVec 32 := 12#32
  let v693 : BitVec 32 := Scalar.addi v692 c12_i32
  let c2_i32_386 : BitVec 32 := 2#32
  let v694 : BitVec 32 := Scalar.addi v693 c2_i32_386
  let c256_i32_387 : BitVec 32 := 256#32
  let v695 : BitVec 32 := Scalar.muli v694 c256_i32_387
  v695
def k0_mult52 (k0_t3 : Fin k0_t3_loop.trips) : BitVec 32 :=
  let c0_i32_115 : BitVec 32 := 0#32
  let c1_i32_117 : BitVec 32 := 1#32
  let arg10 : BitVec 32 := Scf.iv c0_i32_115 c1_i32_117 k0_t3
  let c15_i32_400 : BitVec 32 := 15#32
  let v721 : BitVec 32 := Scalar.muli arg10 c15_i32_400
  let c13_i32 : BitVec 32 := 13#32
  let v722 : BitVec 32 := Scalar.addi v721 c13_i32
  let c2_i32_401 : BitVec 32 := 2#32
  let v723 : BitVec 32 := Scalar.addi v722 c2_i32_401
  let c256_i32_402 : BitVec 32 := 256#32
  let v724 : BitVec 32 := Scalar.muli v723 c256_i32_402
  v724
def k0_mult53 (k0_t3 : Fin k0_t3_loop.trips) : BitVec 32 :=
  let c0_i32_115 : BitVec 32 := 0#32
  let c1_i32_117 : BitVec 32 := 1#32
  let arg10 : BitVec 32 := Scf.iv c0_i32_115 c1_i32_117 k0_t3
  let c15_i32_415 : BitVec 32 := 15#32
  let v750 : BitVec 32 := Scalar.muli arg10 c15_i32_415
  let c14_i32 : BitVec 32 := 14#32
  let v751 : BitVec 32 := Scalar.addi v750 c14_i32
  let c2_i32_416 : BitVec 32 := 2#32
  let v752 : BitVec 32 := Scalar.addi v751 c2_i32_416
  let c256_i32_417 : BitVec 32 := 256#32
  let v753 : BitVec 32 := Scalar.muli v752 c256_i32_417
  v753
def k0_mult54 : BitVec 32 :=
  let c8192_i32_119 : BitVec 32 := 8192#32
  c8192_i32_119
def k0_mult55 : BitVec 32 :=
  let c0_i32_154 : BitVec 32 := 0#32
  c0_i32_154
def k0_mult56 : BitVec 32 :=
  let c256_i32_161 : BitVec 32 := 256#32
  c256_i32_161
@[reducible] def k0_t4_loop : Scf.Loop 32 :=
  let c0_i32_168 : BitVec 32 := 0#32
  let c2_i32_169 : BitVec 32 := 2#32
  let v282 : BitVec 32 := Scalar.addi c0_i32_168 c2_i32_169
  let c1_i32_170 : BitVec 32 := 1#32
  ⟨c0_i32_168, v282, c1_i32_170⟩
def k0_mult57 (k0_t4 : Fin k0_t4_loop.trips) : BitVec 32 :=
  let c0_i32_168 : BitVec 32 := 0#32
  let c1_i32_170 : BitVec 32 := 1#32
  let arg10 : BitVec 32 := Scf.iv c0_i32_168 c1_i32_170 k0_t4
  let c15_i32 : BitVec 32 := 15#32
  let v344 : BitVec 32 := Scalar.muli arg10 c15_i32
  let c0_i32_203 : BitVec 32 := 0#32
  let v345 : BitVec 32 := Scalar.addi v344 c0_i32_203
  let c2_i32_204 : BitVec 32 := 2#32
  let v346 : BitVec 32 := Scalar.addi v345 c2_i32_204
  let c256_i32_205 : BitVec 32 := 256#32
  let v347 : BitVec 32 := Scalar.muli v346 c256_i32_205
  v347
def k0_off7 (k0_t4 : Fin k0_t4_loop.trips) (c0_i32_203 : BitVec 32) : Fin 3 → Nat :=
  let c0_206 : Index := 0#32
  let c0_i32_168 : BitVec 32 := 0#32
  let c1_i32_170 : BitVec 32 := 1#32
  let arg10 : BitVec 32 := Scf.iv c0_i32_168 c1_i32_170 k0_t4
  let c15_i32 : BitVec 32 := 15#32
  let v344 : BitVec 32 := Scalar.muli arg10 c15_i32
  let v345 : BitVec 32 := Scalar.addi v344 c0_i32_203
  let c2_i32_204 : BitVec 32 := 2#32
  let v346 : BitVec 32 := Scalar.addi v345 c2_i32_204
  let c256_i32_205 : BitVec 32 := 256#32
  let v347 : BitVec 32 := Scalar.muli v346 c256_i32_205
  let v348 : BitVec 32 := v347
  let v349 : Index := Scalar.indexCast v348
  let c0_207 : Index := 0#32
  ![0, v349.toNat, 0]
def k0_off8 (k0_t4 : Fin k0_t4_loop.trips) (c0_i32_203 : BitVec 32) : Fin 4 → Nat :=
  let c0_212 : Index := 0#32
  let c0_i32_168 : BitVec 32 := 0#32
  let c1_i32_170 : BitVec 32 := 1#32
  let arg10 : BitVec 32 := Scf.iv c0_i32_168 c1_i32_170 k0_t4
  let c15_i32 : BitVec 32 := 15#32
  let v344 : BitVec 32 := Scalar.muli arg10 c15_i32
  let v345 : BitVec 32 := Scalar.addi v344 c0_i32_203
  let v358 : Index := Scalar.indexCast v345
  let c0_213 : Index := 0#32
  let c0_214 : Index := 0#32
  ![0, v358.toNat, 0, 0]
def k0_mult58 (k0_t4 : Fin k0_t4_loop.trips) : BitVec 32 :=
  let c0_i32_168 : BitVec 32 := 0#32
  let c1_i32_170 : BitVec 32 := 1#32
  let arg10 : BitVec 32 := Scf.iv c0_i32_168 c1_i32_170 k0_t4
  let c15_i32_218 : BitVec 32 := 15#32
  let v373 : BitVec 32 := Scalar.muli arg10 c15_i32_218
  let c1_i32_219 : BitVec 32 := 1#32
  let v374 : BitVec 32 := Scalar.addi v373 c1_i32_219
  let c2_i32_220 : BitVec 32 := 2#32
  let v375 : BitVec 32 := Scalar.addi v374 c2_i32_220
  let c256_i32_221 : BitVec 32 := 256#32
  let v376 : BitVec 32 := Scalar.muli v375 c256_i32_221
  v376
def k0_mult59 (k0_t4 : Fin k0_t4_loop.trips) : BitVec 32 :=
  let c0_i32_168 : BitVec 32 := 0#32
  let c1_i32_170 : BitVec 32 := 1#32
  let arg10 : BitVec 32 := Scf.iv c0_i32_168 c1_i32_170 k0_t4
  let c15_i32_234 : BitVec 32 := 15#32
  let v402 : BitVec 32 := Scalar.muli arg10 c15_i32_234
  let c2_i32_235 : BitVec 32 := 2#32
  let v403 : BitVec 32 := Scalar.addi v402 c2_i32_235
  let c2_i32_236 : BitVec 32 := 2#32
  let v404 : BitVec 32 := Scalar.addi v403 c2_i32_236
  let c256_i32_237 : BitVec 32 := 256#32
  let v405 : BitVec 32 := Scalar.muli v404 c256_i32_237
  v405
def k0_mult60 (k0_t4 : Fin k0_t4_loop.trips) : BitVec 32 :=
  let c0_i32_168 : BitVec 32 := 0#32
  let c1_i32_170 : BitVec 32 := 1#32
  let arg10 : BitVec 32 := Scf.iv c0_i32_168 c1_i32_170 k0_t4
  let c15_i32_250 : BitVec 32 := 15#32
  let v431 : BitVec 32 := Scalar.muli arg10 c15_i32_250
  let c3_i32 : BitVec 32 := 3#32
  let v432 : BitVec 32 := Scalar.addi v431 c3_i32
  let c2_i32_251 : BitVec 32 := 2#32
  let v433 : BitVec 32 := Scalar.addi v432 c2_i32_251
  let c256_i32_252 : BitVec 32 := 256#32
  let v434 : BitVec 32 := Scalar.muli v433 c256_i32_252
  v434
def k0_mult61 (k0_t4 : Fin k0_t4_loop.trips) : BitVec 32 :=
  let c0_i32_168 : BitVec 32 := 0#32
  let c1_i32_170 : BitVec 32 := 1#32
  let arg10 : BitVec 32 := Scf.iv c0_i32_168 c1_i32_170 k0_t4
  let c15_i32_265 : BitVec 32 := 15#32
  let v460 : BitVec 32 := Scalar.muli arg10 c15_i32_265
  let c4_i32 : BitVec 32 := 4#32
  let v461 : BitVec 32 := Scalar.addi v460 c4_i32
  let c2_i32_266 : BitVec 32 := 2#32
  let v462 : BitVec 32 := Scalar.addi v461 c2_i32_266
  let c256_i32_267 : BitVec 32 := 256#32
  let v463 : BitVec 32 := Scalar.muli v462 c256_i32_267
  v463
def k0_mult62 (k0_t4 : Fin k0_t4_loop.trips) : BitVec 32 :=
  let c0_i32_168 : BitVec 32 := 0#32
  let c1_i32_170 : BitVec 32 := 1#32
  let arg10 : BitVec 32 := Scf.iv c0_i32_168 c1_i32_170 k0_t4
  let c15_i32_280 : BitVec 32 := 15#32
  let v489 : BitVec 32 := Scalar.muli arg10 c15_i32_280
  let c5_i32 : BitVec 32 := 5#32
  let v490 : BitVec 32 := Scalar.addi v489 c5_i32
  let c2_i32_281 : BitVec 32 := 2#32
  let v491 : BitVec 32 := Scalar.addi v490 c2_i32_281
  let c256_i32_282 : BitVec 32 := 256#32
  let v492 : BitVec 32 := Scalar.muli v491 c256_i32_282
  v492
def k0_mult63 (k0_t4 : Fin k0_t4_loop.trips) : BitVec 32 :=
  let c0_i32_168 : BitVec 32 := 0#32
  let c1_i32_170 : BitVec 32 := 1#32
  let arg10 : BitVec 32 := Scf.iv c0_i32_168 c1_i32_170 k0_t4
  let c15_i32_295 : BitVec 32 := 15#32
  let v518 : BitVec 32 := Scalar.muli arg10 c15_i32_295
  let c6_i32 : BitVec 32 := 6#32
  let v519 : BitVec 32 := Scalar.addi v518 c6_i32
  let c2_i32_296 : BitVec 32 := 2#32
  let v520 : BitVec 32 := Scalar.addi v519 c2_i32_296
  let c256_i32_297 : BitVec 32 := 256#32
  let v521 : BitVec 32 := Scalar.muli v520 c256_i32_297
  v521
def k0_mult64 (k0_t4 : Fin k0_t4_loop.trips) : BitVec 32 :=
  let c0_i32_168 : BitVec 32 := 0#32
  let c1_i32_170 : BitVec 32 := 1#32
  let arg10 : BitVec 32 := Scf.iv c0_i32_168 c1_i32_170 k0_t4
  let c15_i32_310 : BitVec 32 := 15#32
  let v547 : BitVec 32 := Scalar.muli arg10 c15_i32_310
  let c7_i32 : BitVec 32 := 7#32
  let v548 : BitVec 32 := Scalar.addi v547 c7_i32
  let c2_i32_311 : BitVec 32 := 2#32
  let v549 : BitVec 32 := Scalar.addi v548 c2_i32_311
  let c256_i32_312 : BitVec 32 := 256#32
  let v550 : BitVec 32 := Scalar.muli v549 c256_i32_312
  v550
def k0_mult65 (k0_t4 : Fin k0_t4_loop.trips) : BitVec 32 :=
  let c0_i32_168 : BitVec 32 := 0#32
  let c1_i32_170 : BitVec 32 := 1#32
  let arg10 : BitVec 32 := Scf.iv c0_i32_168 c1_i32_170 k0_t4
  let c15_i32_325 : BitVec 32 := 15#32
  let v576 : BitVec 32 := Scalar.muli arg10 c15_i32_325
  let c8_i32 : BitVec 32 := 8#32
  let v577 : BitVec 32 := Scalar.addi v576 c8_i32
  let c2_i32_326 : BitVec 32 := 2#32
  let v578 : BitVec 32 := Scalar.addi v577 c2_i32_326
  let c256_i32_327 : BitVec 32 := 256#32
  let v579 : BitVec 32 := Scalar.muli v578 c256_i32_327
  v579
def k0_mult66 (k0_t4 : Fin k0_t4_loop.trips) : BitVec 32 :=
  let c0_i32_168 : BitVec 32 := 0#32
  let c1_i32_170 : BitVec 32 := 1#32
  let arg10 : BitVec 32 := Scf.iv c0_i32_168 c1_i32_170 k0_t4
  let c15_i32_340 : BitVec 32 := 15#32
  let v605 : BitVec 32 := Scalar.muli arg10 c15_i32_340
  let c9_i32 : BitVec 32 := 9#32
  let v606 : BitVec 32 := Scalar.addi v605 c9_i32
  let c2_i32_341 : BitVec 32 := 2#32
  let v607 : BitVec 32 := Scalar.addi v606 c2_i32_341
  let c256_i32_342 : BitVec 32 := 256#32
  let v608 : BitVec 32 := Scalar.muli v607 c256_i32_342
  v608
def k0_mult67 (k0_t4 : Fin k0_t4_loop.trips) : BitVec 32 :=
  let c0_i32_168 : BitVec 32 := 0#32
  let c1_i32_170 : BitVec 32 := 1#32
  let arg10 : BitVec 32 := Scf.iv c0_i32_168 c1_i32_170 k0_t4
  let c15_i32_355 : BitVec 32 := 15#32
  let v634 : BitVec 32 := Scalar.muli arg10 c15_i32_355
  let c10_i32 : BitVec 32 := 10#32
  let v635 : BitVec 32 := Scalar.addi v634 c10_i32
  let c2_i32_356 : BitVec 32 := 2#32
  let v636 : BitVec 32 := Scalar.addi v635 c2_i32_356
  let c256_i32_357 : BitVec 32 := 256#32
  let v637 : BitVec 32 := Scalar.muli v636 c256_i32_357
  v637
def k0_mult68 (k0_t4 : Fin k0_t4_loop.trips) : BitVec 32 :=
  let c0_i32_168 : BitVec 32 := 0#32
  let c1_i32_170 : BitVec 32 := 1#32
  let arg10 : BitVec 32 := Scf.iv c0_i32_168 c1_i32_170 k0_t4
  let c15_i32_370 : BitVec 32 := 15#32
  let v663 : BitVec 32 := Scalar.muli arg10 c15_i32_370
  let c11_i32 : BitVec 32 := 11#32
  let v664 : BitVec 32 := Scalar.addi v663 c11_i32
  let c2_i32_371 : BitVec 32 := 2#32
  let v665 : BitVec 32 := Scalar.addi v664 c2_i32_371
  let c256_i32_372 : BitVec 32 := 256#32
  let v666 : BitVec 32 := Scalar.muli v665 c256_i32_372
  v666
def k0_mult69 (k0_t4 : Fin k0_t4_loop.trips) : BitVec 32 :=
  let c0_i32_168 : BitVec 32 := 0#32
  let c1_i32_170 : BitVec 32 := 1#32
  let arg10 : BitVec 32 := Scf.iv c0_i32_168 c1_i32_170 k0_t4
  let c15_i32_385 : BitVec 32 := 15#32
  let v692 : BitVec 32 := Scalar.muli arg10 c15_i32_385
  let c12_i32 : BitVec 32 := 12#32
  let v693 : BitVec 32 := Scalar.addi v692 c12_i32
  let c2_i32_386 : BitVec 32 := 2#32
  let v694 : BitVec 32 := Scalar.addi v693 c2_i32_386
  let c256_i32_387 : BitVec 32 := 256#32
  let v695 : BitVec 32 := Scalar.muli v694 c256_i32_387
  v695
def k0_mult70 (k0_t4 : Fin k0_t4_loop.trips) : BitVec 32 :=
  let c0_i32_168 : BitVec 32 := 0#32
  let c1_i32_170 : BitVec 32 := 1#32
  let arg10 : BitVec 32 := Scf.iv c0_i32_168 c1_i32_170 k0_t4
  let c15_i32_400 : BitVec 32 := 15#32
  let v721 : BitVec 32 := Scalar.muli arg10 c15_i32_400
  let c13_i32 : BitVec 32 := 13#32
  let v722 : BitVec 32 := Scalar.addi v721 c13_i32
  let c2_i32_401 : BitVec 32 := 2#32
  let v723 : BitVec 32 := Scalar.addi v722 c2_i32_401
  let c256_i32_402 : BitVec 32 := 256#32
  let v724 : BitVec 32 := Scalar.muli v723 c256_i32_402
  v724
def k0_mult71 (k0_t4 : Fin k0_t4_loop.trips) : BitVec 32 :=
  let c0_i32_168 : BitVec 32 := 0#32
  let c1_i32_170 : BitVec 32 := 1#32
  let arg10 : BitVec 32 := Scf.iv c0_i32_168 c1_i32_170 k0_t4
  let c15_i32_415 : BitVec 32 := 15#32
  let v750 : BitVec 32 := Scalar.muli arg10 c15_i32_415
  let c14_i32 : BitVec 32 := 14#32
  let v751 : BitVec 32 := Scalar.addi v750 c14_i32
  let c2_i32_416 : BitVec 32 := 2#32
  let v752 : BitVec 32 := Scalar.addi v751 c2_i32_416
  let c256_i32_417 : BitVec 32 := 256#32
  let v753 : BitVec 32 := Scalar.muli v752 c256_i32_417
  v753
def k0_mult72 : BitVec 32 :=
  let c8192_i32_172 : BitVec 32 := 8192#32
  c8192_i32_172
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, arg1.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x33x80x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x64x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S8x8192x8x96 : Shape := ⟨4, ![8, 8192, 8, 96]⟩
abbrev S8x8192x8x64 : Shape := ⟨4, ![8, 8192, 8, 64]⟩
abbrev S8x256x8x96 : Shape := ⟨4, ![8, 256, 8, 96]⟩
abbrev S8x256x8x64 : Shape := ⟨4, ![8, 256, 8, 64]⟩
abbrev S8x8x8192x8192 : Shape := ⟨4, ![8, 8, 8192, 8192]⟩
abbrev S_ : Shape := ⟨0, ![]⟩
abbrev S8x8x8192x256 : Shape := ⟨4, ![8, 8, 8192, 256]⟩
abbrev S8x8x8192x8448 : Shape := ⟨4, ![8, 8, 8192, 8448]⟩
abbrev S8x8x8192 : Shape := ⟨3, ![8, 8, 8192]⟩
abbrev S8x8x8192x1 : Shape := ⟨4, ![8, 8, 8192, 1]⟩
abbrev S8x8x64x8192 : Shape := ⟨4, ![8, 8, 64, 8192]⟩
abbrev S8x8192x512 : Shape := ⟨3, ![8, 8192, 512]⟩
abbrev S8x512x8192 : Shape := ⟨3, ![8, 512, 8192]⟩

abbrev nBuf : Space → Nat
  | .hbm => 41
  | .vmem => 0
  | .smem => 0
  | _ => 0

abbrev bufTy : (tb : Table) → Fin (tcTables nBuf tb) → BufTy
  | .hbm, ⟨0, _⟩ => ⟨S8x8192x8x96, .f32⟩
  | .hbm, ⟨1, _⟩ => ⟨S8x8192x8x96, .f32⟩
  | .hbm, ⟨2, _⟩ => ⟨S8x8192x8x64, .f32⟩
  | .hbm, ⟨3, _⟩ => ⟨S8x256x8x96, .f32⟩
  | .hbm, ⟨4, _⟩ => ⟨S8x256x8x96, .f32⟩
  | .hbm, ⟨5, _⟩ => ⟨S8x256x8x64, .f32⟩
  | .hbm, ⟨6, _⟩ => ⟨S8x8x8192x8192, .f32⟩
  | .hbm, ⟨7, _⟩ => ⟨S_, .f32⟩
  | .hbm, ⟨8, _⟩ => ⟨S_, .f32⟩
  | .hbm, ⟨9, _⟩ => ⟨S8x8x8192x8192, .f32⟩
  | .hbm, ⟨10, _⟩ => ⟨S8x8x8192x8192, .f32⟩
  | .hbm, ⟨11, _⟩ => ⟨S8x8x8192x256, .f32⟩
  | .hbm, ⟨12, _⟩ => ⟨S_, .f32⟩
  | .hbm, ⟨13, _⟩ => ⟨S_, .f32⟩
  | .hbm, ⟨14, _⟩ => ⟨S8x8x8192x256, .f32⟩
  | .hbm, ⟨15, _⟩ => ⟨S8x8x8192x256, .f32⟩
  | .hbm, ⟨16, _⟩ => ⟨S8x8x8192x8448, .f32⟩
  | .hbm, ⟨17, _⟩ => ⟨S_, .f32⟩
  | .hbm, ⟨18, _⟩ => ⟨S8x8x8192, .f32⟩
  | .hbm, ⟨19, _⟩ => ⟨S_, .f32⟩
  | .hbm, ⟨20, _⟩ => ⟨S8x8x8192, .f32⟩
  | .hbm, ⟨21, _⟩ => ⟨S8x8x8192, .f32⟩
  | .hbm, ⟨22, _⟩ => ⟨S8x8x8192x1, .f32⟩
  | .hbm, ⟨23, _⟩ => ⟨S8x8x8192x8448, .f32⟩
  | .hbm, ⟨24, _⟩ => ⟨S8x8x8192x8448, .f32⟩
  | .hbm, ⟨25, _⟩ => ⟨S8x8x8192x8448, .f32⟩
  | .hbm, ⟨26, _⟩ => ⟨S_, .f32⟩
  | .hbm, ⟨27, _⟩ => ⟨S8x8x8192, .f32⟩
  | .hbm, ⟨28, _⟩ => ⟨S8x8x8192x1, .f32⟩
  | .hbm, ⟨29, _⟩ => ⟨S8x8x8192x8448, .f32⟩
  | .hbm, ⟨30, _⟩ => ⟨S8x8x8192x8448, .f32⟩
  | .hbm, ⟨31, _⟩ => ⟨S8x8x8192x8192, .f32⟩
  | .hbm, ⟨32, _⟩ => ⟨S8x8x64x8192, .f32⟩
  | .hbm, ⟨33, _⟩ => ⟨S8x8192x8x64, .f32⟩
  | .hbm, ⟨34, _⟩ => ⟨S8x8x8192x256, .f32⟩
  | .hbm, ⟨35, _⟩ => ⟨S8x8x64x8192, .f32⟩
  | .hbm, ⟨36, _⟩ => ⟨S8x8192x8x64, .f32⟩
  | .hbm, ⟨37, _⟩ => ⟨S8x8192x8x64, .f32⟩
  | .hbm, ⟨38, _⟩ => ⟨S8x8192x512, .f32⟩
  | .hbm, ⟨39, _⟩ => ⟨S8x512x8192, .f32⟩
  | .hbm, ⟨40, _⟩ => ⟨S8x512x8192, .bf16⟩
  | _, _ => ⟨S8x8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel2.lean ====
abbrev S8x8448x1024 : Shape := ⟨3, ![8, 8448, 1024]⟩
abbrev S8x1x6144 : Shape := ⟨3, ![8, 1, 6144]⟩
abbrev S1x1x6144 : Shape := ⟨3, ![1, 1, 6144]⟩
abbrev S8x8192x512 : Shape := ⟨3, ![8, 8192, 512]⟩
abbrev S8x256x512 : Shape := ⟨3, ![8, 256, 512]⟩
abbrev S512 : Shape := ⟨1, ![512]⟩
abbrev S8x8448x512 : Shape := ⟨3, ![8, 8448, 512]⟩
abbrev S8x8448x3x1024 : Shape := ⟨4, ![8, 8448, 3, 1024]⟩
abbrev S3x512x1024 : Shape := ⟨3, ![3, 512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S8x1x1x6144 : Shape := ⟨4, ![8, 1, 1, 6144]⟩
abbrev S8x2x1x6144 : Shape := ⟨4, ![8, 2, 1, 6144]⟩
abbrev S8x512x8448 : Shape := ⟨3, ![8, 512, 8448]⟩
abbrev S8x512x8192 : Shape := ⟨3, ![8, 512, 8192]⟩
abbrev S8x512x256 : Shape := ⟨3, ![8, 512, 256]⟩
abbrev S8x8448x3072 : Shape := ⟨3, ![8, 8448, 3072]⟩
abbrev S1x512 : Shape := ⟨2, ![1, 512]⟩
abbrev S1x1024 : Shape := ⟨2, ![1, 1024]⟩
abbrev S8x8192x1024 : Shape := ⟨3, ![8, 8192, 1024]⟩
abbrev S2x256x1024 : Shape := ⟨3, ![2, 256, 1024]⟩
abbrev S2x1x1x6144 : Shape := ⟨4, ![2, 1, 1, 6144]⟩
abbrev S2x256x512 : Shape := ⟨3, ![2, 256, 512]⟩
abbrev S2x512x256 : Shape := ⟨3, ![2, 512, 256]⟩
abbrev S2x256x3072 : Shape := ⟨3, ![2, 256, 3072]⟩
abbrev S1x256x512 : Shape := ⟨3, ![1, 256, 512]⟩
abbrev S256x512 : Shape := ⟨2, ![256, 512]⟩
abbrev S1x512x256 : Shape := ⟨3, ![1, 512, 256]⟩
abbrev S512x256 : Shape := ⟨2, ![512, 256]⟩
abbrev S1x256x3072 : Shape := ⟨3, ![1, 256, 3072]⟩
abbrev S256x3072 : Shape := ⟨2, ![256, 3072]⟩
abbrev S256x1024 : Shape := ⟨2, ![256, 1024]⟩
abbrev S1x512x1024 : Shape := ⟨3, ![1, 512, 1024]⟩
abbrev S512x1024 : Shape := ⟨2, ![512, 1024]⟩
abbrev S1x256x1024 : Shape := ⟨3, ![1, 256, 1024]⟩
abbrev S1x1x1x6144 : Shape := ⟨4, ![1, 1, 1, 6144]⟩
abbrev S1x6144 : Shape := ⟨2, ![1, 6144]⟩
abbrev S256 : Shape := ⟨1, ![256]⟩
abbrev S256x1 : Shape := ⟨2, ![256, 1]⟩

abbrev nBuf : Space → Nat
  | .hbm => 44
  | .vmem => 32
  | .smem => 0
  | _ => 0

abbrev bufTy : (tb : Table) → Fin (tcTables nBuf tb) → BufTy
  | .hbm, ⟨0, _⟩ => ⟨S8x8448x1024, .f32⟩
  | .hbm, ⟨1, _⟩ => ⟨S8x1x6144, .f32⟩
  | .hbm, ⟨2, _⟩ => ⟨S1x1x6144, .f32⟩
  | .hbm, ⟨3, _⟩ => ⟨S8x8192x512, .f32⟩
  | .hbm, ⟨4, _⟩ => ⟨S8x8192x512, .f32⟩
  | .hbm, ⟨5, _⟩ => ⟨S8x8192x512, .f32⟩
  | .hbm, ⟨6, _⟩ => ⟨S8x256x512, .f32⟩
  | .hbm, ⟨7, _⟩ => ⟨S8x256x512, .f32⟩
  | .hbm, ⟨8, _⟩ => ⟨S8x256x512, .f32⟩
  | .hbm, ⟨9, _⟩ => ⟨S512, .f32⟩
  | .hbm, ⟨10, _⟩ => ⟨S8x8448x512, .f32⟩
  | .hbm, ⟨11, _⟩ => ⟨S8x8192x512, .f32⟩
  | .hbm, ⟨12, _⟩ => ⟨S8x256x512, .f32⟩
  | .hbm, ⟨13, _⟩ => ⟨S8x8448x3x1024, .f32⟩
  | .hbm, ⟨14, _⟩ => ⟨S3x512x1024, .f32⟩
  | .hbm, ⟨15, _⟩ => ⟨S1024x1024, .f32⟩
  | .hbm, ⟨16, _⟩ => ⟨S1024, .f32⟩
  | .hbm, ⟨17, _⟩ => ⟨S1024x4096, .f32⟩
  | .hbm, ⟨18, _⟩ => ⟨S4096x1024, .f32⟩
  | .hbm, ⟨19, _⟩ => ⟨S8x1x6144, .f32⟩
  | .hbm, ⟨20, _⟩ => ⟨S8x1x1x6144, .f32⟩
  | .hbm, ⟨21, _⟩ => ⟨S8x1x1x6144, .f32⟩
  | .hbm, ⟨22, _⟩ => ⟨S8x2x1x6144, .f32⟩
  | .hbm, ⟨23, _⟩ => ⟨S8x8192x512, .bf16⟩
  | .hbm, ⟨24, _⟩ => ⟨S8x8192x512, .bf16⟩
  | .hbm, ⟨25, _⟩ => ⟨S8x8192x512, .bf16⟩
  | .hbm, ⟨26, _⟩ => ⟨S8x256x512, .bf16⟩
  | .hbm, ⟨27, _⟩ => ⟨S8x256x512, .bf16⟩
  | .hbm, ⟨28, _⟩ => ⟨S8x256x512, .bf16⟩
  | .hbm, ⟨29, _⟩ => ⟨S8x512x8448, .f32⟩
  | .hbm, ⟨30, _⟩ => ⟨S8x512x8448, .bf16⟩
  | .hbm, ⟨31, _⟩ => ⟨S8x512x8192, .f32⟩
  | .hbm, ⟨32, _⟩ => ⟨S8x512x8192, .bf16⟩
  | .hbm, ⟨33, _⟩ => ⟨S8x512x256, .f32⟩
  | .hbm, ⟨34, _⟩ => ⟨S8x512x256, .bf16⟩
  | .hbm, ⟨35, _⟩ => ⟨S8x8448x3072, .f32⟩
  | .hbm, ⟨36, _⟩ => ⟨S8x8448x3072, .bf16⟩
  | .hbm, ⟨37, _⟩ => ⟨S1x512, .f32⟩
  | .hbm, ⟨38, _⟩ => ⟨S3x512x1024, .bf16⟩
  | .hbm, ⟨39, _⟩ => ⟨S1024x1024, .bf16⟩
  | .hbm, ⟨40, _⟩ => ⟨S1x1024, .f32⟩
  | .hbm, ⟨41, _⟩ => ⟨S1024x4096, .bf16⟩
  | .hbm, ⟨42, _⟩ => ⟨S4096x1024, .bf16⟩
  | .hbm, ⟨43, _⟩ => ⟨S8x8192x1024, .f32⟩
  | .local _ .vmem, ⟨0, _⟩ => ⟨S2x256x1024, .f32⟩
  | .local _ .vmem, ⟨1, _⟩ => ⟨S2x256x1024, .f32⟩
  | .local _ .vmem, ⟨2, _⟩ => ⟨S2x1x1x6144, .f32⟩
  | .local _ .vmem, ⟨3, _⟩ => ⟨S2x1x1x6144, .f32⟩
  | .local _ .vmem, ⟨4, _⟩ => ⟨S2x256x512, .bf16⟩
  | .local _ .vmem, ⟨5, _⟩ => ⟨S2x256x512, .bf16⟩
  | .local _ .vmem, ⟨6, _⟩ => ⟨S2x256x512, .bf16⟩
  | .local _ .vmem, ⟨7, _⟩ => ⟨S2x256x512, .bf16⟩
  | .local _ .vmem, ⟨8, _⟩ => ⟨S2x256x512, .bf16⟩
  | .local _ .vmem, ⟨9, _⟩ => ⟨S2x256x512, .bf16⟩
  | .local _ .vmem, ⟨10, _⟩ => ⟨S2x256x512, .bf16⟩
  | .local _ .vmem, ⟨11, _⟩ => ⟨S2x256x512, .bf16⟩
  | .local _ .vmem, ⟨12, _⟩ => ⟨S2x256x512, .bf16⟩
  | .local _ .vmem, ⟨13, _⟩ => ⟨S2x256x512, .bf16⟩
  | .local _ .vmem, ⟨14, _⟩ => ⟨S2x256x512, .bf16⟩
  | .local _ .vmem, ⟨15, _⟩ => ⟨S2x256x512, .bf16⟩
  | .local _ .vmem, ⟨16, _⟩ => ⟨S1x512, .f32⟩
  | .local _ .vmem, ⟨17, _⟩ => ⟨S2x512x256, .bf16⟩
  | .local _ .vmem, ⟨18, _⟩ => ⟨S2x512x256, .bf16⟩
  | .local _ .vmem, ⟨19, _⟩ => ⟨S2x512x256, .bf16⟩
  | .local _ .vmem, ⟨20, _⟩ => ⟨S2x512x256, .bf16⟩
  | .local _ .vmem, ⟨21, _⟩ => ⟨S2x512x256, .bf16⟩
  | .local _ .vmem, ⟨22, _⟩ => ⟨S2x512x256, .bf16⟩
  | .local _ .vmem, ⟨23, _⟩ => ⟨S2x256x3072, .bf16⟩
  | .local _ .vmem, ⟨24, _⟩ => ⟨S2x256x3072, .bf16⟩
  | .local _ .vmem, ⟨25, _⟩ => ⟨S3x512x1024, .bf16⟩
  | .local _ .vmem, ⟨26, _⟩ => ⟨S1024x1024, .bf16⟩
  | .local _ .vmem, ⟨27, _⟩ => ⟨S1x1024, .f32⟩
  | .local _ .vmem, ⟨28, _⟩ => ⟨S1024x4096, .bf16⟩
  | .local _ .vmem, ⟨29, _⟩ => ⟨S4096x1024, .bf16⟩
  | .local _ .vmem, ⟨30, _⟩ => ⟨S2x256x1024, .f32⟩
  | .local _ .vmem, ⟨31, _⟩ => ⟨S2x256x1024, .f32⟩
  | _, _ => ⟨S8x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg18_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem14_0 : DmaSem sig := 26
abbrev cc0_sem15_0 : DmaSem sig := 27
abbrev cc0_sem16_0 : DmaSem sig := 28
abbrev cc0_sem17_0 : DmaSem sig := 29
abbrev cc0_sem18_0 : DmaSem sig := 30
abbrev cc0_sem18_1 : DmaSem sig := 31

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 1 := Scalar.cmpi .sge arg1 c32_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![arg0.toNat, v1.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.subi arg1 c32_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.subi arg1 c32_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.subi arg1 c32_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![arg0.toNat, c0_i32.toNat, v0.toNat]

def cc0_transform_11 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.subi arg1 c32_i32
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S2x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2x256x3072 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S3x512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1024x4096 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S4096x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S2x256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Reference2Ideal.lean ====
abbrev S8x8448x1024 : Shape := ⟨3, ![8, 8448, 1024]⟩
abbrev S8x1x6144 : Shape := ⟨3, ![8, 1, 6144]⟩
abbrev S1x1x6144 : Shape := ⟨3, ![1, 1, 6144]⟩
abbrev S8x8192x512 : Shape := ⟨3, ![8, 8192, 512]⟩
abbrev S8x256x512 : Shape := ⟨3, ![8, 256, 512]⟩
abbrev S512 : Shape := ⟨1, ![512]⟩
abbrev S8x8448x512 : Shape := ⟨3, ![8, 8448, 512]⟩
abbrev S8x8448x3x1024 : Shape := ⟨4, ![8, 8448, 3, 1024]⟩
abbrev S3x512x1024 : Shape := ⟨3, ![3, 512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S8x1x1024 : Shape := ⟨3, ![8, 1, 1024]⟩
abbrev S1x1x512 : Shape := ⟨3, ![1, 1, 512]⟩
abbrev S8x8192x1x1024 : Shape := ⟨4, ![8, 8192, 1, 1024]⟩
abbrev S8x8192x1024 : Shape := ⟨3, ![8, 8192, 1024]⟩
abbrev S1x512x1024 : Shape := ⟨3, ![1, 512, 1024]⟩
abbrev S512x1024 : Shape := ⟨2, ![512, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x4096 : Shape := ⟨3, ![8, 8192, 4096]⟩

abbrev nBuf : Space → Nat
  | .hbm => 89
  | .vmem => 0
  | .smem => 0
  | _ => 0

abbrev bufTy : (tb : Table) → Fin (tcTables nBuf tb) → BufTy
  | .hbm, ⟨0, _⟩ => ⟨S8x8448x1024, .f32⟩
  | .hbm, ⟨1, _⟩ => ⟨S8x1x6144, .f32⟩
  | .hbm, ⟨2, _⟩ => ⟨S1x1x6144, .f32⟩
  | .hbm, ⟨3, _⟩ => ⟨S8x8192x512, .f32⟩
  | .hbm, ⟨4, _⟩ => ⟨S8x8192x512, .f32⟩
  | .hbm, ⟨5, _⟩ => ⟨S8x8192x512, .f32⟩
  | .hbm, ⟨6, _⟩ => ⟨S8x256x512, .f32⟩
  | .hbm, ⟨7, _⟩ => ⟨S8x256x512, .f32⟩
  | .hbm, ⟨8, _⟩ => ⟨S8x256x512, .f32⟩
  | .hbm, ⟨9, _⟩ => ⟨S512, .f32⟩
  | .hbm, ⟨10, _⟩ => ⟨S8x8448x512, .f32⟩
  | .hbm, ⟨11, _⟩ => ⟨S8x8192x512, .f32⟩
  | .hbm, ⟨12, _⟩ => ⟨S8x256x512, .f32⟩
  | .hbm, ⟨13, _⟩ => ⟨S8x8448x3x1024, .f32⟩
  | .hbm, ⟨14, _⟩ => ⟨S3x512x1024, .f32⟩
  | .hbm, ⟨15, _⟩ => ⟨S1024x1024, .f32⟩
  | .hbm, ⟨16, _⟩ => ⟨S1024, .f32⟩
  | .hbm, ⟨17, _⟩ => ⟨S1024x4096, .f32⟩
  | .hbm, ⟨18, _⟩ => ⟨S4096x1024, .f32⟩
  | .hbm, ⟨19, _⟩ => ⟨S8x1x1024, .f32⟩
  | .hbm, ⟨20, _⟩ => ⟨S8x1x1024, .f32⟩
  | .hbm, ⟨21, _⟩ => ⟨S8x1x1024, .f32⟩
  | .hbm, ⟨22, _⟩ => ⟨S1x1x512, .f32⟩
  | .hbm, ⟨23, _⟩ => ⟨S8x8192x512, .f32⟩
  | .hbm, ⟨24, _⟩ => ⟨S8x8192x512, .f32⟩
  | .hbm, ⟨25, _⟩ => ⟨S8x8192x512, .f32⟩
  | .hbm, ⟨26, _⟩ => ⟨S8x8192x512, .f32⟩
  | .hbm, ⟨27, _⟩ => ⟨S8x8192x512, .f32⟩
  | .hbm, ⟨28, _⟩ => ⟨S8x8192x1x1024, .f32⟩
  | .hbm, ⟨29, _⟩ => ⟨S8x8192x1024, .f32⟩
  | .hbm, ⟨30, _⟩ => ⟨S1x512x1024, .f32⟩
  | .hbm, ⟨31, _⟩ => ⟨S512x1024, .f32⟩
  | .hbm, ⟨32, _⟩ => ⟨S8x8192x1024, .f32⟩
  | .hbm, ⟨33, _⟩ => ⟨S8x8192x1024, .f32⟩
  | .hbm, ⟨34, _⟩ => ⟨S_, .f32⟩
  | .hbm, ⟨35, _⟩ => ⟨S8x8192x1024, .f32⟩
  | .hbm, ⟨36, _⟩ => ⟨S8x8192x1024, .f32⟩
  | .hbm, ⟨37, _⟩ => ⟨S8x8192x1x1024, .f32⟩
  | .hbm, ⟨38, _⟩ => ⟨S8x8192x1024, .f32⟩
  | .hbm, ⟨39, _⟩ => ⟨S1x512x1024, .f32⟩
  | .hbm, ⟨40, _⟩ => ⟨S512x1024, .f32⟩
  | .hbm, ⟨41, _⟩ => ⟨S8x8192x1024, .f32⟩
  | .hbm, ⟨42, _⟩ => ⟨S8x8192x1024, .f32⟩
  | .hbm, ⟨43, _⟩ => ⟨S8x8192x1024, .f32⟩
  | .hbm, ⟨44, _⟩ => ⟨S8x8192x1x1024, .f32⟩
  | .hbm, ⟨45, _⟩ => ⟨S8x8192x1024, .f32⟩
  | .hbm, ⟨46, _⟩ => ⟨S1x512x1024, .f32⟩
  | .hbm, ⟨47, _⟩ => ⟨S512x1024, .f32⟩
  | .hbm, ⟨48, _⟩ => ⟨S8x8192x1024, .f32⟩
  | .hbm, ⟨49, _⟩ => ⟨S8x8192x1024, .f32⟩
  | .hbm, ⟨50, _⟩ => ⟨S8x8192x1024, .f32⟩
  | .hbm, ⟨51, _⟩ => ⟨S8x8192x1024, .f32⟩
  | .hbm, ⟨52, _⟩ => ⟨S8x1x1024, .f32⟩
  | .hbm, ⟨53, _⟩ => ⟨S8x8192x1024, .f32⟩
  | .hbm, ⟨54, _⟩ => ⟨S8x8192x1024, .f32⟩
  | .hbm, ⟨55, _⟩ => ⟨S8x8192x1024, .f32⟩
  | .hbm, ⟨56, _⟩ => ⟨S8x8192x1024, .f32⟩
  | .hbm, ⟨57, _⟩ => ⟨S8x8192x1024, .f32⟩
  | .hbm, ⟨58, _⟩ => ⟨S_, .f32⟩
  | .hbm, ⟨59, _⟩ => ⟨S8x8192, .f32⟩
  | .hbm, ⟨60, _⟩ => ⟨S8x8192x1, .f32⟩
  | .hbm, ⟨61, _⟩ => ⟨S_, .f32⟩
  | .hbm, ⟨62, _⟩ => ⟨S8x8192x1, .f32⟩
  | .hbm, ⟨63, _⟩ => ⟨S8x8192x1, .f32⟩
  | .hbm, ⟨64, _⟩ => ⟨S_, .f32⟩
  | .hbm, ⟨65, _⟩ => ⟨S8x8192x1, .f32⟩
  | .hbm, ⟨66, _⟩ => ⟨S8x8192x1, .f32⟩
  | .hbm, ⟨67, _⟩ => ⟨S8x8192x1, .f32⟩
  | .hbm, ⟨68, _⟩ => ⟨S8x8192x1024, .f32⟩
  | .hbm, ⟨69, _⟩ => ⟨S8x8192x1024, .f32⟩
  | .hbm, ⟨70, _⟩ => ⟨S1x1x1024, .f32⟩
  | .hbm, ⟨71, _⟩ => ⟨S8x8192x1024, .f32⟩
  | .hbm, ⟨72, _⟩ => ⟨S8x8192x1024, .f32⟩
  | .hbm, ⟨73, _⟩ => ⟨S_, .f32⟩
  | .hbm, ⟨74, _⟩ => ⟨S8x1x1024, .f32⟩
  | .hbm, ⟨75, _⟩ => ⟨S8x1x1024, .f32⟩
  | .hbm, ⟨76, _⟩ => ⟨S8x8192x1024, .f32⟩
  | .hbm, ⟨77, _⟩ => ⟨S8x8192x1024, .f32⟩
  | .hbm, ⟨78, _⟩ => ⟨S8x8192x1024, .f32⟩
  | .hbm, ⟨79, _⟩ => ⟨S8x8192x1024, .f32⟩
  | .hbm, ⟨80, _⟩ => ⟨S8x8192x4096, .f32⟩
  | .hbm, ⟨81, _⟩ => ⟨S_, .f32⟩
  | .hbm, ⟨82, _⟩ => ⟨S8x8192x4096, .f32⟩
  | .hbm, ⟨83, _⟩ => ⟨S8x8192x4096, .f32⟩
  | .hbm, ⟨84, _⟩ => ⟨S8x8192x4096, .f32⟩
  | .hbm, ⟨85, _⟩ => ⟨S8x8192x1024, .f32⟩
  | .hbm, ⟨86, _⟩ => ⟨S8x8192x1024, .f32⟩
  | .hbm, ⟨87, _⟩ => ⟨S8x8192x1024, .f32⟩
  | .hbm, ⟨88, _⟩ => ⟨S8x8192x1024, .f32⟩
  | _, _ => ⟨S8x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_0 : Ref sig .tc := ⟨.hbm, 58, rfl⟩
abbrev main_v38 : Ref sig .tc := ⟨.hbm, 59, rfl⟩
abbrev main_v39 : Ref sig .tc := ⟨.hbm, 60, rfl⟩
abbrev main_cst_1 : Ref sig .tc := ⟨.hbm, 61, rfl⟩
abbrev main_v40 : Ref sig .tc := ⟨.hbm, 62, rfl⟩
abbrev main_v41 : Ref sig .tc := ⟨.hbm, 63, rfl⟩
abbrev main_cst_2 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_3 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_call0_cst : Ref sig .tc := ⟨.hbm, 81, rfl⟩
abbrev main_call0_v0 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩

abbrev nD : Nat := 1
abbrev τ : Topo := Topo.v7x

variable {F : FTy → Type} [FloatOps F]
-- ==== Kernel3.lean ====
abbrev S8x8448x1024 : Shape := ⟨3, ![8, 8448, 1024]⟩
abbrev S8x1x6144 : Shape := ⟨3, ![8, 1, 6144]⟩
abbrev S1x1x6144 : Shape := ⟨3, ![1, 1, 6144]⟩
abbrev S1024 : Shape := ⟨1, ![1024]⟩
abbrev S1024x6048 : Shape := ⟨2, ![1024, 6048]⟩
abbrev S64 : Shape := ⟨1, ![64]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S96 : Shape := ⟨1, ![96]⟩
abbrev S32x8448 : Shape := ⟨2, ![32, 8448]⟩
abbrev S16x8448 : Shape := ⟨2, ![16, 8448]⟩
abbrev S8x1x1x6144 : Shape := ⟨4, ![8, 1, 1, 6144]⟩
abbrev S8x2x1x6144 : Shape := ⟨4, ![8, 2, 1, 6144]⟩
abbrev S1024x1536 : Shape := ⟨2, ![1024, 1536]⟩
abbrev S1024x1440 : Shape := ⟨2, ![1024, 1440]⟩
abbrev S1440x1024 : Shape := ⟨2, ![1440, 1024]⟩
abbrev S1024x3072 : Shape := ⟨2, ![1024, 3072]⟩
abbrev S768x384 : Shape := ⟨2, ![768, 384]⟩
abbrev S1024x256 : Shape := ⟨2, ![1024, 256]⟩
abbrev S64x1 : Shape := ⟨2, ![64, 1]⟩
abbrev S64x256 : Shape := ⟨2, ![64, 256]⟩
abbrev S384x1 : Shape := ⟨2, ![384, 1]⟩
abbrev S384x256 : Shape := ⟨2, ![384, 256]⟩
abbrev S256x1 : Shape := ⟨2, ![256, 1]⟩
abbrev S256x256 : Shape := ⟨2, ![256, 256]⟩
abbrev S96x1 : Shape := ⟨2, ![96, 1]⟩
abbrev S96x256 : Shape := ⟨2, ![96, 256]⟩
abbrev S1x1024 : Shape := ⟨2, ![1, 1024]⟩
abbrev S8x8448x1536 : Shape := ⟨3, ![8, 8448, 1536]⟩
abbrev S8x8448x3072 : Shape := ⟨3, ![8, 8448, 3072]⟩
abbrev S8x512x8448 : Shape := ⟨3, ![8, 512, 8448]⟩
abbrev S8x8448x256 : Shape := ⟨3, ![8, 8448, 256]⟩
abbrev S8x160x8448 : Shape := ⟨3, ![8, 160, 8448]⟩
abbrev S8x1024x8448 : Shape := ⟨3, ![8, 1024, 8448]⟩
abbrev S8x33x640x256 : Shape := ⟨4, ![8, 33, 640, 256]⟩
abbrev S2x256x1024 : Shape := ⟨3, ![2, 256, 1024]⟩
abbrev S2x1x1x6144 : Shape := ⟨4, ![2, 1, 1, 6144]⟩
abbrev S32x256 : Shape := ⟨2, ![32, 256]⟩
abbrev S16x256 : Shape := ⟨2, ![16, 256]⟩
abbrev S2x256x1536 : Shape := ⟨3, ![2, 256, 1536]⟩
abbrev S2x256x3072 : Shape := ⟨3, ![2, 256, 3072]⟩
abbrev S2x512x256 : Shape := ⟨3, ![2, 512, 256]⟩
abbrev S2x256x256 : Shape := ⟨3, ![2, 256, 256]⟩
abbrev S2x160x256 : Shape := ⟨3, ![2, 160, 256]⟩
abbrev S2x1024x256 : Shape := ⟨3, ![2, 1024, 256]⟩
abbrev S2x1x640x256 : Shape := ⟨4, ![2, 1, 640, 256]⟩
abbrev S1x256x1024 : Shape := ⟨3, ![1, 256, 1024]⟩
abbrev S1x1x1x6144 : Shape := ⟨4, ![1, 1, 1, 6144]⟩
abbrev S1x6144 : Shape := ⟨2, ![1, 6144]⟩
abbrev S1440x256 : Shape := ⟨2, ![1440, 256]⟩
abbrev S256x1536 : Shape := ⟨2, ![256, 1536]⟩
abbrev S1x256x1536 : Shape := ⟨3, ![1, 256, 1536]⟩
abbrev S1024x1024 : Shape := ⟨2, ![1024, 1024]⟩
abbrev S1x256x3072 : Shape := ⟨3, ![1, 256, 3072]⟩
abbrev S256x3072 : Shape := ⟨2, ![256, 3072]⟩
abbrev S1x256 : Shape := ⟨2, ![1, 256]⟩
abbrev S768x256 : Shape := ⟨2, ![768, 256]⟩
abbrev S1x1024x256 : Shape := ⟨3, ![1, 1024, 256]⟩
abbrev S1x64x256 : Shape := ⟨3, ![1, 64, 256]⟩
abbrev S1x16x256 : Shape := ⟨3, ![1, 16, 256]⟩
abbrev S1x32x256 : Shape := ⟨3, ![1, 32, 256]⟩
abbrev S1x1x640x256 : Shape := ⟨4, ![1, 1, 640, 256]⟩
abbrev S640x256 : Shape := ⟨2, ![640, 256]⟩
abbrev S1x1x64x256 : Shape := ⟨4, ![1, 1, 64, 256]⟩
abbrev S1x1x16x256 : Shape := ⟨4, ![1, 1, 16, 256]⟩
abbrev S1x512x256 : Shape := ⟨3, ![1, 512, 256]⟩
abbrev S512x256 : Shape := ⟨2, ![512, 256]⟩
abbrev S1x256x256 : Shape := ⟨3, ![1, 256, 256]⟩
abbrev S1x160x256 : Shape := ⟨3, ![1, 160, 256]⟩
abbrev S160x256 : Shape := ⟨2, ![160, 256]⟩

abbrev nBuf : Space → Nat
  | .hbm => 53
  | .vmem => 40
  | .smem => 0
  | _ => 0

abbrev bufTy : (tb : Table) → Fin (tcTables nBuf tb) → BufTy
  | .hbm, ⟨0, _⟩ => ⟨S8x8448x1024, .f32⟩
  | .hbm, ⟨1, _⟩ => ⟨S8x1x6144, .f32⟩
  | .hbm, ⟨2, _⟩ => ⟨S1x1x6144, .f32⟩
  | .hbm, ⟨3, _⟩ => ⟨S1024, .f32⟩
  | .hbm, ⟨4, _⟩ => ⟨S1024x6048, .f32⟩
  | .hbm, ⟨5, _⟩ => ⟨S64, .f32⟩
  | .hbm, ⟨6, _⟩ => ⟨S64, .f32⟩
  | .hbm, ⟨7, _⟩ => ⟨S384, .f32⟩
  | .hbm, ⟨8, _⟩ => ⟨S256, .f32⟩
  | .hbm, ⟨9, _⟩ => ⟨S384x768, .f32⟩
  | .hbm, ⟨10, _⟩ => ⟨S256x1024, .f32⟩
  | .hbm, ⟨11, _⟩ => ⟨S96, .f32⟩
  | .hbm, ⟨12, _⟩ => ⟨S96, .f32⟩
  | .hbm, ⟨13, _⟩ => ⟨S32x8448, .f32⟩
  | .hbm, ⟨14, _⟩ => ⟨S32x8448, .f32⟩
  | .hbm, ⟨15, _⟩ => ⟨S16x8448, .f32⟩
  | .hbm, ⟨16, _⟩ => ⟨S16x8448, .f32⟩
  | .hbm, ⟨17, _⟩ => ⟨S8x1x6144, .f32⟩
  | .hbm, ⟨18, _⟩ => ⟨S8x1x1x6144, .f32⟩
  | .hbm, ⟨19, _⟩ => ⟨S8x1x1x6144, .f32⟩
  | .hbm, ⟨20, _⟩ => ⟨S8x2x1x6144, .f32⟩
  | .hbm, ⟨21, _⟩ => ⟨S1024x1536, .f32⟩
  | .hbm, ⟨22, _⟩ => ⟨S1024x1536, .bf16⟩
  | .hbm, ⟨23, _⟩ => ⟨S1024x1440, .f32⟩
  | .hbm, ⟨24, _⟩ => ⟨S1440x1024, .f32⟩
  | .hbm, ⟨25, _⟩ => ⟨S1440x1024, .bf16⟩
  | .hbm, ⟨26, _⟩ => ⟨S1024x3072, .f32⟩
  | .hbm, ⟨27, _⟩ => ⟨S1024x3072, .bf16⟩
  | .hbm, ⟨28, _⟩ => ⟨S768x384, .f32⟩
  | .hbm, ⟨29, _⟩ => ⟨S768x384, .bf16⟩
  | .hbm, ⟨30, _⟩ => ⟨S1024x256, .f32⟩
  | .hbm, ⟨31, _⟩ => ⟨S1024x256, .bf16⟩
  | .hbm, ⟨32, _⟩ => ⟨S64x1, .f32⟩
  | .hbm, ⟨33, _⟩ => ⟨S64x256, .f32⟩
  | .hbm, ⟨34, _⟩ => ⟨S64x1, .f32⟩
  | .hbm, ⟨35, _⟩ => ⟨S64x256, .f32⟩
  | .hbm, ⟨36, _⟩ => ⟨S384x1, .f32⟩
  | .hbm, ⟨37, _⟩ => ⟨S384x256, .f32⟩
  | .hbm, ⟨38, _⟩ => ⟨S256x1, .f32⟩
  | .hbm, ⟨39, _⟩ => ⟨S256x256, .f32⟩
  | .hbm, ⟨40, _⟩ => ⟨S96x1, .f32⟩
  | .hbm, ⟨41, _⟩ => ⟨S96x256, .f32⟩
  | .hbm, ⟨42, _⟩ => ⟨S96x1, .f32⟩
  | .hbm, ⟨43, _⟩ => ⟨S96x256, .f32⟩
  | .hbm, ⟨44, _⟩ => ⟨S1x1024, .f32⟩
  | .hbm, ⟨45, _⟩ => ⟨S8x8448x1536, .bf16⟩
  | .hbm, ⟨46, _⟩ => ⟨S8x8448x3072, .bf16⟩
  | .hbm, ⟨47, _⟩ => ⟨S8x512x8448, .bf16⟩
  | .hbm, ⟨48, _⟩ => ⟨S8x8448x256, .bf16⟩
  | .hbm, ⟨49, _⟩ => ⟨S8x160x8448, .bf16⟩
  | .hbm, ⟨50, _⟩ => ⟨S8x1024x8448, .bf16⟩
  | .hbm, ⟨51, _⟩ => ⟨S8x8448x1024, .bf16⟩
  | .hbm, ⟨52, _⟩ => ⟨S8x33x640x256, .bf16⟩
  | .local _ .vmem, ⟨0, _⟩ => ⟨S2x256x1024, .f32⟩
  | .local _ .vmem, ⟨1, _⟩ => ⟨S2x256x1024, .f32⟩
  | .local _ .vmem, ⟨2, _⟩ => ⟨S2x1x1x6144, .f32⟩
  | .local _ .vmem, ⟨3, _⟩ => ⟨S2x1x1x6144, .f32⟩
  | .local _ .vmem, ⟨4, _⟩ => ⟨S1x1024, .f32⟩
  | .local _ .vmem, ⟨5, _⟩ => ⟨S1024x1536, .bf16⟩
  | .local _ .vmem, ⟨6, _⟩ => ⟨S1024x3072, .bf16⟩
  | .local _ .vmem, ⟨7, _⟩ => ⟨S1440x1024, .bf16⟩
  | .local _ .vmem, ⟨8, _⟩ => ⟨S768x384, .bf16⟩
  | .local _ .vmem, ⟨9, _⟩ => ⟨S1024x256, .bf16⟩
  | .local _ .vmem, ⟨10, _⟩ => ⟨S64x256, .f32⟩
  | .local _ .vmem, ⟨11, _⟩ => ⟨S64x256, .f32⟩
  | .local _ .vmem, ⟨12, _⟩ => ⟨S384x256, .f32⟩
  | .local _ .vmem, ⟨13, _⟩ => ⟨S256x256, .f32⟩
  | .local _ .vmem, ⟨14, _⟩ => ⟨S96x256, .f32⟩
  | .local _ .vmem, ⟨15, _⟩ => ⟨S96x256, .f32⟩
  | .local _ .vmem, ⟨16, _⟩ => ⟨S32x256, .f32⟩
  | .local _ .vmem, ⟨17, _⟩ => ⟨S32x256, .f32⟩
  | .local _ .vmem, ⟨18, _⟩ => ⟨S32x256, .f32⟩
  | .local _ .vmem, ⟨19, _⟩ => ⟨S32x256, .f32⟩
  | .local _ .vmem, ⟨20, _⟩ => ⟨S16x256, .f32⟩
  | .local _ .vmem, ⟨21, _⟩ => ⟨S16x256, .f32⟩
  | .local _ .vmem, ⟨22, _⟩ => ⟨S16x256, .f32⟩
  | .local _ .vmem, ⟨23, _⟩ => ⟨S16x256, .f32⟩
  | .local _ .vmem, ⟨24, _⟩ => ⟨S2x256x1536, .bf16⟩
  | .local _ .vmem, ⟨25, _⟩ => ⟨S2x256x1536, .bf16⟩
  | .local _ .vmem, ⟨26, _⟩ => ⟨S2x256x3072, .bf16⟩
  | .local _ .vmem, ⟨27, _⟩ => ⟨S2x256x3072, .bf16⟩
  | .local _ .vmem, ⟨28, _⟩ => ⟨S2x512x256, .bf16⟩
  | .local _ .vmem, ⟨29, _⟩ => ⟨S2x512x256, .bf16⟩
  | .local _ .vmem, ⟨30, _⟩ => ⟨S2x256x256, .bf16⟩
  | .local _ .vmem, ⟨31, _⟩ => ⟨S2x256x256, .bf16⟩
  | .local _ .vmem, ⟨32, _⟩ => ⟨S2x160x256, .bf16⟩
  | .local _ .vmem, ⟨33, _⟩ => ⟨S2x160x256, .bf16⟩
  | .local _ .vmem, ⟨34, _⟩ => ⟨S2x1024x256, .bf16⟩
  | .local _ .vmem, ⟨35, _⟩ => ⟨S2x1024x256, .bf16⟩
  | .local _ .vmem, ⟨36, _⟩ => ⟨S2x256x1024, .bf16⟩
  | .local _ .vmem, ⟨37, _⟩ => ⟨S2x256x1024, .bf16⟩
  | .local _ .vmem, ⟨38, _⟩ => ⟨S2x1x640x256, .bf16⟩
  | .local _ .vmem, ⟨39, _⟩ => ⟨S2x1x640x256, .bf16⟩
  | _, _ => ⟨S8x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28_0 : Ref sig .tc := ⟨.hbm, 45, rfl⟩
abbrev main_v28_1 : Ref sig .tc := ⟨.hbm, 46, rfl⟩
abbrev main_v28_2 : Ref sig .tc := ⟨.hbm, 47, rfl⟩
abbrev main_v28_3 : Ref sig .tc := ⟨.hbm, 48, rfl⟩
abbrev main_v28_4 : Ref sig .tc := ⟨.hbm, 49, rfl⟩
abbrev main_v28_5 : Ref sig .tc := ⟨.hbm, 50, rfl⟩
abbrev main_v28_6 : Ref sig .tc := ⟨.hbm, 51, rfl⟩
abbrev main_v28_7 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_stg23_0 : Ref sig .tc := ⟨.vmem, 34, rfl⟩
abbrev cc0_stg23_1 : Ref sig .tc := ⟨.vmem, 35, rfl⟩
abbrev cc0_stg24_0 : Ref sig .tc := ⟨.vmem, 36, rfl⟩
abbrev cc0_stg24_1 : Ref sig .tc := ⟨.vmem, 37, rfl⟩
abbrev cc0_stg25_0 : Ref sig .tc := ⟨.vmem, 38, rfl⟩
abbrev cc0_stg25_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33
abbrev cc0_sem23_0 : DmaSem sig := 34
abbrev cc0_sem23_1 : DmaSem sig := 35
abbrev cc0_sem24_0 : DmaSem sig := 36
abbrev cc0_sem24_1 : DmaSem sig := 37
abbrev cc0_sem25_0 : DmaSem sig := 38
abbrev cc0_sem25_1 : DmaSem sig := 39

abbrev nD : Nat := 1
abbrev τ : Topo := Topo.v7x

variable {F : FTy → Type} [FloatOps F]

abbrev grid0 : Pipeline.Grid := ⟨2, ![4, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 1 := Scalar.cmpi .sge arg1 c32_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![arg0.toNat, v1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_25 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![arg0.toNat, v16.toNat, c0_i32_11.toNat, v26.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1440x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S768x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S384x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S96x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S96x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S32x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S32x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S16x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]

abbrev stage0_17 : Fin 2 → Memref sig .tc .vmem S16x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, true]

abbrev stage0_18 : Fin 2 → Memref sig .tc .vmem S2x256x1536 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S2x256x3072 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S2x512x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S2x256x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S2x160x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S2x1024x256 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S2x256x1024 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S2x1x640x256 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]
-- ==== Reference3Ideal.lean ====
abbrev S8x8448x1024 : Shape := ⟨3, ![8, 8448, 1024]⟩
abbrev S8x1x6144 : Shape := ⟨3, ![8, 1, 6144]⟩
abbrev S1x1x6144 : Shape := ⟨3, ![1, 1, 6144]⟩
abbrev S1024 : Shape := ⟨1, ![1024]⟩
abbrev S1024x6048 : Shape := ⟨2, ![1024, 6048]⟩
abbrev S64 : Shape := ⟨1, ![64]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S96 : Shape := ⟨1, ![96]⟩
abbrev S32x8448 : Shape := ⟨2, ![32, 8448]⟩
abbrev S16x8448 : Shape := ⟨2, ![16, 8448]⟩
abbrev S8x8192x1024 : Shape := ⟨3, ![8, 8192, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x1x1024 : Shape := ⟨3, ![8, 1, 1024]⟩
abbrev S8x256x1024 : Shape := ⟨3, ![8, 256, 1024]⟩
abbrev S8x256 : Shape := ⟨2, ![8, 256]⟩
abbrev S8x256x1 : Shape := ⟨3, ![8, 256, 1]⟩
abbrev S1024x1536 : Shape := ⟨2, ![1024, 1536]⟩
abbrev S8x8448x1536 : Shape := ⟨3, ![8, 8448, 1536]⟩
abbrev S1024x3072 : Shape := ⟨2, ![1024, 3072]⟩
abbrev S8x8448x3072 : Shape := ⟨3, ![8, 8448, 3072]⟩

abbrev nBuf : Space → Nat
  | .hbm => 84
  | .vmem => 0
  | .smem => 0
  | _ => 0

abbrev bufTy : (tb : Table) → Fin (tcTables nBuf tb) → BufTy
  | .hbm, ⟨0, _⟩ => ⟨S8x8448x1024, .f32⟩
  | .hbm, ⟨1, _⟩ => ⟨S8x1x6144, .f32⟩
  | .hbm, ⟨2, _⟩ => ⟨S1x1x6144, .f32⟩
  | .hbm, ⟨3, _⟩ => ⟨S1024, .f32⟩
  | .hbm, ⟨4, _⟩ => ⟨S1024x6048, .f32⟩
  | .hbm, ⟨5, _⟩ => ⟨S64, .f32⟩
  | .hbm, ⟨6, _⟩ => ⟨S64, .f32⟩
  | .hbm, ⟨7, _⟩ => ⟨S384, .f32⟩
  | .hbm, ⟨8, _⟩ => ⟨S256, .f32⟩
  | .hbm, ⟨9, _⟩ => ⟨S384x768, .f32⟩
  | .hbm, ⟨10, _⟩ => ⟨S256x1024, .f32⟩
  | .hbm, ⟨11, _⟩ => ⟨S96, .f32⟩
  | .hbm, ⟨12, _⟩ => ⟨S96, .f32⟩
  | .hbm, ⟨13, _⟩ => ⟨S32x8448, .f32⟩
  | .hbm, ⟨14, _⟩ => ⟨S32x8448, .f32⟩
  | .hbm, ⟨15, _⟩ => ⟨S16x8448, .f32⟩
  | .hbm, ⟨16, _⟩ => ⟨S16x8448, .f32⟩
  | .hbm, ⟨17, _⟩ => ⟨S8x8192x1024, .f32⟩
  | .hbm, ⟨18, _⟩ => ⟨S8x8192x1024, .f32⟩
  | .hbm, ⟨19, _⟩ => ⟨S_, .f32⟩
  | .hbm, ⟨20, _⟩ => ⟨S8x8192, .f32⟩
  | .hbm, ⟨21, _⟩ => ⟨S8x8192x1, .f32⟩
  | .hbm, ⟨22, _⟩ => ⟨S_, .f32⟩
  | .hbm, ⟨23, _⟩ => ⟨S8x8192x1, .f32⟩
  | .hbm, ⟨24, _⟩ => ⟨S8x8192x1, .f32⟩
  | .hbm, ⟨25, _⟩ => ⟨S_, .f32⟩
  | .hbm, ⟨26, _⟩ => ⟨S8x8192x1, .f32⟩
  | .hbm, ⟨27, _⟩ => ⟨S8x8192x1, .f32⟩
  | .hbm, ⟨28, _⟩ => ⟨S8x8192x1, .f32⟩
  | .hbm, ⟨29, _⟩ => ⟨S8x8192x1024, .f32⟩
  | .hbm, ⟨30, _⟩ => ⟨S8x8192x1024, .f32⟩
  | .hbm, ⟨31, _⟩ => ⟨S1x1x1024, .f32⟩
  | .hbm, ⟨32, _⟩ => ⟨S8x8192x1024, .f32⟩
  | .hbm, ⟨33, _⟩ => ⟨S8x8192x1024, .f32⟩
  | .hbm, ⟨34, _⟩ => ⟨S8x1x1024, .f32⟩
  | .hbm, ⟨35, _⟩ => ⟨S_, .f32⟩
  | .hbm, ⟨36, _⟩ => ⟨S8x1x1024, .f32⟩
  | .hbm, ⟨37, _⟩ => ⟨S8x1x1024, .f32⟩
  | .hbm, ⟨38, _⟩ => ⟨S8x8192x1024, .f32⟩
  | .hbm, ⟨39, _⟩ => ⟨S8x8192x1024, .f32⟩
  | .hbm, ⟨40, _⟩ => ⟨S8x1x1024, .f32⟩
  | .hbm, ⟨41, _⟩ => ⟨S8x8192x1024, .f32⟩
  | .hbm, ⟨42, _⟩ => ⟨S8x8192x1024, .f32⟩
  | .hbm, ⟨43, _⟩ => ⟨S8x256x1024, .f32⟩
  | .hbm, ⟨44, _⟩ => ⟨S8x256x1024, .f32⟩
  | .hbm, ⟨45, _⟩ => ⟨S_, .f32⟩
  | .hbm, ⟨46, _⟩ => ⟨S8x256, .f32⟩
  | .hbm, ⟨47, _⟩ => ⟨S8x256x1, .f32⟩
  | .hbm, ⟨48, _⟩ => ⟨S_, .f32⟩
  | .hbm, ⟨49, _⟩ => ⟨S8x256x1, .f32⟩
  | .hbm, ⟨50, _⟩ => ⟨S8x256x1, .f32⟩
  | .hbm, ⟨51, _⟩ => ⟨S_, .f32⟩
  | .hbm, ⟨52, _⟩ => ⟨S8x256x1, .f32⟩
  | .hbm, ⟨53, _⟩ => ⟨S8x256x1, .f32⟩
  | .hbm, ⟨54, _⟩ => ⟨S8x256x1, .f32⟩
  | .hbm, ⟨55, _⟩ => ⟨S8x256x1024, .f32⟩
  | .hbm, ⟨56, _⟩ => ⟨S8x256x1024, .f32⟩
  | .hbm, ⟨57, _⟩ => ⟨S1x1x1024, .f32⟩
  | .hbm, ⟨58, _⟩ => ⟨S8x256x1024, .f32⟩
  | .hbm, ⟨59, _⟩ => ⟨S8x256x1024, .f32⟩
  | .hbm, ⟨60, _⟩ => ⟨S1x1x1024, .f32⟩
  | .hbm, ⟨61, _⟩ => ⟨S_, .f32⟩
  | .hbm, ⟨62, _⟩ => ⟨S1x1x1024, .f32⟩
  | .hbm, ⟨63, _⟩ => ⟨S1x1x1024, .f32⟩
  | .hbm, ⟨64, _⟩ => ⟨S8x256x1024, .f32⟩
  | .hbm, ⟨65, _⟩ => ⟨S8x256x1024, .f32⟩
  | .hbm, ⟨66, _⟩ => ⟨S1x1x1024, .f32⟩
  | .hbm, ⟨67, _⟩ => ⟨S8x256x1024, .f32⟩
  | .hbm, ⟨68, _⟩ => ⟨S8x256x1024, .f32⟩
  | .hbm, ⟨69, _⟩ => ⟨S8x8448x1024, .f32⟩
  | .hbm, ⟨70, _⟩ => ⟨S1024x1536, .f32⟩
  | .hbm, ⟨71, _⟩ => ⟨S8x8448x1536, .f32⟩
  | .hbm, ⟨72, _⟩ => ⟨S1024x3072, .f32⟩
  | .hbm, ⟨73, _⟩ => ⟨S8x8448x3072, .f32⟩
  | .hbm, ⟨74, _⟩ => ⟨S8x8448x3072, .f32⟩
  | .hbm, ⟨75, _⟩ => ⟨S8x8448x3072, .f32⟩
  | .hbm, ⟨76, _⟩ => ⟨S_, .f32⟩
  | .hbm, ⟨77, _⟩ => ⟨S8x8448x3072, .f32⟩
  | .hbm, ⟨78, _⟩ => ⟨S8x8448x3072, .f32⟩
  | .hbm, ⟨79, _⟩ => ⟨S_, .f32⟩
  | .hbm, ⟨80, _⟩ => ⟨S8x8448x3072, .f32⟩
  | .hbm, ⟨81, _⟩ => ⟨S8x8448x3072, .f32⟩
  | .hbm, ⟨82, _⟩ => ⟨S8x8448x1536, .bf16⟩
  | .hbm, ⟨83, _⟩ => ⟨S8x8448x3072, .bf16⟩
  | _, _ => ⟨S8x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_cst_0 : Ref sig .tc := ⟨.hbm, 22, rfl⟩
abbrev main_v4 : Ref sig .tc := ⟨.hbm, 23, rfl⟩
abbrev main_v5 : Ref sig .tc := ⟨.hbm, 24, rfl⟩
abbrev main_cst_1 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_3 : Ref sig .tc := ⟨.hbm, 45, rfl⟩
abbrev main_v24 : Ref sig .tc := ⟨.hbm, 46, rfl⟩
abbrev main_v25 : Ref sig .tc := ⟨.hbm, 47, rfl⟩
abbrev main_cst_4 : Ref sig .tc := ⟨.hbm, 48, rfl⟩
abbrev main_v26 : Ref sig .tc := ⟨.hbm, 49, rfl⟩
abbrev main_v27 : Ref sig .tc := ⟨.hbm, 50, rfl⟩
abbrev main_cst_5 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_7 : Ref sig .tc := ⟨.hbm, 76, rfl⟩
abbrev main_v51 : Ref sig .tc := ⟨.hbm, 77, rfl⟩
abbrev main_v52 : Ref sig .tc := ⟨.hbm, 78, rfl⟩
abbrev main_cst_8 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩

abbrev nD : Nat := 1
abbrev τ : Topo := Topo.v7x

variable {F : FTy → Type} [FloatOps F]
-- ==== Proof.Step.lean ====
/-
The arithmetic of one run of the kernel's body, named: a chunk of 256 keys is scored against a tile of
1024 queries, and the running column maximum and the running weighted sum of the values take it in. The
body's loops are this recursion (Proof/Loop*.lean), and its value is read off it (Proof/Tile.lean).
-/
module

public import proofs.«01_k».proof.Proof.Gen.KernelIdeal.Loops
public import Idealize.ShloMosaic.Lib.Pointwise.Index
public import Idealize.ShloMosaic.Lib.Pipeline.FrameBody
public import Idealize.ShloMosaic.Lib.Pipeline.ValueKit
public import Idealize.ShloMosaic.Lib.WritesUnit
public import Idealize.ShloMosaic.Lib.VecWindow

@[expose] public section

noncomputable section

namespace Cert.Mla

open Idealize.ShloMosaic Idealize.ShloMosaic.TcCoe
open Cert.KernelIdeal Cert.KernelIdeal.Gen

variable {F : FTy → Type} [FloatOps F]

/-- The scores of a chunk of keys against a tile of queries: keys down the rows, queries along the lanes. -/
def score (q : FVec F S128x1024 .bf16) (k : Vec F S1x256x128 .bf16) : FVec F S256x1024 .f32 :=
  matmul dot_S256x128_S128x1024_S256x1024_1_0_0_1_n_n none
    (shapeCast S256x128 k shapeCasts_S1x256x128_S256x128) q (constant S256x1024 .f32 0x00000000#32)

/-- The greatest score of each query over a chunk. -/
def colMax (s : FVec F S256x1024 .f32) : FVec F S1x1024 .f32 :=
  shapeCast S1x1024 (multiReduction .maximumf [0] S1024 s 0xFF800000#32 reduces_S256x1024_S1024 (.inl rfl) rfl)
    shapeCasts_S1024_S1x1024

/-- The running weighted sum after a chunk: the old one rescaled from the maximum `m` to `m'`, and the chunk's
values weighted by its scores taken from `m'`. -/
def newAcc (m m' : FVec F S1x1024 .f32) (a : FVec F S80x1024 .f32) (s : FVec F S256x1024 .f32)
    (v : Vec F S1x1x80x256 .bf16) : FVec F S80x1024 .f32 :=
  addf (mulf (broadcastTo S80x1024 (exp2 (subf m m')) broadcasts_S1x1024_S80x1024) a)
    (matmul dot_S80x256_S256x1024_S80x1024_1_0_0_1_n_n none (shapeCast S80x256 v shapeCasts_S1x1x80x256_S80x256)
      (truncf .bf16 (exp2 (subf s (broadcastTo S256x1024 m' broadcasts_S1x1024_S256x1024))) bitsLt_bf16_f32)
      (constant S80x1024 .f32 0x00000000#32))

/-- The block of 1024 queries from lane `o` of the block of queries, as it is loaded. -/
def qBlock (x0 : Vec F S1x128x4096 .bf16) (o : ℕ) : Vec F S1x128x1024 .bf16 := fun y : S1x128x1024.Idx =>
  x0 (ix3 (n0 := 1) (n1 := 128) (n2 := 4096) ⟨0, by omega⟩ ⟨(y 1).val, (y 1).isLt⟩
    ⟨(o + (y 2).val) % 4096, Nat.mod_lt _ (by omega)⟩)

/-- The tile of 1024 queries from lane `o` of the block of queries. -/
def qTile (x0 : Vec F S1x128x4096 .bf16) (o : ℕ) : FVec F S128x1024 .bf16 :=
  shapeCast S128x1024 (qBlock x0 o) shapeCasts_S1x128x1024_S128x1024

/-- Chunk `j` of the keys: rows `256 j` to `256 j + 255`. -/
def kChunk (x1 : Vec F S1x8448x128 .bf16) (j : ℕ) : Vec F S1x256x128 .bf16 := fun y : S1x256x128.Idx =>
  x1 (ix3 (n0 := 1) (n1 := 8448) (n2 := 128) ⟨0, by omega⟩ ⟨(256 * j + (y 1).val) % 8448, Nat.mod_lt _ (by omega)⟩
    ⟨(y 2).val, (y 2).isLt⟩)

/-- Chunk `j` of the values, which are stored chunk by chunk. -/
def vChunk (x2 : Vec F S1x33x80x256 .bf16) (j : ℕ) : Vec F S1x1x80x256 .bf16 := fun y : S1x1x80x256.Idx =>
  x2 (ix4 (n0 := 1) (n1 := 33) (n2 := 80) (n3 := 256) ⟨0, by omega⟩ ⟨j % 33, Nat.mod_lt _ (by omega)⟩
    ⟨(y 2).val, (y 2).isLt⟩ ⟨(y 3).val, (y 3).isLt⟩)

/-- The scores of chunk `j`. -/
def scoreAt (q : FVec F S128x1024 .bf16) (x1 : Vec F S1x8448x128 .bf16) (j : ℕ) : FVec F S256x1024 .f32 :=
  score q (kChunk x1 j)

/-- The running maximum before chunk `j`. -/
def runMax (q : FVec F S128x1024 .bf16) (x1 : Vec F S1x8448x128 .bf16) : ℕ → FVec F S1x1024 .f32
  | 0 => broadcast S1x1024 (Scalar.ofBits .f32 0xF149F2CA#32)
  | j + 1 => maximumf (runMax q x1 j) (colMax (scoreAt q x1 j))

/-- The running weighted sum before chunk `j`. -/
def runAcc (q : FVec F S128x1024 .bf16) (x1 : Vec F S1x8448x128 .bf16) (x2 : Vec F S1x33x80x256 .bf16) :
    ℕ → FVec F S80x1024 .f32
  | 0 => broadcast S80x1024 (Scalar.ofBits .f32 0x00000000#32)
  | j + 1 => newAcc (runMax q x1 j) (runMax q x1 (j + 1)) (runAcc q x1 x2 j) (scoreAt q x1 j) (vChunk x2 j)

/-- What a loop of the body carries before chunk `j`: the running maximum and sum, and the greatest scores of the
two chunks scored ahead. -/
def carry (q : FVec F S128x1024 .bf16) (x1 : Vec F S1x8448x128 .bf16) (x2 : Vec F S1x33x80x256 .bf16) (j : ℕ) :
    FVec F S1x1024 .f32 × FVec F S80x1024 .f32 × FVec F S1x1024 .f32 × FVec F S1x1024 .f32 :=
  (runMax q x1 j, runAcc q x1 x2 j, colMax (scoreAt q x1 j), colMax (scoreAt q x1 (j + 1)))

/-- The tile of results: the weighted sums of the 64 columns of values, divided by the sum of the weights, which
stands in row 64 (the values have a column of ones there). -/
def tileOut (q : FVec F S128x1024 .bf16) (x1 : Vec F S1x8448x128 .bf16) (x2 : Vec F S1x33x80x256 .bf16) :
    FVec F S1x64x1024 .bf16 :=
  shapeCast S1x64x1024
    (truncf .bf16 (divf (extractStridedSlice S64x1024 ![0, 0] (runAcc q x1 x2 33) slices_S80x1024_o0_0_S64x1024)
      (broadcastTo S64x1024 (extractStridedSlice S1x1024 ![64, 0] (runAcc q x1 x2 33) slices_S80x1024_o64_0_S1x1024)
        broadcasts_S1x1024_S64x1024)) bitsLt_bf16_f32)
    shapeCasts_S64x1024_S1x64x1024

/-- The block of results: lane `l` is lane `l % 1024` of the tile of queries from lane `1024 (l / 1024)`. -/
def blockOut (x0 : Vec F S1x128x4096 .bf16) (x1 : Vec F S1x8448x128 .bf16) (x2 : Vec F S1x33x80x256 .bf16) :
    Vec F S1x64x4096 .bf16 := fun y : S1x64x4096.Idx =>
  tileOut (qTile x0 (1024 * ((y 2).val / 1024))) x1 x2 (ix3 (n0 := 1) (n1 := 64) (n2 := 1024) ⟨0, by omega⟩
    ⟨(y 1).val, (y 1).isLt⟩ ⟨(y 2).val % 1024, Nat.mod_lt _ (by omega)⟩)

/-- The maximum after the last three chunks, from that before them. -/
theorem runAcc_33 (q : FVec F S128x1024 .bf16) (x1 : Vec F S1x8448x128 .bf16) (x2 : Vec F S1x33x80x256 .bf16) :
    runAcc q x1 x2 33
      = newAcc (maximumf (maximumf (runMax q x1 30) (colMax (scoreAt q x1 30))) (colMax (scoreAt q x1 31)))
          (maximumf (maximumf (maximumf (runMax q x1 30) (colMax (scoreAt q x1 30))) (colMax (scoreAt q x1 31)))
            (colMax (scoreAt q x1 32)))
          (newAcc (maximumf (runMax q x1 30) (colMax (scoreAt q x1 30)))
            (maximumf (maximumf (runMax q x1 30) (colMax (scoreAt q x1 30))) (colMax (scoreAt q x1 31)))
            (newAcc (runMax q x1 30) (maximumf (runMax q x1 30) (colMax (scoreAt q x1 30))) (runAcc q x1 x2 30)
              (scoreAt q x1 30) (vChunk x2 30))
            (scoreAt q x1 31) (vChunk x2 31))
          (scoreAt q x1 32) (vChunk x2 32) := rfl

/-- A load of 1024 lanes of queries from lane `o` is that block of them. -/
theorem readAt_q {sig' : RefSig} {κ : Kind} {sp : Space} (v : View sig' κ sp S1x128x4096 .bf16)
    (f : v.ty.Contents (Elt F)) (o : ℕ) (ho : o + 1024 ≤ 4096) (inb) :
    v.readAt (Elt F) (Rect.unit (s := S1x128x4096) ![0, 0, o] S1x128x1024.size inb).toLoadRect f
      = qBlock (v.read (Elt F) f) o := by
  funext y
  rw [View.readAt_eq_ld]
  refine View.ld_unit_apply_of _ _ _ _ y _ (fun a => ?_)
  have h2 : (y 2).val < 1024 := (y 2).isLt
  have h0 : (y 0).val < 1 := (y 0).isLt
  match a with
  | ⟨0, _⟩ => show 0 = 0 + (y 0).val; omega
  | ⟨1, _⟩ => show (y 1).val = 0 + (y 1).val; omega
  | ⟨2, _⟩ => show (o + (y 2).val) % 4096 = o + (y 2).val; omega

/-- A load of 256 rows of keys from row `256 j` is chunk `j`. -/
theorem readAt_k {sig' : RefSig} {κ : Kind} {sp : Space} (v : View sig' κ sp S1x8448x128 .bf16)
    (f : v.ty.Contents (Elt F)) (j : ℕ) (hj : j < 33) {off : Fin 3 → ℕ} (inb) (h : off = ![0, 256 * j, 0]) :
    v.readAt (Elt F) (Rect.unit (s := S1x8448x128) off S1x256x128.size inb).toLoadRect f
      = kChunk (v.read (Elt F) f) j := by
  subst h
  funext y
  rw [View.readAt_eq_ld]
  refine View.ld_unit_apply_of _ _ _ _ y _ (fun a => ?_)
  have h1 : (y 1).val < 256 := (y 1).isLt
  have h0 : (y 0).val < 1 := (y 0).isLt
  match a with
  | ⟨0, _⟩ => show 0 = 0 + (y 0).val; omega
  | ⟨1, _⟩ => show (256 * j + (y 1).val) % 8448 = 256 * j + (y 1).val; omega
  | ⟨2, _⟩ => show (y 2).val = 0 + (y 2).val; omega

/-- A load of a chunk of values is that chunk. -/
theorem readAt_v {sig' : RefSig} {κ : Kind} {sp : Space} (v : View sig' κ sp S1x33x80x256 .bf16)
    (f : v.ty.Contents (Elt F)) (j : ℕ) (hj : j < 33) {off : Fin 4 → ℕ} (inb) (h : off = ![0, j, 0, 0]) :
    v.readAt (Elt F) (Rect.unit (s := S1x33x80x256) off S1x1x80x256.size inb).toLoadRect f
      = vChunk (v.read (Elt F) f) j := by
  subst h
  funext y
  rw [View.readAt_eq_ld]
  refine View.ld_unit_apply_of _ _ _ _ y _ (fun a => ?_)
  have h1 : (y 1).val < 1 := (y 1).isLt
  have h0 : (y 0).val < 1 := (y 0).isLt
  match a with
  | ⟨0, _⟩ => show 0 = 0 + (y 0).val; omega
  | ⟨1, _⟩ => show j % 33 = j + (y 1).val; omega
  | ⟨2, _⟩ => show (y 2).val = 0 + (y 2).val; omega
  | ⟨3, _⟩ => show (y 3).val = 0 + (y 3).val; omega

/-- A load of the whole of a buffer of scores after two lists of stores. -/
theorem readCov_whole {sig' : RefSig} {κ : Kind} {sp : Space} (v : View sig' κ sp S256x1024 .f32)
    (L L' : List (View.Piece (Elt F) S256x1024 .f32)) {off : Fin 2 → ℕ} (inb) (h : ∀ a, off a = 0) :
    v.readCov (L ++ L') (Rect.unit (s := S256x1024) off S256x1024.size inb).toLoadRect
      = v.read (Elt F) (v.writes (Elt F) (v.writes (Elt F) v.junk L') L) := by
  rw [← View.writes_append]
  exact View.ld_unit_lit inb _ h

/-- A buffer of scores after a store of the whole of it. -/
theorem read_whole {sig' : RefSig} {κ : Kind} {sp : Space} (v : View sig' κ sp S256x1024 .f32) (f : v.ty.Contents (Elt F))
    (p p' : FVec F S256x1024 .f32) (L : List (View.Piece (Elt F) S256x1024 .f32)) (inb) (h : p = p') :
    v.read (Elt F) (v.writes (Elt F) f (⟨Rect.unit (s := S256x1024) ![0, 0] ![256, 1024] inb, p⟩ :: L)) = p' := by
  subst h
  exact View.read_writes_full v f inb p L

/-- A load of the whole of a buffer of scores after a store of the whole of it. -/
theorem readCov_cons_whole {sig' : RefSig} {κ : Kind} {sp : Space} (v : View sig' κ sp S256x1024 .f32)
    (p : FVec F S256x1024 .f32) (L : List (View.Piece (Elt F) S256x1024 .f32)) (inb inb') :
    v.readCov (⟨Rect.unit (s := S256x1024) ![0, 0] ![256, 1024] inb, p⟩ :: L)
      (Rect.unit (s := S256x1024) ![0, 0] ![256, 1024] inb').toLoadRect = p := by
  have e := readCov_whole v (⟨Rect.unit (s := S256x1024) ![0, 0] ![256, 1024] inb, p⟩ :: L) [] inb' (by decide)
  rw [List.append_nil] at e
  exact e.trans (read_whole _ _ _ _ _ _ rfl)

/-- Stores of the four tiles of results, side by side, leave the block of results. -/
theorem read_tiles {sig' : RefSig} {κ : Kind} {sp : Space} (v : View sig' κ sp S1x64x4096 .bf16)
    (f : v.ty.Contents (Elt F)) (x0 : Vec F S1x128x4096 .bf16) (x1 : Vec F S1x8448x128 .bf16)
    (x2 : Vec F S1x33x80x256 .bf16) {p0 p1 p2 p3 : FVec F S1x64x1024 .bf16} (i0 i1 i2 i3)
    (h0 : p0 = tileOut (qTile x0 0) x1 x2) (h1 : p1 = tileOut (qTile x0 1024) x1 x2)
    (h2 : p2 = tileOut (qTile x0 2048) x1 x2) (h3 : p3 = tileOut (qTile x0 3072) x1 x2) :
    v.read (Elt F) (v.writes (Elt F) f
      [⟨Rect.unit (s := S1x64x4096) ![0, 0, 3072] S1x64x1024.size i3, p3⟩,
        ⟨Rect.unit (s := S1x64x4096) ![0, 0, 2048] S1x64x1024.size i2, p2⟩,
        ⟨Rect.unit (s := S1x64x4096) ![0, 0, 1024] S1x64x1024.size i1, p1⟩,
        ⟨Rect.unit (s := S1x64x4096) ![0, 0, 0] S1x64x1024.size i0, p0⟩]) = blockOut x0 x1 x2 := by
  subst h0 h1 h2 h3
  funext (y : S1x64x4096.Idx)
  have y0 : (y 0).val < 1 := (y 0).isLt
  have y2 : (y 2).val < 4096 := (y 2).isLt
  have hit : ∀ (o : ℕ) (a : Fin 3), 1024 * ((y 2).val / 1024) = o → (y a).val = (![0, 0, o] : Fin 3 → ℕ) a
      + ((ix3 (n0 := 1) (n1 := 64) (n2 := 1024) ⟨0, by omega⟩ ⟨(y 1).val, (y 1).isLt⟩
          ⟨(y 2).val % 1024, Nat.mod_lt _ (by omega)⟩ : S1x64x1024.Idx) a).val := by
    intro o a ho
    match a with
    | ⟨0, _⟩ => show (y 0).val = 0 + 0; omega
    | ⟨1, _⟩ => show (y 1).val = 0 + (y 1).val; omega
    | ⟨2, _⟩ => show (y 2).val = o + (y 2).val % 1024; omega
  show _ = tileOut (qTile x0 (1024 * ((y 2).val / 1024))) x1 x2 _
  have hc : (y 2).val / 1024 = 0 ∨ (y 2).val / 1024 = 1 ∨ (y 2).val / 1024 = 2 ∨ (y 2).val / 1024 = 3 := by omega
  rcases hc with hc | hc | hc | hc
  · rw [View.read_writes_cons_unit_of_not_mem v f i3 _ _ y rfl 2 (.inl (show (y 2).val < 3072 by omega)),
      View.read_writes_cons_unit_of_not_mem v f i2 _ _ y rfl 2 (.inl (show (y 2).val < 2048 by omega)),
      View.read_writes_cons_unit_of_not_mem v f i1 _ _ y rfl 2 (.inl (show (y 2).val < 1024 by omega)),
      View.read_writes_cons_unit_of_mem v f i0 _ _ y _ rfl (fun a => hit 0 a (by omega)), hc]
  · rw [View.read_writes_cons_unit_of_not_mem v f i3 _ _ y rfl 2 (.inl (show (y 2).val < 3072 by omega)),
      View.read_writes_cons_unit_of_not_mem v f i2 _ _ y rfl 2 (.inl (show (y 2).val < 2048 by omega)),
      View.read_writes_cons_unit_of_mem v f i1 _ _ y _ rfl (fun a => hit 1024 a (by omega)), hc]
  · rw [View.read_writes_cons_unit_of_not_mem v f i3 _ _ y rfl 2 (.inl (show (y 2).val < 3072 by omega)),
      View.read_writes_cons_unit_of_mem v f i2 _ _ y _ rfl (fun a => hit 2048 a (by omega)), hc]
  · rw [View.read_writes_cons_unit_of_mem v f i3 _ _ y _ rfl (fun a => hit 3072 a (by omega)), hc]

end Cert.Mla
-- ==== Proof.Loop1.lean ====
/-
The first loop of the body (first tile of 1024 queries): each of its two trips takes in fifteen chunks of keys, so
from the recursion's state at chunk 0 it ends in the state at chunk 30.
-/
module

public import proofs.«01_k».proof.Proof.Step
public import Idealize.ShloMosaic.Lib.Tactic.RunNames
public import Idealize.ShloMosaic.Lib.VecWindow

@[expose] public section

noncomputable section

namespace Cert.Mla

open Idealize.ShloMosaic Idealize.ShloMosaic.TcCoe Idealize.ShloMosaic.Tactic
open Cert.KernelIdeal Cert.KernelIdeal.Gen

variable {F : FTy → Type} [FloatOps F]
variable (𝒱 : Variants) (c : Dev nD) (bd : Option 𝒱.V) (i : grid0.Coords)
  (arg3 : Memref sig .tc .vmem S1x128x4096 .bf16) (harg3 : arg3.IsWhole)
  (arg4 : Memref sig .tc .vmem S1x8448x128 .bf16) (harg4 : arg4.IsWhole)
  (arg5 : Memref sig .tc .vmem S1x33x80x256 .bf16) (harg5 : arg5.IsWhole)
  (arg6 : Memref sig .tc .vmem S1x64x4096 .bf16) (harg6 : arg6.IsWhole)
  (arg7 : Memref sig .tc .vmem S256x1024 .f32) (harg7 : arg7.IsWhole)
  (arg8 : Memref sig .tc .vmem S256x1024 .f32) (harg8 : arg8.IsWhole)
  (arg9 : Memref sig .tc .vmem S256x1024 .f32) (harg9 : arg9.IsWhole)
  (v0 : Vec F S1x128x1024 .bf16) (X4 : arg4.view.ty.Contents (Elt F)) (X5 : arg5.view.ty.Contents (Elt F))
  (q : FVec F S128x1024 .bf16) (x1 : Vec F S1x8448x128 .bf16) (x2 : Vec F S1x33x80x256 .bf16)

set_option maxHeartbeats 4000000 in
set_option maxRecDepth 16384 in
/-- A trip carries the recursion's state fifteen chunks on, the next two chunks' scores in the first two buffers. -/
theorem trip1 (hq : shapeCast S128x1024 v0 shapeCasts_S1x128x1024_S128x1024 = q) (hX4 : arg4.view.read (Elt F) X4 = x1) (hX5 : arg5.view.read (Elt F) X5 = x2)
    (k : Fin k0_t1_loop.trips) (f7 : arg7.view.ty.Contents (Elt F)) (f8 : arg8.view.ty.Contents (Elt F))
    (f9 : arg9.view.ty.Contents (Elt F)) (h7 : arg7.view.read (Elt F) f7 = scoreAt q x1 (15 * k))
    (h8 : arg8.view.read (Elt F) f8 = scoreAt q x1 (15 * k + 1)) :
    tripR_k0_t1 𝒱 c bd i arg3 harg3 arg4 harg4 arg5 harg5 arg6 harg6 arg7 harg7 arg8 harg8 arg9 harg9 v0 X4 X5 k
        (carry q x1 x2 (15 * k)) f7 f8 f9 = carry q x1 x2 (15 * k + 15)
    ∧ arg7.view.read (Elt F) (arg7.view.writes (Elt F) f7 (tripL_k0_t1 𝒱 c bd i arg3 harg3 arg4 harg4 arg5 harg5
        arg6 harg6 arg7 harg7 arg8 harg8 arg9 harg9 v0 X4 X5 k (carry q x1 x2 (15 * k)) f7 f8 f9).1)
      = scoreAt q x1 (15 * k + 15)
    ∧ arg8.view.read (Elt F) (arg8.view.writes (Elt F) f8 (tripL_k0_t1 𝒱 c bd i arg3 harg3 arg4 harg4 arg5 harg5
        arg6 harg6 arg7 harg7 arg8 harg8 arg9 harg9 v0 X4 X5 k (carry q x1 x2 (15 * k)) f7 f8 f9).2.1)
      = scoreAt q x1 (15 * k + 16) := by
  have hk : k.val < 2 := Nat.lt_of_lt_of_le k.isLt k0_t1_abs.2.1
  have rk : ∀ (r : ℕ) (_ : r < 15) (inb), arg4.view.readAt (Elt F)
      (Rect.unit (s := S1x8448x128) (k0_off1 k (BitVec.ofNat 32 r)) S1x256x128.size inb).toLoadRect X4
        = kChunk x1 (15 * k + r + 2) := fun r hr inb =>
    (readAt_k arg4.view X4 (15 * k + r + 2) (by omega) inb
      ((k0_off1_eq k ⟨r, hr⟩).trans (by simp only; congr 2; omega))).trans (by rw [hX4])
  have rv : ∀ (r : ℕ) (_ : r < 15) (inb), arg5.view.readAt (Elt F)
      (Rect.unit (s := S1x33x80x256) (k0_off2 k (BitVec.ofNat 32 r)) S1x1x80x256.size inb).toLoadRect X5
        = vChunk x2 (15 * k + r) := fun r hr inb =>
    (readAt_v arg5.view X5 (15 * k + r) (by omega) inb (k0_off2_eq k ⟨r, hr⟩)).trans (by rw [hX5])
  subst hq
  unfold tripR_k0_t1 tripL_k0_t1 trip_k0_t1
  dsimp only
  refine ⟨?_, ?_, ?_⟩ <;>
  · sl_unfold_run_values
    sl_unfold_run_names
    simp (disch := decide) only [rk, rv, View.readCov_cons_unit_lit', View.readCov_unit_lit', View.readAt_eq_ld, h7, h8,
      View.ld_unit_lit']
    simp only [carry, runMax, runAcc, newAcc, colMax, scoreAt, score]
    open_payloads
    simp only [shapeCast_id]
    first | rfl | exact View.read_writes_full _ _ _ _ _

/-- The loop, from the state at chunk 0 with the first two chunks' scores in the buffers, ends in the state at
chunk 30, with the scores of chunks 30 and 31 in the buffers. -/
theorem loop1 (hq : shapeCast S128x1024 v0 shapeCasts_S1x128x1024_S128x1024 = q) (hX4 : arg4.view.read (Elt F) X4 = x1) (hX5 : arg5.view.read (Elt F) X5 = x2)
    (G7 : arg7.view.ty.Contents (Elt F)) (G8 : arg8.view.ty.Contents (Elt F)) (G9 : arg9.view.ty.Contents (Elt F))
    (h7 : arg7.view.read (Elt F) G7 = scoreAt q x1 0) (h8 : arg8.view.read (Elt F) G8 = scoreAt q x1 1) :
    ∀ n ≤ 2, ∀ s, s = st_k0_t1 𝒱 c bd i arg3 harg3 arg4 harg4 arg5 harg5 arg6 harg6 arg7 harg7 arg8 harg8 arg9 harg9
        v0 X4 X5 G7 G8 G9 (carry q x1 x2 0) n →
      s.1 = carry q x1 x2 (15 * n)
      ∧ arg7.view.read (Elt F) (arg7.view.writes (Elt F) G7 s.2.1) = scoreAt q x1 (15 * n)
      ∧ arg8.view.read (Elt F) (arg8.view.writes (Elt F) G8 s.2.2.1) = scoreAt q x1 (15 * n + 1)
  | 0, _, _, rfl => ⟨rfl, h7, h8⟩
  | n + 1, hn, _, rfl => by
    obtain ⟨e, e7, e8⟩ := loop1 hq hX4 hX5 G7 G8 G9 h7 h8 n (by omega) _ rfl
    have key := trip1 𝒱 c bd i arg3 harg3 arg4 harg4 arg5 harg5 arg6 harg6 arg7 harg7 arg8 harg8 arg9 harg9 v0 X4 X5
      q x1 x2 hq hX4 hX5 ⟨n, by have : k0_t1_loop.trips = 2 := rfl; omega⟩ _ _
      (arg9.view.writes (Elt F) G9 (st_k0_t1 𝒱 c bd i arg3 harg3 arg4 harg4 arg5 harg5 arg6 harg6 arg7 harg7 arg8 harg8
        arg9 harg9 v0 X4 X5 G7 G8 G9 (carry q x1 x2 0) n).2.2.2) e7 e8
    rw [← e] at key
    rw [st_k0_t1_succ (k := ⟨n, by have : k0_t1_loop.trips = 2 := rfl; omega⟩)]
    dsimp only
    rw [View.writes_append, View.writes_append]
    exact key

section End

variable {𝒱 c bd i arg3 harg3 arg4 harg4 arg5 harg5 arg6 harg6 arg7 harg7 arg8 harg8 arg9 harg9} {v0} {X4 X5} {q x1 x2}
  {init : FVec F S1x1024 .f32 × FVec F S80x1024 .f32 × FVec F S1x1024 .f32 × FVec F S1x1024 .f32}
  {L7 L8 : List (View.Piece (Elt F) S256x1024 .f32)} {G9 : arg9.view.ty.Contents (Elt F)} {n : Nat}

/-- What the loop leaves when it starts from the first two chunks' scores: the carried state before chunk 30, and in the
two buffers the scores of chunks 30 and 31. -/
theorem loop1_end {st} (hst : st_k0_t1 𝒱 c bd i arg3 harg3 arg4 harg4 arg5 harg5 arg6 harg6 arg7 harg7 arg8 harg8 arg9 harg9 v0 X4 X5
      (arg7.view.writes (Elt F) arg7.view.junk L7) (arg8.view.writes (Elt F) arg8.view.junk L8) G9 init
      n = st)
    (hX4 : arg4.view.read (Elt F) X4 = x1) (hX5 : arg5.view.read (Elt F) X5 = x2)
    (hq : shapeCast S128x1024 v0 shapeCasts_S1x128x1024_S128x1024 = q) (hn : n = 2) (hi : init = carry q x1 x2 0)
    (h7 : arg7.view.read (Elt F) (arg7.view.writes (Elt F) arg7.view.junk L7) = scoreAt q x1 0)
    (h8 : arg8.view.read (Elt F) (arg8.view.writes (Elt F) arg8.view.junk L8) = scoreAt q x1 1) :
    st.1 = carry q x1 x2 30
      ∧ (∀ inb, arg7.view.readCov (st.2.1 ++ L7) (Rect.unit (s := S256x1024) ![0, 0] ![256, 1024] inb).toLoadRect
          = scoreAt q x1 30)
      ∧ (∀ inb, arg8.view.readCov (st.2.2.1 ++ L8) (Rect.unit (s := S256x1024) ![0, 0] ![256, 1024] inb).toLoadRect
          = scoreAt q x1 31) := by
  subst hi hn hst
  have e := loop1 𝒱 c bd i arg3 harg3 arg4 harg4 arg5 harg5 arg6 harg6 arg7 harg7 arg8 harg8 arg9 harg9 v0
    X4 X5 q x1 x2 hq hX4 hX5
    _ _ G9 h7 h8 2 le_rfl _ rfl
  exact ⟨e.1, fun inb => (readCov_whole _ _ _ inb (by decide)).trans e.2.1,
    fun inb => (readCov_whole _ _ _ inb (by decide)).trans e.2.2⟩

end End

end Cert.Mla
-- ==== Proof.Loop2.lean ====
/-
The second loop of the body (second tile of 1024 queries): each of its two trips takes in fifteen chunks of keys, so
from the recursion's state at chunk 0 it ends in the state at chunk 30.
-/
module

public import proofs.«01_k».proof.Proof.Step
public import Idealize.ShloMosaic.Lib.Tactic.RunNames
public import Idealize.ShloMosaic.Lib.VecWindow

@[expose] public section

noncomputable section

namespace Cert.Mla

open Idealize.ShloMosaic Idealize.ShloMosaic.TcCoe Idealize.ShloMosaic.Tactic
open Cert.KernelIdeal Cert.KernelIdeal.Gen

variable {F : FTy → Type} [FloatOps F]
variable (𝒱 : Variants) (c : Dev nD) (bd : Option 𝒱.V) (i : grid0.Coords)
  (arg3 : Memref sig .tc .vmem S1x128x4096 .bf16) (harg3 : arg3.IsWhole)
  (arg4 : Memref sig .tc .vmem S1x8448x128 .bf16) (harg4 : arg4.IsWhole)
  (arg5 : Memref sig .tc .vmem S1x33x80x256 .bf16) (harg5 : arg5.IsWhole)
  (arg6 : Memref sig .tc .vmem S1x64x4096 .bf16) (harg6 : arg6.IsWhole)
  (arg7 : Memref sig .tc .vmem S256x1024 .f32) (harg7 : arg7.IsWhole)
  (arg8 : Memref sig .tc .vmem S256x1024 .f32) (harg8 : arg8.IsWhole)
  (arg9 : Memref sig .tc .vmem S256x1024 .f32) (harg9 : arg9.IsWhole)
  (v87 : FVec F S128x1024 .bf16) (v88 : FVec F S1x1024 .f32) (v89 : FVec F S80x1024 .f32)
  (v99 : FVec F S1x1024 .f32) (v102 : Vec F S1x256x128 .bf16) (X4 : arg4.view.ty.Contents (Elt F)) (X5 : arg5.view.ty.Contents (Elt F))
  (q : FVec F S128x1024 .bf16) (x1 : Vec F S1x8448x128 .bf16) (x2 : Vec F S1x33x80x256 .bf16)

set_option maxHeartbeats 4000000 in
set_option maxRecDepth 16384 in
/-- A trip carries the recursion's state fifteen chunks on, the next two chunks' scores in the first two buffers. -/
theorem trip2 (hq : v87 = q) (hX4 : arg4.view.read (Elt F) X4 = x1) (hX5 : arg5.view.read (Elt F) X5 = x2)
    (k : Fin k0_t2_loop.trips) (f7 : arg7.view.ty.Contents (Elt F)) (f8 : arg8.view.ty.Contents (Elt F))
    (f9 : arg9.view.ty.Contents (Elt F)) (h7 : arg7.view.read (Elt F) f7 = scoreAt q x1 (15 * k))
    (h8 : arg8.view.read (Elt F) f8 = scoreAt q x1 (15 * k + 1)) :
    tripR_k0_t2 𝒱 c bd i arg3 harg3 arg4 harg4 arg5 harg5 arg6 harg6 arg7 harg7 arg8 harg8 arg9 harg9 v87 v88 v89 v99 v102 X4 X5 k
        (carry q x1 x2 (15 * k)) f7 f8 f9 = carry q x1 x2 (15 * k + 15)
    ∧ arg7.view.read (Elt F) (arg7.view.writes (Elt F) f7 (tripL_k0_t2 𝒱 c bd i arg3 harg3 arg4 harg4 arg5 harg5
        arg6 harg6 arg7 harg7 arg8 harg8 arg9 harg9 v87 v88 v89 v99 v102 X4 X5 k (carry q x1 x2 (15 * k)) f7 f8 f9).1)
      = scoreAt q x1 (15 * k + 15)
    ∧ arg8.view.read (Elt F) (arg8.view.writes (Elt F) f8 (tripL_k0_t2 𝒱 c bd i arg3 harg3 arg4 harg4 arg5 harg5
        arg6 harg6 arg7 harg7 arg8 harg8 arg9 harg9 v87 v88 v89 v99 v102 X4 X5 k (carry q x1 x2 (15 * k)) f7 f8 f9).2.1)
      = scoreAt q x1 (15 * k + 16) := by
  have hk : k.val < 2 := Nat.lt_of_lt_of_le k.isLt k0_t2_abs.2.1
  have rk : ∀ (r : ℕ) (_ : r < 15) (inb), arg4.view.readAt (Elt F)
      (Rect.unit (s := S1x8448x128) (k0_off3 k (BitVec.ofNat 32 r)) S1x256x128.size inb).toLoadRect X4
        = kChunk x1 (15 * k + r + 2) := fun r hr inb =>
    (readAt_k arg4.view X4 (15 * k + r + 2) (by omega) inb
      ((k0_off3_eq k ⟨r, hr⟩).trans (by simp only; congr 2; omega))).trans (by rw [hX4])
  have rv : ∀ (r : ℕ) (_ : r < 15) (inb), arg5.view.readAt (Elt F)
      (Rect.unit (s := S1x33x80x256) (k0_off4 k (BitVec.ofNat 32 r)) S1x1x80x256.size inb).toLoadRect X5
        = vChunk x2 (15 * k + r) := fun r hr inb =>
    (readAt_v arg5.view X5 (15 * k + r) (by omega) inb (k0_off4_eq k ⟨r, hr⟩)).trans (by rw [hX5])
  subst hq
  unfold tripR_k0_t2 tripL_k0_t2 trip_k0_t2
  dsimp only
  refine ⟨?_, ?_, ?_⟩ <;>
  · sl_unfold_run_values
    sl_unfold_run_names
    simp (disch := decide) only [rk, rv, View.readCov_cons_unit_lit', View.readCov_unit_lit', View.readAt_eq_ld, h7, h8,
      View.ld_unit_lit']
    simp only [carry, runMax, runAcc, newAcc, colMax, scoreAt, score]
    open_payloads
    simp only [shapeCast_id]
    first | rfl | exact View.read_writes_full _ _ _ _ _

/-- The loop, from the state at chunk 0 with the first two chunks' scores in the buffers, ends in the state at
chunk 30, with the scores of chunks 30 and 31 in the buffers. -/
theorem loop2 (hq : v87 = q) (hX4 : arg4.view.read (Elt F) X4 = x1) (hX5 : arg5.view.read (Elt F) X5 = x2)
    (G7 : arg7.view.ty.Contents (Elt F)) (G8 : arg8.view.ty.Contents (Elt F)) (G9 : arg9.view.ty.Contents (Elt F))
    (h7 : arg7.view.read (Elt F) G7 = scoreAt q x1 0) (h8 : arg8.view.read (Elt F) G8 = scoreAt q x1 1) :
    ∀ n ≤ 2, ∀ s, s = st_k0_t2 𝒱 c bd i arg3 harg3 arg4 harg4 arg5 harg5 arg6 harg6 arg7 harg7 arg8 harg8 arg9 harg9
        v87 v88 v89 v99 v102 X4 X5 G7 G8 G9 (carry q x1 x2 0) n →
      s.1 = carry q x1 x2 (15 * n)
      ∧ arg7.view.read (Elt F) (arg7.view.writes (Elt F) G7 s.2.1) = scoreAt q x1 (15 * n)
      ∧ arg8.view.read (Elt F) (arg8.view.writes (Elt F) G8 s.2.2.1) = scoreAt q x1 (15 * n + 1)
  | 0, _, _, rfl => ⟨rfl, h7, h8⟩
  | n + 1, hn, _, rfl => by
    obtain ⟨e, e7, e8⟩ := loop2 hq hX4 hX5 G7 G8 G9 h7 h8 n (by omega) _ rfl
    have key := trip2 𝒱 c bd i arg3 harg3 arg4 harg4 arg5 harg5 arg6 harg6 arg7 harg7 arg8 harg8 arg9 harg9 v87 v88 v89 v99 v102 X4 X5
      q x1 x2 hq hX4 hX5 ⟨n, by have : k0_t2_loop.trips = 2 := rfl; omega⟩ _ _
      (arg9.view.writes (Elt F) G9 (st_k0_t2 𝒱 c bd i arg3 harg3 arg4 harg4 arg5 harg5 arg6 harg6 arg7 harg7 arg8 harg8
        arg9 harg9 v87 v88 v89 v99 v102 X4 X5 G7 G8 G9 (carry q x1 x2 0) n).2.2.2) e7 e8
    rw [← e] at key
    rw [st_k0_t2_succ (k := ⟨n, by have : k0_t2_loop.trips = 2 := rfl; omega⟩)]
    dsimp only
    rw [View.writes_append, View.writes_append]
    exact key

section End

variable {𝒱 c bd i arg3 harg3 arg4 harg4 arg5 harg5 arg6 harg6 arg7 harg7 arg8 harg8 arg9 harg9} {v87 v88 v89 v99 v102} {X4 X5} {q x1 x2}
  {init : FVec F S1x1024 .f32 × FVec F S80x1024 .f32 × FVec F S1x1024 .f32 × FVec F S1x1024 .f32}
  {L7 L8 : List (View.Piece (Elt F) S256x1024 .f32)} {G9 : arg9.view.ty.Contents (Elt F)} {n : Nat}

/-- What the loop leaves when it starts from the first two chunks' scores: the carried state before chunk 30, and in the
two buffers the scores of chunks 30 and 31. -/
theorem loop2_end {st} (hst : st_k0_t2 𝒱 c bd i arg3 harg3 arg4 harg4 arg5 harg5 arg6 harg6 arg7 harg7 arg8 harg8 arg9 harg9 v87 v88 v89 v99 v102 X4 X5
      (arg7.view.writes (Elt F) arg7.view.junk L7) (arg8.view.writes (Elt F) arg8.view.junk L8) G9 init
      n = st)
    (hX4 : arg4.view.read (Elt F) X4 = x1) (hX5 : arg5.view.read (Elt F) X5 = x2)
    (hq : v87 = q) (hn : n = 2) (hi : init = carry q x1 x2 0)
    (h7 : arg7.view.read (Elt F) (arg7.view.writes (Elt F) arg7.view.junk L7) = scoreAt q x1 0)
    (h8 : arg8.view.read (Elt F) (arg8.view.writes (Elt F) arg8.view.junk L8) = scoreAt q x1 1) :
    st.1 = carry q x1 x2 30
      ∧ (∀ inb, arg7.view.readCov (st.2.1 ++ L7) (Rect.unit (s := S256x1024) ![0, 0] ![256, 1024] inb).toLoadRect
          = scoreAt q x1 30)
      ∧ (∀ inb, arg8.view.readCov (st.2.2.1 ++ L8) (Rect.unit (s := S256x1024) ![0, 0] ![256, 1024] inb).toLoadRect
          = scoreAt q x1 31) := by
  subst hi hn hst
  have e := loop2 𝒱 c bd i arg3 harg3 arg4 harg4 arg5 harg5 arg6 harg6 arg7 harg7 arg8 harg8 arg9 harg9 v87 v88 v89 v99 v102
    X4 X5 q x1 x2 hq hX4 hX5
    _ _ G9 h7 h8 2 le_rfl _ rfl
  exact ⟨e.1, fun inb => (readCov_whole _ _ _ inb (by decide)).trans e.2.1,
    fun inb => (readCov_whole _ _ _ inb (by decide)).trans e.2.2⟩

end End

end Cert.Mla
-- ==== Proof.Loop3.lean ====
/-
The third loop of the body (third tile of 1024 queries): each of its two trips takes in fifteen chunks of keys, so
from the recursion's state at chunk 0 it ends in the state at chunk 30.
-/
module

public import proofs.«01_k».proof.Proof.Step
public import Idealize.ShloMosaic.Lib.Tactic.RunNames
public import Idealize.ShloMosaic.Lib.VecWindow

@[expose] public section

noncomputable section

namespace Cert.Mla

open Idealize.ShloMosaic Idealize.ShloMosaic.TcCoe Idealize.ShloMosaic.Tactic
open Cert.KernelIdeal Cert.KernelIdeal.Gen

variable {F : FTy → Type} [FloatOps F]
variable (𝒱 : Variants) (c : Dev nD) (bd : Option 𝒱.V) (i : grid0.Coords)
  (arg3 : Memref sig .tc .vmem S1x128x4096 .bf16) (harg3 : arg3.IsWhole)
  (arg4 : Memref sig .tc .vmem S1x8448x128 .bf16) (harg4 : arg4.IsWhole)
  (arg5 : Memref sig .tc .vmem S1x33x80x256 .bf16) (harg5 : arg5.IsWhole)
  (arg6 : Memref sig .tc .vmem S1x64x4096 .bf16) (harg6 : arg6.IsWhole)
  (arg7 : Memref sig .tc .vmem S256x1024 .f32) (harg7 : arg7.IsWhole)
  (arg8 : Memref sig .tc .vmem S256x1024 .f32) (harg8 : arg8.IsWhole)
  (arg9 : Memref sig .tc .vmem S256x1024 .f32) (harg9 : arg9.IsWhole)
  (v173 : FVec F S128x1024 .bf16) (v174 : FVec F S1x1024 .f32) (v175 : FVec F S80x1024 .f32)
  (X4 : arg4.view.ty.Contents (Elt F)) (X5 : arg5.view.ty.Contents (Elt F))
  (q : FVec F S128x1024 .bf16) (x1 : Vec F S1x8448x128 .bf16) (x2 : Vec F S1x33x80x256 .bf16)

set_option maxHeartbeats 4000000 in
set_option maxRecDepth 16384 in
/-- A trip carries the recursion's state fifteen chunks on, the next two chunks' scores in the first two buffers. -/
theorem trip3 (hq : v173 = q) (hX4 : arg4.view.read (Elt F) X4 = x1) (hX5 : arg5.view.read (Elt F) X5 = x2)
    (k : Fin k0_t3_loop.trips) (f7 : arg7.view.ty.Contents (Elt F)) (f8 : arg8.view.ty.Contents (Elt F))
    (f9 : arg9.view.ty.Contents (Elt F)) (h7 : arg7.view.read (Elt F) f7 = scoreAt q x1 (15 * k))
    (h8 : arg8.view.read (Elt F) f8 = scoreAt q x1 (15 * k + 1)) :
    tripR_k0_t3 𝒱 c bd i arg3 harg3 arg4 harg4 arg5 harg5 arg6 harg6 arg7 harg7 arg8 harg8 arg9 harg9 v173 v174 v175 X4 X5 k
        (carry q x1 x2 (15 * k)) f7 f8 f9 = carry q x1 x2 (15 * k + 15)
    ∧ arg7.view.read (Elt F) (arg7.view.writes (Elt F) f7 (tripL_k0_t3 𝒱 c bd i arg3 harg3 arg4 harg4 arg5 harg5
        arg6 harg6 arg7 harg7 arg8 harg8 arg9 harg9 v173 v174 v175 X4 X5 k (carry q x1 x2 (15 * k)) f7 f8 f9).1)
      = scoreAt q x1 (15 * k + 15)
    ∧ arg8.view.read (Elt F) (arg8.view.writes (Elt F) f8 (tripL_k0_t3 𝒱 c bd i arg3 harg3 arg4 harg4 arg5 harg5
        arg6 harg6 arg7 harg7 arg8 harg8 arg9 harg9 v173 v174 v175 X4 X5 k (carry q x1 x2 (15 * k)) f7 f8 f9).2.1)
      = scoreAt q x1 (15 * k + 16) := by
  have hk : k.val < 2 := Nat.lt_of_lt_of_le k.isLt k0_t3_abs.2.1
  have rk : ∀ (r : ℕ) (_ : r < 15) (inb), arg4.view.readAt (Elt F)
      (Rect.unit (s := S1x8448x128) (k0_off5 k (BitVec.ofNat 32 r)) S1x256x128.size inb).toLoadRect X4
        = kChunk x1 (15 * k + r + 2) := fun r hr inb =>
    (readAt_k arg4.view X4 (15 * k + r + 2) (by omega) inb
      ((k0_off5_eq k ⟨r, hr⟩).trans (by simp only; congr 2; omega))).trans (by rw [hX4])
  have rv : ∀ (r : ℕ) (_ : r < 15) (inb), arg5.view.readAt (Elt F)
      (Rect.unit (s := S1x33x80x256) (k0_off6 k (BitVec.ofNat 32 r)) S1x1x80x256.size inb).toLoadRect X5
        = vChunk x2 (15 * k + r) := fun r hr inb =>
    (readAt_v arg5.view X5 (15 * k + r) (by omega) inb (k0_off6_eq k ⟨r, hr⟩)).trans (by rw [hX5])
  subst hq
  unfold tripR_k0_t3 tripL_k0_t3 trip_k0_t3
  dsimp only
  refine ⟨?_, ?_, ?_⟩ <;>
  · sl_unfold_run_values
    sl_unfold_run_names
    simp (disch := decide) only [rk, rv, View.readCov_cons_unit_lit', View.readCov_unit_lit', View.readAt_eq_ld, h7, h8,
      View.ld_unit_lit']
    simp only [carry, runMax, runAcc, newAcc, colMax, scoreAt, score]
    open_payloads
    simp only [shapeCast_id]
    first | rfl | exact View.read_writes_full _ _ _ _ _

/-- The loop, from the state at chunk 0 with the first two chunks' scores in the buffers, ends in the state at
chunk 30, with the scores of chunks 30 and 31 in the buffers. -/
theorem loop3 (hq : v173 = q) (hX4 : arg4.view.read (Elt F) X4 = x1) (hX5 : arg5.view.read (Elt F) X5 = x2)
    (G7 : arg7.view.ty.Contents (Elt F)) (G8 : arg8.view.ty.Contents (Elt F)) (G9 : arg9.view.ty.Contents (Elt F))
    (h7 : arg7.view.read (Elt F) G7 = scoreAt q x1 0) (h8 : arg8.view.read (Elt F) G8 = scoreAt q x1 1) :
    ∀ n ≤ 2, ∀ s, s = st_k0_t3 𝒱 c bd i arg3 harg3 arg4 harg4 arg5 harg5 arg6 harg6 arg7 harg7 arg8 harg8 arg9 harg9
        v173 v174 v175 X4 X5 G7 G8 G9 (carry q x1 x2 0) n →
      s.1 = carry q x1 x2 (15 * n)
      ∧ arg7.view.read (Elt F) (arg7.view.writes (Elt F) G7 s.2.1) = scoreAt q x1 (15 * n)
      ∧ arg8.view.read (Elt F) (arg8.view.writes (Elt F) G8 s.2.2.1) = scoreAt q x1 (15 * n + 1)
  | 0, _, _, rfl => ⟨rfl, h7, h8⟩
  | n + 1, hn, _, rfl => by
    obtain ⟨e, e7, e8⟩ := loop3 hq hX4 hX5 G7 G8 G9 h7 h8 n (by omega) _ rfl
    have key := trip3 𝒱 c bd i arg3 harg3 arg4 harg4 arg5 harg5 arg6 harg6 arg7 harg7 arg8 harg8 arg9 harg9 v173 v174 v175 X4 X5
      q x1 x2 hq hX4 hX5 ⟨n, by have : k0_t3_loop.trips = 2 := rfl; omega⟩ _ _
      (arg9.view.writes (Elt F) G9 (st_k0_t3 𝒱 c bd i arg3 harg3 arg4 harg4 arg5 harg5 arg6 harg6 arg7 harg7 arg8 harg8
        arg9 harg9 v173 v174 v175 X4 X5 G7 G8 G9 (carry q x1 x2 0) n).2.2.2) e7 e8
    rw [← e] at key
    rw [st_k0_t3_succ (k := ⟨n, by have : k0_t3_loop.trips = 2 := rfl; omega⟩)]
    dsimp only
    rw [View.writes_append, View.writes_append]
    exact key

section End

variable {𝒱 c bd i arg3 harg3 arg4 harg4 arg5 harg5 arg6 harg6 arg7 harg7 arg8 harg8 arg9 harg9} {v173 v174 v175} {X4 X5} {q x1 x2}
  {init : FVec F S1x1024 .f32 × FVec F S80x1024 .f32 × FVec F S1x1024 .f32 × FVec F S1x1024 .f32}
  {L7 L8 : List (View.Piece (Elt F) S256x1024 .f32)} {G9 : arg9.view.ty.Contents (Elt F)} {n : Nat}

/-- What the loop leaves when it starts from the first two chunks' scores: the carried state before chunk 30, and in the
two buffers the scores of chunks 30 and 31. -/
theorem loop3_end {st} (hst : st_k0_t3 𝒱 c bd i arg3 harg3 arg4 harg4 arg5 harg5 arg6 harg6 arg7 harg7 arg8 harg8 arg9 harg9 v173 v174 v175 X4 X5
      (arg7.view.writes (Elt F) arg7.view.junk L7) (arg8.view.writes (Elt F) arg8.view.junk L8) G9 init
      n = st)
    (hX4 : arg4.view.read (Elt F) X4 = x1) (hX5 : arg5.view.read (Elt F) X5 = x2)
    (hq : v173 = q) (hn : n = 2) (hi : init = carry q x1 x2 0)
    (h7 : arg7.view.read (Elt F) (arg7.view.writes (Elt F) arg7.view.junk L7) = scoreAt q x1 0)
    (h8 : arg8.view.read (Elt F) (arg8.view.writes (Elt F) arg8.view.junk L8) = scoreAt q x1 1) :
    st.1 = carry q x1 x2 30
      ∧ (∀ inb, arg7.view.readCov (st.2.1 ++ L7) (Rect.unit (s := S256x1024) ![0, 0] ![256, 1024] inb).toLoadRect
          = scoreAt q x1 30)
      ∧ (∀ inb, arg8.view.readCov (st.2.2.1 ++ L8) (Rect.unit (s := S256x1024) ![0, 0] ![256, 1024] inb).toLoadRect
          = scoreAt q x1 31) := by
  subst hi hn hst
  have e := loop3 𝒱 c bd i arg3 harg3 arg4 harg4 arg5 harg5 arg6 harg6 arg7 harg7 arg8 harg8 arg9 harg9 v173 v174 v175
    X4 X5 q x1 x2 hq hX4 hX5
    _ _ G9 h7 h8 2 le_rfl _ rfl
  exact ⟨e.1, fun inb => (readCov_whole _ _ _ inb (by decide)).trans e.2.1,
    fun inb => (readCov_whole _ _ _ inb (by decide)).trans e.2.2⟩

end End

end Cert.Mla
-- ==== Proof.Loop4.lean ====
/-
The fourth loop of the body (fourth tile of 1024 queries): each of its two trips takes in fifteen chunks of keys, so
from the recursion's state at chunk 0 it ends in the state at chunk 30.
-/
module

public import proofs.«01_k».proof.Proof.Step
public import Idealize.ShloMosaic.Lib.Tactic.RunNames
public import Idealize.ShloMosaic.Lib.VecWindow

@[expose] public section

noncomputable section

namespace Cert.Mla

open Idealize.ShloMosaic Idealize.ShloMosaic.TcCoe Idealize.ShloMosaic.Tactic
open Cert.KernelIdeal Cert.KernelIdeal.Gen

variable {F : FTy → Type} [FloatOps F]
variable (𝒱 : Variants) (c : Dev nD) (bd : Option 𝒱.V) (i : grid0.Coords)
  (arg3 : Memref sig .tc .vmem S1x128x4096 .bf16) (harg3 : arg3.IsWhole)
  (arg4 : Memref sig .tc .vmem S1x8448x128 .bf16) (harg4 : arg4.IsWhole)
  (arg5 : Memref sig .tc .vmem S1x33x80x256 .bf16) (harg5 : arg5.IsWhole)
  (arg6 : Memref sig .tc .vmem S1x64x4096 .bf16) (harg6 : arg6.IsWhole)
  (arg7 : Memref sig .tc .vmem S256x1024 .f32) (harg7 : arg7.IsWhole)
  (arg8 : Memref sig .tc .vmem S256x1024 .f32) (harg8 : arg8.IsWhole)
  (arg9 : Memref sig .tc .vmem S256x1024 .f32) (harg9 : arg9.IsWhole)
  (v259 : FVec F S128x1024 .bf16) (v260 : FVec F S1x1024 .f32) (v261 : FVec F S80x1024 .f32)
  (v271 : FVec F S1x1024 .f32) (v281 : FVec F S1x1024 .f32) (X4 : arg4.view.ty.Contents (Elt F)) (X5 : arg5.view.ty.Contents (Elt F))
  (q : FVec F S128x1024 .bf16) (x1 : Vec F S1x8448x128 .bf16) (x2 : Vec F S1x33x80x256 .bf16)

set_option maxHeartbeats 4000000 in
set_option maxRecDepth 16384 in
/-- A trip carries the recursion's state fifteen chunks on, the next two chunks' scores in the first two buffers. -/
theorem trip4 (hq : v259 = q) (hX4 : arg4.view.read (Elt F) X4 = x1) (hX5 : arg5.view.read (Elt F) X5 = x2)
    (k : Fin k0_t4_loop.trips) (f7 : arg7.view.ty.Contents (Elt F)) (f8 : arg8.view.ty.Contents (Elt F))
    (f9 : arg9.view.ty.Contents (Elt F)) (h7 : arg7.view.read (Elt F) f7 = scoreAt q x1 (15 * k))
    (h8 : arg8.view.read (Elt F) f8 = scoreAt q x1 (15 * k + 1)) :
    tripR_k0_t4 𝒱 c bd i arg3 harg3 arg4 harg4 arg5 harg5 arg6 harg6 arg7 harg7 arg8 harg8 arg9 harg9 v259 v260 v261 v271 v281 X4 X5 k
        (carry q x1 x2 (15 * k)) f7 f8 f9 = carry q x1 x2 (15 * k + 15)
    ∧ arg7.view.read (Elt F) (arg7.view.writes (Elt F) f7 (tripL_k0_t4 𝒱 c bd i arg3 harg3 arg4 harg4 arg5 harg5
        arg6 harg6 arg7 harg7 arg8 harg8 arg9 harg9 v259 v260 v261 v271 v281 X4 X5 k (carry q x1 x2 (15 * k)) f7 f8 f9).1)
      = scoreAt q x1 (15 * k + 15)
    ∧ arg8.view.read (Elt F) (arg8.view.writes (Elt F) f8 (tripL_k0_t4 𝒱 c bd i arg3 harg3 arg4 harg4 arg5 harg5
        arg6 harg6 arg7 harg7 arg8 harg8 arg9 harg9 v259 v260 v261 v271 v281 X4 X5 k (carry q x1 x2 (15 * k)) f7 f8 f9).2.1)
      = scoreAt q x1 (15 * k + 16) := by
  have hk : k.val < 2 := Nat.lt_of_lt_of_le k.isLt k0_t4_abs.2.1
  have rk : ∀ (r : ℕ) (_ : r < 15) (inb), arg4.view.readAt (Elt F)
      (Rect.unit (s := S1x8448x128) (k0_off7 k (BitVec.ofNat 32 r)) S1x256x128.size inb).toLoadRect X4
        = kChunk x1 (15 * k + r + 2) := fun r hr inb =>
    (readAt_k arg4.view X4 (15 * k + r + 2) (by omega) inb
      ((k0_off7_eq k ⟨r, hr⟩).trans (by simp only; congr 2; omega))).trans (by rw [hX4])
  have rv : ∀ (r : ℕ) (_ : r < 15) (inb), arg5.view.readAt (Elt F)
      (Rect.unit (s := S1x33x80x256) (k0_off8 k (BitVec.ofNat 32 r)) S1x1x80x256.size inb).toLoadRect X5
        = vChunk x2 (15 * k + r) := fun r hr inb =>
    (readAt_v arg5.view X5 (15 * k + r) (by omega) inb (k0_off8_eq k ⟨r, hr⟩)).trans (by rw [hX5])
  subst hq
  unfold tripR_k0_t4 tripL_k0_t4 trip_k0_t4
  dsimp only
  refine ⟨?_, ?_, ?_⟩ <;>
  · sl_unfold_run_values
    sl_unfold_run_names
    simp (disch := decide) only [rk, rv, View.readCov_cons_unit_lit', View.readCov_unit_lit', View.readAt_eq_ld, h7, h8,
      View.ld_unit_lit']
    simp only [carry, runMax, runAcc, newAcc, colMax, scoreAt, score]
    open_payloads
    simp only [shapeCast_id]
    first | rfl | exact View.read_writes_full _ _ _ _ _

/-- The loop, from the state at chunk 0 with the first two chunks' scores in the buffers, ends in the state at
chunk 30, with the scores of chunks 30 and 31 in the buffers. -/
theorem loop4 (hq : v259 = q) (hX4 : arg4.view.read (Elt F) X4 = x1) (hX5 : arg5.view.read (Elt F) X5 = x2)
    (G7 : arg7.view.ty.Contents (Elt F)) (G8 : arg8.view.ty.Contents (Elt F)) (G9 : arg9.view.ty.Contents (Elt F))
    (h7 : arg7.view.read (Elt F) G7 = scoreAt q x1 0) (h8 : arg8.view.read (Elt F) G8 = scoreAt q x1 1) :
    ∀ n ≤ 2, ∀ s, s = st_k0_t4 𝒱 c bd i arg3 harg3 arg4 harg4 arg5 harg5 arg6 harg6 arg7 harg7 arg8 harg8 arg9 harg9
        v259 v260 v261 v271 v281 X4 X5 G7 G8 G9 (carry q x1 x2 0) n →
      s.1 = carry q x1 x2 (15 * n)
      ∧ arg7.view.read (Elt F) (arg7.view.writes (Elt F) G7 s.2.1) = scoreAt q x1 (15 * n)
      ∧ arg8.view.read (Elt F) (arg8.view.writes (Elt F) G8 s.2.2.1) = scoreAt q x1 (15 * n + 1)
  | 0, _, _, rfl => ⟨rfl, h7, h8⟩
  | n + 1, hn, _, rfl => by
    obtain ⟨e, e7, e8⟩ := loop4 hq hX4 hX5 G7 G8 G9 h7 h8 n (by omega) _ rfl
    have key := trip4 𝒱 c bd i arg3 harg3 arg4 harg4 arg5 harg5 arg6 harg6 arg7 harg7 arg8 harg8 arg9 harg9 v259 v260 v261 v271 v281 X4 X5
      q x1 x2 hq hX4 hX5 ⟨n, by have : k0_t4_loop.trips = 2 := rfl; omega⟩ _ _
      (arg9.view.writes (Elt F) G9 (st_k0_t4 𝒱 c bd i arg3 harg3 arg4 harg4 arg5 harg5 arg6 harg6 arg7 harg7 arg8 harg8
        arg9 harg9 v259 v260 v261 v271 v281 X4 X5 G7 G8 G9 (carry q x1 x2 0) n).2.2.2) e7 e8
    rw [← e] at key
    rw [st_k0_t4_succ (k := ⟨n, by have : k0_t4_loop.trips = 2 := rfl; omega⟩)]
    dsimp only
    rw [View.writes_append, View.writes_append]
    exact key

section End

variable {𝒱 c bd i arg3 harg3 arg4 harg4 arg5 harg5 arg6 harg6 arg7 harg7 arg8 harg8 arg9 harg9} {v259 v260 v261 v271 v281} {X4 X5} {q x1 x2}
  {init : FVec F S1x1024 .f32 × FVec F S80x1024 .f32 × FVec F S1x1024 .f32 × FVec F S1x1024 .f32}
  {L7 L8 : List (View.Piece (Elt F) S256x1024 .f32)} {G9 : arg9.view.ty.Contents (Elt F)} {n : Nat}

/-- What the loop leaves when it starts from the first two chunks' scores: the carried state before chunk 30, and in the
two buffers the scores of chunks 30 and 31. -/
theorem loop4_end {st} (hst : st_k0_t4 𝒱 c bd i arg3 harg3 arg4 harg4 arg5 harg5 arg6 harg6 arg7 harg7 arg8 harg8 arg9 harg9 v259 v260 v261 v271 v281 X4 X5
      (arg7.view.writes (Elt F) arg7.view.junk L7) (arg8.view.writes (Elt F) arg8.view.junk L8) G9 init
      n = st)
    (hX4 : arg4.view.read (Elt F) X4 = x1) (hX5 : arg5.view.read (Elt F) X5 = x2)
    (hq : v259 = q) (hn : n = 2) (hi : init = carry q x1 x2 0)
    (h7 : arg7.view.read (Elt F) (arg7.view.writes (Elt F) arg7.view.junk L7) = scoreAt q x1 0)
    (h8 : arg8.view.read (Elt F) (arg8.view.writes (Elt F) arg8.view.junk L8) = scoreAt q x1 1) :
    st.1 = carry q x1 x2 30
      ∧ (∀ inb, arg7.view.readCov (st.2.1 ++ L7) (Rect.unit (s := S256x1024) ![0, 0] ![256, 1024] inb).toLoadRect
          = scoreAt q x1 30)
      ∧ (∀ inb, arg8.view.readCov (st.2.2.1 ++ L8) (Rect.unit (s := S256x1024) ![0, 0] ![256, 1024] inb).toLoadRect
          = scoreAt q x1 31) := by
  subst hi hn hst
  have e := loop4 𝒱 c bd i arg3 harg3 arg4 harg4 arg5 harg5 arg6 harg6 arg7 harg7 arg8 harg8 arg9 harg9 v259 v260 v261 v271 v281
    X4 X5 q x1 x2 hq hX4 hX5
    _ _ G9 h7 h8 2 le_rfl _ rfl
  exact ⟨e.1, fun inb => (readCov_whole _ _ _ inb (by decide)).trans e.2.1,
    fun inb => (readCov_whole _ _ _ inb (by decide)).trans e.2.2⟩

end End

end Cert.Mla
-- ==== Proof.Body.lean ====
/-
The kernel's body meets its specification: from blocks of queries, keys and values it leaves the block of
results that Proof/Step.lean names, and gives the scratch buffers back with some contents.
-/
module

public import proofs.«01_k».proof.Proof.Loop1
public import proofs.«01_k».proof.Proof.Loop2
public import proofs.«01_k».proof.Proof.Loop3
public import proofs.«01_k».proof.Proof.Loop4
public import proofs.«01_k».proof.Proof.Gen.KernelIdeal.Frame

@[expose] public section

noncomputable section

namespace Cert.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

set_option maxHeartbeats 4000000 in
set_option maxRecDepth 16384 in
/-- One run of the body: it reads the three operands' blocks, leaves `blockOut` of them in the result's block, and
needs and returns the three buffers of scores with any contents. -/
theorem body (c : Dev nD) (i : grid0.Coords)
    (arg3 : Memref sig .tc .vmem S1x128x4096 .bf16) (harg3 : arg3.IsWhole)
    (arg4 : Memref sig .tc .vmem S1x8448x128 .bf16) (harg4 : arg4.IsWhole)
    (arg5 : Memref sig .tc .vmem S1x33x80x256 .bf16) (harg5 : arg5.IsWhole)
    (arg6 : Memref sig .tc .vmem S1x64x4096 .bf16) (harg6 : arg6.IsWhole)
    (arg7 : Memref sig .tc .vmem S256x1024 .f32) (harg7 : arg7.IsWhole)
    (arg8 : Memref sig .tc .vmem S256x1024 .f32) (harg8 : arg8.IsWhole)
    (arg9 : Memref sig .tc .vmem S256x1024 .f32) (harg9 : arg9.IsWhole)
    (x0 : Vec F S1x128x4096 .bf16) (x1 : Vec F S1x8448x128 .bf16) (x2 : Vec F S1x33x80x256 .bf16)
    (E : Set ℕ) (K : PUnit → sProp 𝕄) :
    iprop(owns (c : Thread nD τ) arg3 fullShare x0 ∗ owns (c : Thread nD τ) arg4 fullShare x1
        ∗ owns (c : Thread nD τ) arg5 fullShare x2 ∗ (∃ d, owns (c : Thread nD τ) arg6 fullShare d)
        ∗ (∃ d, owns (c : Thread nD τ) arg7 fullShare d) ∗ (∃ d, owns (c : Thread nD τ) arg8 fullShare d)
        ∗ (∃ d, owns (c : Thread nD τ) arg9 fullShare d)
        ∗ (iprop(owns (c : Thread nD τ) arg3 fullShare x0 ∗ owns (c : Thread nD τ) arg4 fullShare x1
            ∗ owns (c : Thread nD τ) arg5 fullShare x2 ∗ owns (c : Thread nD τ) arg6 fullShare (blockOut x0 x1 x2)
            ∗ (∃ d, owns (c : Thread nD τ) arg7 fullShare d) ∗ (∃ d, owns (c : Thread nD τ) arg8 fullShare d)
            ∗ (∃ d, owns (c : Thread nD τ) arg9 fullShare d)) -∗ K ⟨⟩))
      ⊢ wp frame (wpE (defs₀ (F := F)) Variants.none c none) E
          (cc0_mla_attn i arg3 harg3 arg4 harg4 arg5 harg5 arg6 harg6 arg7 harg7 arg8 harg8 arg9 harg9) K := by
  simp only [cc0_mla_attn_eq_skeleton]; unfold cc0_mla_attn_skel
  simp only [k0_part45_eq_skeleton, k0_part46_eq_skeleton, k0_part47_eq_skeleton, k0_part48_eq_skeleton,
    k0_part49_eq_skeleton, k0_part50_eq_skeleton, k0_part51_eq_skeleton, k0_part52_eq_skeleton, k0_part53_eq_skeleton]
  unfold owns
  iintro ⟨⟨%f0, %hf0, H0⟩, ⟨%f1, %hf1, H1⟩, ⟨%f2, %hf2, H2⟩, ⟨%d3, %f3, -, H3⟩, ⟨%ds0, %fs0, -, HS0⟩,
    ⟨%ds1, %fs1, -, HS1⟩, ⟨%ds2, %fs2, -, HS2⟩, Hk⟩
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; swap; · iexact H3
    ipureintro
    sl_unfold_run_values
    have hq : ∀ o, o + 1024 ≤ 4096 → ∀ inb, arg3.view.readAt (Elt F)
        (Rect.unit (s := S1x128x4096) ![0, 0, o] S1x128x1024.size inb).toLoadRect f0 = qBlock x0 o :=
      fun o ho inb => (readAt_q arg3.view f0 o ho inb).trans (by rw [hf0])
    have hk : ∀ o j, o = 256 * j → j < 33 → ∀ inb, arg4.view.readAt (Elt F)
        (Rect.unit (s := S1x8448x128) ![0, o, 0] S1x256x128.size inb).toLoadRect f1 = kChunk x1 j :=
      fun o j ho hj inb => (readAt_k arg4.view f1 j hj inb (by rw [ho])).trans (by rw [hf1])
    have hv : ∀ j, j < 33 → ∀ inb, arg5.view.readAt (Elt F)
        (Rect.unit (s := S1x33x80x256) ![0, j, 0, 0] S1x1x80x256.size inb).toLoadRect f2 = vChunk x2 j :=
      fun j hj inb => (readAt_v arg5.view f2 j hj inb rfl).trans (by rw [hf2])
    refine read_tiles _ _ _ _ _ _ _ _ _ ?_ ?_ ?_ ?_
    · sl_unfold_run_names
      simp (disch := decide) only [hq, hk 0 0 rfl, hk 256 1 rfl, hk 8192 32 rfl, hv]
      generalize hst1 : st_k0_t1 (F := F) _ _ _ _ _ _ _ _ _ _ _ _ _ _ _ _ _ _ _ _ _ _ _ _ _ _ = st1
      obtain ⟨e, e7, e8⟩ := loop1_end hst1 hf1 hf2 (q := qTile x0 0) rfl rfl rfl
        (read_whole _ _ _ _ _ _ (by open_payloads; simp only [shapeCast_id]; rfl))
        (read_whole _ _ _ _ _ _ (by open_payloads; simp only [shapeCast_id]; rfl))
      clear hst1
      obtain ⟨⟨a, b, m, m'⟩, L7, L8, L9⟩ := st1
      dsimp only at e e7 e8 ⊢
      simp only [carry, Prod.mk.injEq] at e
      obtain ⟨rfl, rfl, rfl, rfl⟩ := e
      rw [e7, e8]
      simp only [readCov_cons_whole, tileOut, runAcc_33, newAcc]
      open_payloads
      simp only [colMax, scoreAt, score, shapeCast_id]
      rfl
    · sl_unfold_run_names
      simp (disch := decide) only [hq, hk 0 0 rfl, hk 256 1 rfl, hk 8192 32 rfl, hv]
      generalize hst1 : st_k0_t1 (F := F) _ _ _ _ _ _ _ _ _ _ _ _ _ _ _ _ _ _ _ _ _ _ _ _ _ _ = st1
      generalize hst2 : st_k0_t2 (F := F) _ _ _ _ _ _ _ _ _ _ _ _ _ _ _ _ _ _ _ _ _ _ _ _ _ _ _ _ _ _ = st2
      obtain ⟨e, e7, e8⟩ := loop2_end hst2 hf1 hf2 (q := qTile x0 1024) rfl rfl rfl
        (read_whole _ _ _ _ _ _ (by open_payloads; simp only [shapeCast_id]; rfl))
        (read_whole _ _ _ _ _ _ (by open_payloads; simp only [shapeCast_id]; rfl))
      clear hst2
      obtain ⟨⟨a, b, m, m'⟩, L7, L8, L9⟩ := st2
      dsimp only at e e7 e8 ⊢
      simp only [carry, Prod.mk.injEq] at e
      obtain ⟨rfl, rfl, rfl, rfl⟩ := e
      rw [e7, e8]
      simp only [readCov_cons_whole, tileOut, runAcc_33, newAcc]
      open_payloads
      simp only [colMax, scoreAt, score, shapeCast_id]
      rfl
    · sl_unfold_run_names
      simp (disch := decide) only [hq, hk 0 0 rfl, hk 256 1 rfl, hk 8192 32 rfl, hv]
      generalize hst1 : st_k0_t1 (F := F) _ _ _ _ _ _ _ _ _ _ _ _ _ _ _ _ _ _ _ _ _ _ _ _ _ _ = st1
      generalize hst2 : st_k0_t2 (F := F) _ _ _ _ _ _ _ _ _ _ _ _ _ _ _ _ _ _ _ _ _ _ _ _ _ _ _ _ _ _ = st2
      generalize hst3 : st_k0_t3 (F := F) _ _ _ _ _ _ _ _ _ _ _ _ _ _ _ _ _ _ _ _ _ _ _ _ _ _ _ _ = st3
      obtain ⟨e, e7, e8⟩ := loop3_end hst3 hf1 hf2 (q := qTile x0 2048) rfl rfl rfl
        (read_whole _ _ _ _ _ _ (by open_payloads; simp only [shapeCast_id]; rfl))
        (read_whole _ _ _ _ _ _ (by open_payloads; simp only [shapeCast_id]; rfl))
      clear hst3
      obtain ⟨⟨a, b, m, m'⟩, L7, L8, L9⟩ := st3
      dsimp only at e e7 e8 ⊢
      simp only [carry, Prod.mk.injEq] at e
      obtain ⟨rfl, rfl, rfl, rfl⟩ := e
      rw [e7, e8]
      simp only [readCov_cons_whole, tileOut, runAcc_33, newAcc]
      open_payloads
      simp only [colMax, scoreAt, score, shapeCast_id]
      rfl
    · sl_unfold_run_names
      simp (disch := decide) only [hq, hk 0 0 rfl, hk 256 1 rfl, hk 8192 32 rfl, hv]
      generalize hst1 : st_k0_t1 (F := F) _ _ _ _ _ _ _ _ _ _ _ _ _ _ _ _ _ _ _ _ _ _ _ _ _ _ = st1
      generalize hst2 : st_k0_t2 (F := F) _ _ _ _ _ _ _ _ _ _ _ _ _ _ _ _ _ _ _ _ _ _ _ _ _ _ _ _ _ _ = st2
      generalize hst3 : st_k0_t3 (F := F) _ _ _ _ _ _ _ _ _ _ _ _ _ _ _ _ _ _ _ _ _ _ _ _ _ _ _ _ = st3
      generalize hst4 : st_k0_t4 (F := F) _ _ _ _ _ _ _ _ _ _ _ _ _ _ _ _ _ _ _ _ _ _ _ _ _ _ _ _ _ _ = st4
      obtain ⟨e, e7, e8⟩ := loop4_end hst4 hf1 hf2 (q := qTile x0 3072) rfl rfl rfl
        (read_whole _ _ _ _ _ _ (by open_payloads; simp only [shapeCast_id]; rfl))
        (read_whole _ _ _ _ _ _ (by open_payloads; simp only [shapeCast_id]; rfl))
      clear hst4
      obtain ⟨⟨a, b, m, m'⟩, L7, L8, L9⟩ := st4
      dsimp only at e e7 e8 ⊢
      simp only [carry, Prod.mk.injEq] at e
      obtain ⟨rfl, rfl, rfl, rfl⟩ := e
      rw [e7, e8]
      simp only [readCov_cons_whole, tileOut, runAcc_33, newAcc]
      open_payloads
      simp only [colMax, scoreAt, score, shapeCast_id]
      rfl
  isplitl [HS0]
  · iexists _, _; isplitr; swap; · iexact HS0
    ipureintro; rfl
  isplitl [HS1]
  · iexists _, _; isplitr; swap; · iexact HS1
    ipureintro; rfl
  iexists _, _; isplitr; swap; · iexact HS2
  ipureintro; rfl

end Cert.Mla
-- ==== Proof.Run.lean ====
/-
The kernel's run, at any float type: every execution ends with the arguments and the semaphore counters as they were, and
each block of the result array at what the body's specification (Proof/Body.lean) leaves for its point.
-/
module

public import proofs.«01_k».proof.Proof.Body
public import Idealize.ShloMosaic.Lib.Claim
public import Idealize.ShloMosaic.Lib.Pipeline.Value

@[expose] public section

set_option maxRecDepth 16384

noncomputable section

namespace Cert.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' buffers and the scratch -/

/-- The queries' staging buffer at a point, and that it is a whole buffer. -/
abbrev stQ (t : Fin cfg0.N) : Memref sig .tc .vmem S1x128x4096 .bf16 := win0_0.stage (cfg0.slots t 0)
theorem stQ_whole (t : Fin cfg0.N) : (stQ t).IsWhole := hstage0_0 ((cfg0.slots t 0).cast nbuf0_0)

/-- The keys' staging buffer at a point, and that it is a whole buffer. -/
abbrev stK (t : Fin cfg0.N) : Memref sig .tc .vmem S1x8448x128 .bf16 := win0_1.stage (cfg0.slots t 1)
theorem stK_whole (t : Fin cfg0.N) : (stK t).IsWhole := hstage0_1 ((cfg0.slots t 1).cast nbuf0_1)

/-- The values' staging buffer at a point, and that it is a whole buffer. -/
abbrev stV (t : Fin cfg0.N) : Memref sig .tc .vmem S1x33x80x256 .bf16 := win0_2.stage (cfg0.slots t 2)
theorem stV_whole (t : Fin cfg0.N) : (stV t).IsWhole := hstage0_2 ((cfg0.slots t 2).cast nbuf0_2)

/-- The results' staging buffer at a point, and that it is a whole buffer. -/
abbrev stO (t : Fin cfg0.N) : Memref sig .tc .vmem S1x64x4096 .bf16 := win0_3.stage (cfg0.slots t 3)
theorem stO_whole (t : Fin cfg0.N) : (stO t).IsWhole := hstage0_3 ((cfg0.slots t 3).cast nbuf0_3)

/-- The three buffers of scores. -/
abbrev buf0 : Memref sig .tc .vmem S256x1024 .f32 := Memref.whole cc0_scratch0
abbrev buf1 : Memref sig .tc .vmem S256x1024 .f32 := Memref.whole cc0_scratch1
abbrev buf2 : Memref sig .tc .vmem S256x1024 .f32 := Memref.whole cc0_scratch2

/-- Between points the core keeps the three buffers of scores, with any contents, and its generator register. -/
theorem rest_eq (c : Dev nD) :
    (Pipeline.ΦA spec0 c : sProp 𝕄)
      = iprop(iprop((∃ d, owns (c : Thread nD τ) buf0 fullShare d) ∗ (∃ d, owns (c : Thread nD τ) buf1 fullShare d)
          ∗ (∃ d, owns (c : Thread nD τ) buf2 fullShare d)) ∗ (∃ r, prngReg c r)) := by
  unfold Pipeline.ΦA; rw [scopedRest0_eq]; simp only [buf0, buf1, buf2, owns_whole]; try rfl

/-! ## The proof data -/

/-- What the results' block holds after a point. -/
def outAt (c : Dev nD) (t : Fin cfg0.N) : Vec F S1x64x4096 .bf16 := blockOut (X0_0 m c t) (iblk m c 1 t) (iblk m c 2 t)

/-- The pipeline's proof data: each operand's buffer holds its block, the results' buffer `outAt`. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => outAt m c t
  Φ _ := Pipeline.ΦA spec0 c
  q _ := fullShare
  owed _ := 0

/-- The arrays at the start are those the host code leaves. -/
theorem A_eq (c : Dev nD) (w : Fin cfg0.W) : (dats m 0 c).A w = V m c (Pipeline.arrRef spec0 w) := by
  dsimp only [dats]

/-- The buffers after a point, one by one. -/
theorem after_q (c : Dev nD) (t : Fin cfg0.N) : (dats m 0 c).after 0 t = X0_0 m c t := by dsimp only [dats]
theorem after_k (c : Dev nD) (t : Fin cfg0.N) : (dats m 0 c).after 1 t = iblk m c 1 t := by dsimp only [dats]
theorem after_v (c : Dev nD) (t : Fin cfg0.N) : (dats m 0 c).after 2 t = iblk m c 2 t := by dsimp only [dats]
theorem after_o (c : Dev nD) (t : Fin cfg0.N) : (dats m 0 c).after 3 t = outAt m c t := by dsimp only [dats]

/-- The operands' buffers before a point hold their blocks. -/
theorem before_q (c : Dev nD) (t : Fin cfg0.N) (d) : (dats m 0 c).before 0 t d = X0_0 m c t :=
  before0_0_of m (dats m 0 c) (A_eq m c 0) (after_q m c) t d
theorem before_k (c : Dev nD) (t : Fin cfg0.N) (d) : (dats m 0 c).before 1 t d = iblk m c 1 t :=
  before0_1_of m (dats m 0 c) (A_eq m c 1) (after_k m c) t d
theorem before_v (c : Dev nD) (t : Fin cfg0.N) (d) : (dats m 0 c).before 2 t d = iblk m c 2 t :=
  before0_2_of m (dats m 0 c) (A_eq m c 2) (after_v m c) t d

/-! ## The body at a point -/

/-- What the body is given at a point. -/
def atPre (c : Dev nD) (t : Fin cfg0.N) : sProp 𝕄 :=
  iprop((dats m 0 c).Φ t.castSucc ∗ (dats m 0 c).owesAt () t.castSucc
    ∗ (∃ d, owns (c : Thread nD τ) (stQ t) fullShare ((dats m 0 c).before 0 t d))
    ∗ (∃ d, owns (c : Thread nD τ) (stK t) fullShare ((dats m 0 c).before 1 t d))
    ∗ (∃ d, owns (c : Thread nD τ) (stV t) fullShare ((dats m 0 c).before 2 t d))
    ∗ (∃ d, owns (c : Thread nD τ) (stO t) fullShare ((dats m 0 c).before 3 t d)))

/-- What the body returns at a point. -/
def atPost (c : Dev nD) (t : Fin cfg0.N) : sProp 𝕄 :=
  iprop((dats m 0 c).Φ t.succ ∗ (dats m 0 c).owesAt () t.succ
    ∗ owns (c : Thread nD τ) (stQ t) fullShare ((dats m 0 c).after 0 t)
    ∗ owns (c : Thread nD τ) (stK t) fullShare ((dats m 0 c).after 1 t)
    ∗ owns (c : Thread nD τ) (stV t) fullShare ((dats m 0 c).after 2 t)
    ∗ owns (c : Thread nD τ) (stO t) fullShare ((dats m 0 c).after 3 t))

/-- The body at a point takes what it is given to what it returns. -/
theorem body_at (c : Dev nD) (t : Fin cfg0.N) :
    atPre m c t ⊢ wp frame (wpE (defs₀ (F := F)) Variants.none c none) Set.univ (bodyAt0 t) (fun _ => atPost m c t) := by
  unfold atPre atPost bodyAt0
  simp only [before_q, before_k, before_v]
  rw [show (dats m 0 c).Φ t.succ = (dats m 0 c).Φ t.castSucc from rfl,
    show (dats m 0 c).owesAt () t.succ = (dats m 0 c).owesAt () t.castSucc from rfl, after_q, after_k, after_v, after_o]
  rw [show (dats m 0 c).Φ t.castSucc = Pipeline.ΦA spec0 c from rfl, rest_eq]
  iintro ⟨⟨⟨HS0, HS1, HS2⟩, Hg⟩, Ho, ⟨%d0, H0⟩, ⟨%d1, H1⟩, ⟨%d2, H2⟩, ⟨%d3, H3⟩⟩
  iapply (body c (grid0.coords t) _ (stQ_whole t) _ (stK_whole t) _ (stV_whole t) _ (stO_whole t)
    _ (Memref.isWhole_whole _) _ (Memref.isWhole_whole _) _ (Memref.isWhole_whole _)
    (X0_0 m c t) (iblk m c 1 t) (iblk m c 2 t) Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  iintro ⟨H0, H1, H2, H3, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  iexact H3

/-- The table of bodies at a point is the body there. -/
theorem row (t : Fin cfg0.N) : defs₀ (F := F) .tc cfg0.body (cfg0.bodyArgs t (cfg0.slots t)) = bodyAt0 t := by
  unfold defs₀; rw [Defs.onTc_tc]

/-- The pipeline's obligation on the body. -/
theorem obligation (c : Dev nD) : BodyObligation (dats (F := F) m 0 c) (defs₀ (F := F)) Variants.none () Set.univ := fun t => by
  rw [bigSep_W0, bigSep_W0, row]
  exact triple_restated (body_at m c t) rfl .rfl fun _ => .rfl

/-! ## The run -/

set_option backward.isDefEq.respectTransparency.types false in
/-- Every execution ends with the pipeline's arrays at what the proof data say, and every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The same without the counters. -/
theorem run_post : θ_run defs (onTc (τ := τ) (main (F := F))) (s₀ m ρ) (Pipeline.FramePost cfgs (dats m) 0 (V m)) :=
  (θ_run defs _ _).mono (fun _ h => h.1) (run_quiescent m ρ)

/-- The frame: the arguments and the counters end as they were. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_post m ρ))
    ((θ_run defs _ _).mono (fun _ h => h.2) (run_quiescent m ρ))

/-! ## The result, block by block -/

/-- Distinct points write distinct blocks. -/
theorem index_inj : ∀ t t' : Fin cfg0.N, win0_3.index t = win0_3.index t' → t = t' :=
  (by decide +kernel : ∀ t t' : Fin grid0.N, win0_3.index t = win0_3.index t' → t = t')

/-- Every point writes its block back. -/
theorem flushes : ∀ t : Fin cfg0.N, (cfg0.win 3).flush t = true :=
  (by decide +kernel : ∀ t : Fin grid0.N, (cfg0.win 3).flush t = true)

/-- Two points' blocks do not meet. -/
theorem disjoint : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (index_inj t t' h)

/-- A block of the final result is what its point left. -/
theorem blocks (c : Dev nD) (t : Fin cfg0.N) :
    ((cfg0.win 3).blk t).view.read (Elt F) ((dats m 0 c).arrAt 3 cfg0.N)
      = (cfg0.win 3).cut (grid0.coords t) (outAt m c t) := by
  rw [(dats m 0 c).read_blk_arrAt_eq_flushed 3 disjoint cfg0.N t t.isLt (flushes t)]
  show (cfg0.win 3).cut (grid0.coords t) ((dats m 0 c).after 3 t) = _
  rw [after_o]

/-- Every execution ends with the result array at what the proof data say and the arguments as they were. -/
theorem run_value : θ_run defs (onTc (τ := τ) (main (F := F))) ⟨m, fun _ => 0, ρ⟩ (fun r => ∀ c : Dev nD,
      r.2.mem ((c.tc : Thread nD τ).loc main_v21) = (dats m 0 c).arrAt 3 cfg0.N) :=
  (θ_run defs _ _).mono (fun _ h c => (h c).1 3) (run_post m ρ)

end Cert.Mla
-- ==== Proof.Same.lean ====
/-
The program and its idealization have one text, so the run of Proof/Run.lean is the run of both: the frame at the
machine's float words.
-/
module

public import proofs.«01_k».proof.Proof.Run
public import proofs.«01_k».proof.Proof.Gen.Kernel
public import proofs.«01_k».proof.Defs

@[expose] public section

set_option maxRecDepth 16384

noncomputable section

namespace Cert.Mla

open Idealize.ShloMosaic Idealize.SL.Sem

variable {F : FTy → Type} [FloatOps F]

/-- The two texts' functions are one. -/
theorem same_main : @Cert.Kernel.main F _ Cert.Kernel.Gen.facts = @Cert.KernelIdeal.main F _ Cert.KernelIdeal.Gen.facts := rfl

/-- The two texts' bodies are one. -/
theorem same_body : @Cert.Kernel.cc0_mla_attn F _ Cert.Kernel.Gen.facts = @Cert.KernelIdeal.cc0_mla_attn F _ Cert.KernelIdeal.Gen.facts := rfl

/-- The two texts' pipelines are one. -/
theorem same_pcfgs : Cert.Kernel.pcfgs (F := F) = Cert.KernelIdeal.pcfgs (F := F) := rfl

/-- The two texts' tables of kernel bodies are one. -/
theorem same_defs0 : @Cert.Kernel.defs₀ F _ Cert.Kernel.Gen.facts = @Cert.KernelIdeal.defs₀ F _ Cert.KernelIdeal.Gen.facts := by
  unfold Cert.Kernel.defs₀ Cert.KernelIdeal.defs₀
  congr 1
  funext l a
  match l, a with
  | 0, (t, s) =>
    dsimp only
    rw [same_body (F := F)]
    rfl
  | ⟨_ + 1, h⟩, _ => exact absurd h (Nat.not_lt.2 (Nat.le_add_left _ _))

/-- The two texts' tables of functions are one. -/
theorem same_defs : @Cert.Kernel.defs F _ Cert.Kernel.Gen.facts = @Cert.KernelIdeal.defs F _ Cert.KernelIdeal.Gen.facts :=
  congrArg (Pipeline.defs (Cert.KernelIdeal.pcfgs (F := F))) same_defs0

/-- The frame of the program at the machine's float words. -/
theorem frame_kernel : Cert.quiescent_Kernel (hKernel := Cert.Kernel.Gen.facts) := by
  intro m ρ _
  have h := frame_run (F := Bits) m ρ
  rw [← same_defs, ← same_main] at h
  exact h

end Cert.Mla
-- ==== Proof.Pre.lean ====
/-
The precondition read: every element of the queries and the keys is a real number.
-/
module

public import proofs.«01_k».proof.Pre_finite
public import Idealize.ShloMosaic.Lib.ReduceAll
public import Idealize.ShloMosaic.Lib.Affine
public import Idealize.ShloMosaic.Lib.Decide
public import Idealize.ShloMosaic.PureOps.Ideal
public import Idealize.ShloMosaic.PureOps.Ideal.Laws

@[expose] public section

noncomputable section

namespace Cert.Mla

open Idealize.ShloMosaic
open Cert.Pre_finite

/-- The side conditions of the precondition's text. -/
instance preFacts : Cert.Pre_finite.Facts where
  bcast_S_S8x8192x8x96 := by decide
  reducesTo_S8x8192x8x96_S_d0_1_2_3 := by decide
  h_S_ := by decide
  bcast_S_S8x256x8x96 := by decide
  reducesTo_S8x256x8x96_S_d0_1_2_3 := by decide

/-- An extended real whose absolute value is below `+∞` is a real number. -/
theorem real_of_lt (x : EReal) (h : max x (-x) < ⊤) : ∃ r : ℝ, x = r := by
  induction x with
  | bot => simp at h
  | coe r => exact ⟨r, rfl⟩
  | top => simp at h

/-- The word of `+∞` is `+∞`. -/
theorem ofBits_inf : Ideal.ofBits .f32 0x7F800000#32 = ⊤ := by
  simp [Ideal.ofBits, Ideal.ieee]

/-- One conjunct of the precondition: an array whose absolute values are all below `+∞` has real elements. -/
theorem real_of_all {s : Shape} {axes : List (Fin s.rank)} (x : FVec Ideal s .f32) (hb : S_.BroadcastsInDim s ![])
    (hr : s.ReducesTo axes S_) (hu : 0 < S_.numel) (j : S_.Idx)
    (h : Host.reduce IntOp.andi (cmpf .olt (Host.absf x) (broadcastInDim s ![] hb (constant (F := Ideal) S_ .f32 0x7F800000#32)))
      (constantI S_ 1 1#1) hr hu j = 1#1) (i : s.Idx) : ∃ r : ℝ, x i = r := by
  haveI : Subsingleton S_.Idx := ⟨fun a b => funext fun k => k.elim0⟩
  have e := Host.reduce_andi_all _ _ hr hu j h i
  have e' : Ideal.cmp .olt (max (x i) (-(x i))) (Ideal.ofBits .f32 0x7F800000#32) = 1#1 := e
  rw [ofBits_inf] at e'
  refine real_of_lt _ ?_
  by_contra hn
  simp [Ideal.cmp, hn] at e'

/-- The precondition: the queries of the frames, and the keys of the frames and of the context, are real. (The
context's queries do not enter the result.) -/
theorem real_of_pre {a0 a1 : FVec Ideal S8x8192x8x96 .f32} {a2 : FVec Ideal S8x8192x8x64 .f32}
    {a3 a4 : FVec Ideal S8x256x8x96 .f32} {a5 : FVec Ideal S8x256x8x64 .f32}
    (h : fn a0 a1 a2 a3 a4 a5 = fun _ => 1#1) :
    (∀ i, ∃ r : ℝ, a0 i = r) ∧ (∀ i, ∃ r : ℝ, a1 i = r) ∧ (∀ i, ∃ r : ℝ, a4 i = r) := by
  have h0 := congrFun h (fun k => k.elim0)
  unfold fn at h0
  obtain ⟨h1, h4⟩ := IntOp.andi_eq_one.1 h0
  obtain ⟨h1, h2⟩ := IntOp.andi_eq_one.1 h1
  obtain ⟨-, h1⟩ := IntOp.andi_eq_one.1 h1
  exact ⟨real_of_all a0 _ _ _ _ h1, real_of_all a1 _ _ _ _ h2, real_of_all a4 _ _ _ _ h4⟩

end Cert.Mla
-- ==== Proof.Softmax.lean ====
/-
  The arithmetic of a softmax taken chunk by chunk, over the extended reals.

  A weighted sum `∑ vᵢ · 2^(sᵢ - m)` of arbitrary extended reals `vᵢ` with real scores `sᵢ` is carried from one real
  shift `m` to another by the factor `2^(m - m')`, and its quotient by the same sum of ones does not depend on the shift.
-/
module

public import Idealize.ShloMosaic.PureOps.Ideal
public import Mathlib.Algebra.BigOperators.Group.Finset.Basic
public import Mathlib.Algebra.BigOperators.Fin
public import Mathlib.Data.Finset.Fold
public import Mathlib.Analysis.SpecialFunctions.Pow.Real

@[expose] public section

noncomputable section

namespace Cert.Softmax

open Idealize.ShloMosaic

/-- Multiplying a sum of extended reals by a nonnegative real multiplies each term. -/
theorem sum_mul_coe {ι : Type*} (s : Finset ι) (f : ι → EReal) (b : ℝ) (hb : 0 ≤ b) :
    (∑ i ∈ s, f i) * (b : EReal) = ∑ i ∈ s, f i * (b : EReal) := by
  classical
  induction s using Finset.induction_on with
  | empty => simp
  | insert a s ha ih =>
    rw [Finset.sum_insert ha, Finset.sum_insert ha, ← ih]
    exact EReal.right_distrib_of_nonneg_of_ne_top (by exact_mod_cast hb) (EReal.coe_ne_top b) _ _

/-- A sum of reals read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The power of two of a difference of reals. -/
theorem exp2_sub (a b : ℝ) : Ideal.exp2 ((a : EReal) - (b : EReal)) = (((2 : ℝ) ^ (a - b) : ℝ) : EReal) := by
  rw [← EReal.coe_sub, Ideal.exp2_coe]; rfl

/-- A weighted sum at shift `m`, carried to shift `m'`. -/
theorem rescale {ι : Type*} (S : Finset ι) (v : ι → EReal) (s : ι → ℝ) (m m' : ℝ) :
    Ideal.exp2 ((m : EReal) - (m' : EReal)) * ∑ i ∈ S, v i * (((2 : ℝ) ^ (s i - m) : ℝ) : EReal)
      = ∑ i ∈ S, v i * (((2 : ℝ) ^ (s i - m') : ℝ) : EReal) := by
  rw [exp2_sub, mul_comm, sum_mul_coe _ _ _ (by positivity)]
  refine Finset.sum_congr rfl fun i _ => ?_
  rw [mul_assoc, ← EReal.coe_mul, ← Real.rpow_add (by norm_num)]
  congr 3; ring

/-- The quotient of a weighted sum by the sum of the weights: the weights may be any positive multiple `c` of the
    exponentials `e`, and dividing each weight first is the same. -/
theorem quotient {ι : Type*} (S : Finset ι) (hS : S.Nonempty) (v : ι → EReal) (w e : ι → ℝ) (c : ℝ) (hc : 0 < c)
    (he : ∀ i, 0 < e i) (hw : ∀ i, w i = c * e i) :
    Ideal.div (∑ i ∈ S, v i * (w i : EReal)) (∑ i ∈ S, (w i : EReal))
      = ∑ i ∈ S, v i * ((e i / ∑ k ∈ S, e k : ℝ) : EReal) := by
  have hZ : 0 < ∑ k ∈ S, e k := Finset.sum_pos (fun i _ => he i) hS
  have hW : ∑ k ∈ S, w k = c * ∑ k ∈ S, e k := by rw [Finset.mul_sum]; exact Finset.sum_congr rfl fun i _ => hw i
  rw [← coe_sum, hW, Ideal.div_coe (by positivity), sum_mul_coe _ _ _ (by positivity)]
  refine Finset.sum_congr rfl fun i _ => ?_
  rw [mul_assoc, ← EReal.coe_mul, hw i]
  congr 2; field_simp

/-- The greatest of a nonempty family of reals, taken from `-∞`, is a real. -/
theorem fold_max_real {n : ℕ} (f : Fin (n + 1) → EReal) (h : ∀ i, ∃ r : ℝ, f i = r) :
    ∃ r : ℝ, (Finset.univ : Finset (Fin (n + 1))).fold max ⊥ f = r := by
  have h0 : ⊥ < (Finset.univ : Finset (Fin (n + 1))).fold max ⊥ f := by
    rw [Finset.lt_fold_max]
    refine Or.inr ⟨0, Finset.mem_univ _, ?_⟩
    obtain ⟨r, hr⟩ := h 0
    rw [hr]; exact EReal.bot_lt_coe r
  have h1 : (Finset.univ : Finset (Fin (n + 1))).fold max ⊥ f < ⊤ := by
    rw [Finset.fold_max_lt]
    refine ⟨bot_lt_top, fun i _ => ?_⟩
    obtain ⟨r, hr⟩ := h i
    rw [hr]; exact EReal.coe_lt_top r
  exact ⟨_, (EReal.coe_toReal h1.ne h0.ne').symm⟩

/-- The word of `-∞` is `-∞`. -/
theorem ofBits_neg_inf : Ideal.ofBits .f32 0xFF800000#32 = ⊥ := by
  simp [Ideal.ofBits, Ideal.ieee]

/-- A power of two of a score in units of `log 2` is the score's exponential. -/
theorem two_rpow_div_log (t m : ℝ) : (2 : ℝ) ^ (t / Real.log 2 - m) = (2 : ℝ) ^ (-m) * Real.exp t := by
  have hl : Real.log 2 ≠ 0 := (Real.log_pos (by norm_num)).ne'
  rw [sub_eq_add_neg, Real.rpow_add (by norm_num), mul_comm]
  congr 1
  rw [Real.rpow_def_of_pos (by norm_num), mul_div_cancel₀ _ hl]

/-- A real over a positive sum of reals, in the extended reals. -/
theorem div_real (a b : ℝ) (hb : b ≠ 0) : Ideal.div (a : EReal) (b : EReal) = ((a / b : ℝ) : EReal) := by
  rw [Ideal.div_coe hb, ← EReal.coe_mul]; congr 1; ring

/-- A sum over chunks of 256 is a sum over the whole. -/
theorem sum_chunks {M : Type*} [AddCommMonoid M] (f : ℕ → M) (n : ℕ) :
    ∑ p ∈ Finset.range n ×ˢ (Finset.univ : Finset (Fin 256)), f (p.1 * 256 + p.2.val) = ∑ k ∈ Finset.range (n * 256), f k := by
  rw [Finset.sum_product]
  induction n with
  | zero => simp
  | succ n ih =>
    rw [Finset.sum_range_succ, ih, Nat.succ_mul, Finset.sum_range_add]
    congr 1

/-- A sum over 128 of which 96 terms are the reals `g` and the rest vanish. -/
theorem sum_pad (f : Fin 128 → EReal) (g : Fin 96 → ℝ) (h1 : ∀ x : Fin 96, f ⟨x.val, by omega⟩ = g x)
    (h2 : ∀ x : Fin 128, ¬ x.val < 96 → f x = 0) : ∑ x, f x = ((∑ x, g x : ℝ) : EReal) := by
  have e := Fin.sum_univ_add (a := 96) (b := 32) f
  refine e.trans ?_
  rw [Finset.sum_eq_zero (s := (Finset.univ : Finset (Fin 32))) (fun x _ => h2 _ (by simp)), add_zero, coe_sum]
  exact Finset.sum_congr rfl fun x _ => h1 x

end Cert.Softmax

end
-- ==== Proof.Tile.lean ====
/-
The value of a tile of results over the extended reals: each column of a tile is the average of the values, weighted by
the exponentials of that column's scores.
-/
module

public import proofs.«01_k».proof.Proof.Step
public import proofs.«01_k».proof.Proof.Softmax
public import Idealize.ShloMosaic.Lib.Pointwise
public import Idealize.ShloMosaic.PureOps.Ideal.Laws

@[expose] public section

noncomputable section

namespace Cert.Mla

open Idealize.ShloMosaic Idealize.ShloMosaic.TcCoe
open Cert.KernelIdeal Cert.KernelIdeal.Gen

/-- The word the running maximum starts from is a real. -/
theorem ofBits_start : ∃ r : ℝ, Ideal.ofBits .f32 0xF149F2CA#32 = r := by
  simp only [Ideal.ofBits, Ideal.ieee]
  norm_num [-EReal.coe_mul]
  exact ⟨_, rfl⟩

/-- A score is a sum of products. -/
theorem scoreAt_apply (q : FVec Ideal S128x1024 .bf16) (x1 : Vec Ideal S1x8448x128 .bf16) (j : ℕ) (r : Fin 256)
    (l : Fin 1024) :
    scoreAt q x1 j (ix2 r l)
      = ∑ k : Fin 128, x1 (ix3 0 ⟨(256 * j + r.val) % 8448, Nat.mod_lt _ (by omega)⟩ k) * q (ix2 k l) := by
  pointwise [scoreAt, score, kChunk]

/-- The greatest score of a column, read. -/
theorem colMax_apply (s : FVec Ideal S256x1024 .f32) (l : Fin 1024) :
    colMax s (ix2 0 l) = (Finset.univ : Finset (Fin 256)).fold max ⊥ fun r => s (ix2 r l) := by
  pointwise [colMax, Softmax.ofBits_neg_inf]

/-- The running weighted sum after a chunk, read. -/
theorem newAcc_apply (m m' : FVec Ideal S1x1024 .f32) (a : FVec Ideal S80x1024 .f32) (s : FVec Ideal S256x1024 .f32)
    (v : Vec Ideal S1x1x80x256 .bf16) (d : Fin 80) (l : Fin 1024) :
    newAcc m m' a s v (ix2 d l)
      = Ideal.exp2 (m (ix2 0 l) - m' (ix2 0 l)) * a (ix2 d l)
        + ∑ r : Fin 256, v (ix4 0 0 d r) * Ideal.exp2 (s (ix2 r l) - m' (ix2 0 l)) := by
  pointwise [newAcc]
  rfl

/-- An element of a tile of results is a quotient of two entries of the last running sum. -/
theorem tileOut_apply (q : FVec Ideal S128x1024 .bf16) (x1 : Vec Ideal S1x8448x128 .bf16)
    (x2 : Vec Ideal S1x33x80x256 .bf16) (d : Fin 64) (l : Fin 1024) :
    tileOut q x1 x2 (ix3 0 d l)
      = Ideal.div (runAcc q x1 x2 33 (ix2 ⟨d.val, by omega⟩ l)) (runAcc q x1 x2 33 (ix2 64 l)) := by
  unfold tileOut
  generalize runAcc q x1 x2 33 = a
  pointwise

section Column

variable (q : FVec Ideal S128x1024 .bf16) (x1 : Vec Ideal S1x8448x128 .bf16) (x2 : Vec Ideal S1x33x80x256 .bf16)
  (l : Fin 1024) (w : ℕ → Fin 256 → ℝ) (hw : ∀ j r, scoreAt q x1 j (ix2 r l) = w j r)

include hw

/-- The running maximum of a column with real scores is real. -/
theorem runMax_real (j : ℕ) : ∃ μ : ℝ, runMax q x1 j (ix2 0 l) = μ := by
  induction j with
  | zero =>
    obtain ⟨μ, h⟩ := ofBits_start
    exact ⟨μ, h⟩
  | succ j ih =>
    obtain ⟨μ, h⟩ := ih
    obtain ⟨c, hc⟩ := Softmax.fold_max_real (n := 255) (fun r => scoreAt q x1 j (ix2 r l)) (fun r => ⟨_, hw j r⟩)
    refine ⟨max μ c, ?_⟩
    have e : runMax q x1 (j + 1) (ix2 0 l) = max (runMax q x1 j (ix2 0 l)) (colMax (scoreAt q x1 j) (ix2 0 l)) := rfl
    rw [e, h, colMax_apply, hc]
    exact (EReal.coe_strictMono.monotone.map_max).symm

/-- The running sum before chunk `j`, at the running maximum `μ`: the values of the chunks before, each weighted by the
power of two of its score's distance from `μ`. -/
theorem runAcc_apply (d : Fin 80) (j : ℕ) (μ : ℝ) (hμ : runMax q x1 j (ix2 0 l) = μ) :
    runAcc q x1 x2 j (ix2 d l)
      = ∑ p ∈ Finset.range j ×ˢ (Finset.univ : Finset (Fin 256)),
          vChunk x2 p.1 (ix4 0 0 d p.2) * (((2 : ℝ) ^ (w p.1 p.2 - μ) : ℝ) : EReal) := by
  induction j generalizing μ with
  | zero =>
    rw [Finset.range_zero, Finset.empty_product, Finset.sum_empty]
    exact Ideal.ofBits_zero_f32
  | succ j ih =>
    obtain ⟨ν, hν⟩ := runMax_real q x1 l w hw j
    rw [show runAcc q x1 x2 (j + 1) = newAcc (runMax q x1 j) (runMax q x1 (j + 1)) (runAcc q x1 x2 j) (scoreAt q x1 j)
      (vChunk x2 j) from rfl, newAcc_apply, ih ν hν, hν, hμ, Softmax.rescale, Finset.sum_product, Finset.sum_product,
      Finset.sum_range_succ]
    congr 1
    refine Finset.sum_congr rfl fun r _ => ?_
    rw [hw, Softmax.exp2_sub]

/-- A column of a tile of results, where row 64 of the values holds ones and the scores are `t / log 2`: the values
averaged with weights `exp t`. -/
theorem tileOut_average (t : ℕ → Fin 256 → ℝ) (ht : ∀ j r, w j r = t j r / Real.log 2)
    (hone : ∀ j r, vChunk x2 j (ix4 0 0 64 r) = 1) (d : Fin 64) :
    tileOut q x1 x2 (ix3 0 d l)
      = ∑ p ∈ Finset.range 33 ×ˢ (Finset.univ : Finset (Fin 256)),
          vChunk x2 p.1 (ix4 0 0 ⟨d.val, by omega⟩ p.2)
            * ((Real.exp (t p.1 p.2) / ∑ p ∈ Finset.range 33 ×ˢ (Finset.univ : Finset (Fin 256)), Real.exp (t p.1 p.2)
                : ℝ) : EReal) := by
  obtain ⟨μ, hμ⟩ := runMax_real q x1 l w hw 33
  rw [tileOut_apply, runAcc_apply q x1 x2 l w hw _ 33 μ hμ, runAcc_apply q x1 x2 l w hw _ 33 μ hμ]
  simp only [hone, one_mul]
  refine Softmax.quotient _ ⟨(0, 0), by simp⟩ (fun p : ℕ × Fin 256 => vChunk x2 p.1 (ix4 0 0 ⟨d.val, by omega⟩ p.2))
    (fun p => (2 : ℝ) ^ (w p.1 p.2 - μ)) (fun p => Real.exp (t p.1 p.2)) ((2 : ℝ) ^ (-μ)) (by positivity)
    (fun p => Real.exp_pos _) (fun p => ?_)
  rw [ht, Softmax.two_rpow_div_log]

end Column

end Cert.Mla

end
-- ==== Proof.Operands.lean ====
/-
The arrays the host hands to the kernel: the queries scaled and padded and transposed, the keys padded,
the values with a row of ones under each head, transposed chunk by chunk.
-/
module

public import proofs.«01_k».proof.Proof.Gen.KernelIdeal.Frame
public import Idealize.ShloMosaic.Lib.StableHlo.Run

@[expose] public section

noncomputable section

namespace Cert.Mla

open Idealize.ShloMosaic Idealize.ShloMosaic.TcCoe
open Cert.KernelIdeal Cert.KernelIdeal.Gen

variable {F : FTy → Type} [FloatOps F]

/-- The array of queries the kernel is given. -/
def qArr (a0 : FVec F S8x8192x8x96 .f32) (a3 : FVec F S8x256x8x96 .f32) : FVec F S8x1024x8448 .bf16 :=
  truncf .bf16 (transpose S8x1024x8448 [0, 2, 1] (shapeCast S8x8448x1024 (pad S8x8448x8x128 ![0, 0, 0, 0] ![0, 0, 0, 32]
    ![0, 0, 0, 0] (Host.divf
      (concatenate S8x8448x8x96 1 [⟨S8x8192x8x96, a0⟩, ⟨S8x256x8x96, a3⟩]
        concatenates_S8x8192x8x96_S8x256x8x96_S8x8448x8x96_d1)
      (broadcastInDim S8x8448x8x96 ![] bcast_S_S8x8448x8x96
        (mulf (Host.sqrt (constant S_ .f32 0x42C00000#32)) (Host.log (constant S_ .f32 0x40000000#32)))))
    (sitofp .f32 (constantI S_ 32 0#32)) pads_S8x8448x8x96_S8x8448x8x128_000_000_000_0320 h_S_)
    shapeCasts_S8x8448x8x128_S8x8448x1024) transposes_S8x8448x1024_S8x1024x8448_0_2_1) bitsLt_bf16_f32

/-- The array of keys the kernel is given. -/
def kArr (a1 : FVec F S8x8192x8x96 .f32) (a4 : FVec F S8x256x8x96 .f32) : FVec F S8x8448x1024 .bf16 :=
  truncf .bf16 (shapeCast S8x8448x1024 (pad S8x8448x8x128 ![0, 0, 0, 0] ![0, 0, 0, 32] ![0, 0, 0, 0]
    (concatenate S8x8448x8x96 1 [⟨S8x8192x8x96, a1⟩, ⟨S8x256x8x96, a4⟩]
      concatenates_S8x8192x8x96_S8x256x8x96_S8x8448x8x96_d1)
    (sitofp .f32 (constantI S_ 32 0#32)) pads_S8x8448x8x96_S8x8448x8x128_000_000_000_0320 h_S_)
    shapeCasts_S8x8448x8x128_S8x8448x1024) bitsLt_bf16_f32

/-- The values with a column of ones and fifteen of zeros beside each head. -/
def vPad (a2 : FVec F S8x8192x8x64 .f32) (a5 : FVec F S8x256x8x64 .f32) : FVec F S8x8448x8x80 .f32 :=
  concatenate S8x8448x8x80 3 [⟨S8x8448x8x64, concatenate S8x8448x8x64 1 [⟨S8x8192x8x64, a2⟩, ⟨S8x256x8x64, a5⟩]
      concatenates_S8x8192x8x64_S8x256x8x64_S8x8448x8x64_d1⟩,
    ⟨S8x8448x8x1, broadcastInDim S8x8448x8x1 ![] bcast_S_S8x8448x8x1 (constant S_ .f32 0x3F800000#32)⟩,
    ⟨S8x8448x8x15, broadcastInDim S8x8448x8x15 ![] bcast_S_S8x8448x8x15 (constant S_ .f32 0x00000000#32)⟩]
    concatenates_S8x8448x8x64_S8x8448x8x1_S8x8448x8x15_S8x8448x8x80_d3

/-- The array of values the kernel is given. -/
def vArr (a2 : FVec F S8x8192x8x64 .f32) (a5 : FVec F S8x256x8x64 .f32) : FVec F S8x33x640x256 .bf16 :=
  truncf .bf16 (transpose S8x33x640x256 [0, 1, 3, 2] (shapeCast S8x33x256x640 (vPad a2 a5)
    shapeCasts_S8x8448x8x80_S8x33x256x640) transposes_S8x33x256x640_S8x33x640x256_0_1_3_2) bitsLt_bf16_f32

section Host

variable (m : (ℓ : Loc nD τ sig) → Buf (Elt F) ℓ) (c : Dev nD)

/-- The kernel finds that array of queries. -/
theorem V_q : V m c main_v9 = qArr (m ((c : Thread nD τ).loc main_arg0)) (m ((c : Thread nD τ).loc main_arg3)) := by
  dsimp only [V]
  simp only [hostOps0, hostOps0_1, hostOps0_2, hostOps0_3, hostOps0_4, List.flatten_cons, List.flatten_nil,
    List.append_nil, List.cons_append, List.nil_append]
  after_results
  refine congrArg (fun z => truncf .bf16 (transpose S8x1024x8448 [0, 2, 1] z transposes_S8x8448x1024_S8x1024x8448_0_2_1)
    bitsLt_bf16_f32) ?_
  refine congrArg (fun z => shapeCast S8x8448x1024 z shapeCasts_S8x8448x8x128_S8x8448x1024) ?_
  rfl

/-- The kernel finds that array of keys. -/
theorem V_k : V m c main_v13 = kArr (m ((c : Thread nD τ).loc main_arg1)) (m ((c : Thread nD τ).loc main_arg4)) := by
  dsimp only [V]
  simp only [hostOps0, hostOps0_1, hostOps0_2, hostOps0_3, hostOps0_4, List.flatten_cons, List.flatten_nil,
    List.append_nil, List.cons_append, List.nil_append]
  after_results
  refine congrArg (fun z => truncf .bf16 z bitsLt_bf16_f32) ?_
  refine congrArg (fun z => shapeCast S8x8448x1024 z shapeCasts_S8x8448x8x128_S8x8448x1024) ?_
  rfl

/-- The kernel finds that array of values. -/
theorem V_v : V m c main_v20 = vArr (m ((c : Thread nD τ).loc main_arg2)) (m ((c : Thread nD τ).loc main_arg5)) := by
  dsimp only [V]
  simp only [hostOps0, hostOps0_1, hostOps0_2, hostOps0_3, hostOps0_4, List.flatten_cons, List.flatten_nil,
    List.append_nil, List.cons_append, List.nil_append]
  after_results
  refine congrArg (fun z => truncf .bf16
    (transpose S8x33x640x256 [0, 1, 3, 2] z transposes_S8x33x256x640_S8x33x640x256_0_1_3_2) bitsLt_bf16_f32) ?_
  refine congrArg (fun z => shapeCast S8x33x256x640 z shapeCasts_S8x8448x8x80_S8x33x256x640) ?_
  rfl

end Host

end Cert.Mla

end
-- ==== Proof.OperandsAt.lean ====
/-
The arrays the host hands to the kernel, read at an index over the extended reals.
-/
module

public import proofs.«01_k».proof.Proof.Operands
public import Idealize.ShloMosaic.Lib.Pointwise
public import Idealize.ShloMosaic.PureOps.Ideal.Laws

@[expose] public section

noncomputable section

namespace Cert.Mla

open Idealize.ShloMosaic Idealize.ShloMosaic.TcCoe
open Cert.KernelIdeal Cert.KernelIdeal.Gen

/-- The divisor of the queries is `√96 · log 2`. -/
theorem scale : Ideal.sqrt (Ideal.ofBits .f32 0x42C00000#32) * Ideal.log (Ideal.ofBits .f32 0x40000000#32)
    = ((Real.sqrt 96 * Real.log 2 : ℝ) : EReal) := by
  have h1 : Ideal.ofBits .f32 0x42C00000#32 = ((96 : ℝ) : EReal) := by
    simp [Ideal.ofBits, Ideal.ieee, -EReal.coe_mul]
    norm_num
  have h2 : Ideal.ofBits .f32 0x40000000#32 = ((2 : ℝ) : EReal) := by
    simp [Ideal.ofBits, Ideal.ieee, -EReal.coe_mul]
    norm_num
  rw [h1, h2, Ideal.sqrt_coe, Ideal.log_coe, if_neg (by norm_num), if_neg (by norm_num), ← EReal.coe_mul]

/-- The word of the integer zero, as a float. -/
theorem sitofp_zero : FloatOps.sitofp (F := Ideal) .f32 (0#32) = (0 : EReal) := by
  show (((0#32 : BitVec 32).toInt : ℝ) : EReal) = 0
  simp

/-- Rounding keeps an extended real. -/
theorem truncf_at {s : Shape} (z : FVec Ideal s .f32) (hb) (i : s.Idx) : truncf .bf16 z hb i = z i := rfl

section Read

variable (b : Fin 8) (h : Fin 8) (n : Fin 8448)

/-- A query of the frames as the kernel finds it. -/
theorem qArr_apply (a0 : FVec Ideal S8x8192x8x96 .f32) (a3 : FVec Ideal S8x256x8x96 .f32) (x : Fin 128) (hn : n.val < 8192) :
    qArr a0 a3 (ix3 b ⟨128 * h.val + x.val, by omega⟩ n)
      = if hx : x.val < 96 then Ideal.div (a0 (ix4 b ⟨n.val, hn⟩ h ⟨x.val, hx⟩)) ((Real.sqrt 96 * Real.log 2 : ℝ) : EReal)
        else 0 := by
  pointwise [qArr]
  simp only [scale, sitofp_zero, hn, ↓reduceDIte]

/-- A key as the kernel finds it. -/
theorem kArr_apply (a1 : FVec Ideal S8x8192x8x96 .f32) (a4 : FVec Ideal S8x256x8x96 .f32) (x : Fin 128)  :
    kArr a1 a4 (ix3 b n ⟨128 * h.val + x.val, by omega⟩)
      = if hx : x.val < 96 then
          (if hn : n.val < 8192 then a1 (ix4 b ⟨n.val, hn⟩ h ⟨x.val, hx⟩)
            else a4 (ix4 b ⟨n.val - 8192, by omega⟩ h ⟨x.val, hx⟩))
        else 0 := by
  pointwise [kArr]
  simp only [sitofp_zero]

/-- The chunks of values, transposed, read. -/
theorem vCast_apply (y : FVec Ideal S8x8448x8x80 .f32) (j : Fin 33) (r : Fin 256) (x : Fin 80) :
    transpose S8x33x640x256 [0, 1, 3, 2] (shapeCast S8x33x256x640 y shapeCasts_S8x8448x8x80_S8x33x256x640)
        transposes_S8x33x256x640_S8x33x640x256_0_1_3_2 (ix4 b j ⟨80 * h.val + x.val, by omega⟩ r)
      = y (ix4 b ⟨j.val * 256 + r.val, by omega⟩ h x) := by
  pointwise

/-- The array of values, read in the padded values. -/
theorem vArr_chunk (a2 : FVec Ideal S8x8192x8x64 .f32) (a5 : FVec Ideal S8x256x8x64 .f32) (j : Fin 33) (r : Fin 256)
    (x : Fin 80) :
    vArr a2 a5 (ix4 b j ⟨80 * h.val + x.val, by omega⟩ r) = vPad a2 a5 (ix4 b ⟨j.val * 256 + r.val, by omega⟩ h x) := by
  generalize hi : (ix4 b j ⟨80 * h.val + x.val, by omega⟩ r : S8x33x640x256.Idx) = i
  unfold vArr
  rw [truncf_at, ← hi, vCast_apply]

/-- A value, or an entry of the column of ones. -/
theorem vPad_apply (a2 : FVec Ideal S8x8192x8x64 .f32) (a5 : FVec Ideal S8x256x8x64 .f32) (x : Fin 80) :
    vPad a2 a5 (ix4 b n h x)
      = if hx : x.val < 64 then
          (if hn : n.val < 8192 then a2 (ix4 b ⟨n.val, hn⟩ h ⟨x.val, hx⟩)
            else a5 (ix4 b ⟨n.val - 8192, by omega⟩ h ⟨x.val, hx⟩))
        else if _hx : x.val - 64 < 1 then 1 else 0 := by
  pointwise [vPad]

end Read

end Cert.Mla

end
-- ==== Proof.Blocks.lean ====
/-
The blocks a point of the grid is given: the queries of its head and tile, the keys and the values of its head.
-/
module

public import proofs.«01_k».proof.Proof.OperandsAt
public import proofs.«01_k».proof.Proof.Run

@[expose] public section

noncomputable section

namespace Cert.Mla

open Idealize.ShloMosaic Idealize.ShloMosaic.TcCoe
open Cert.KernelIdeal Cert.KernelIdeal.Gen

variable {F : FTy → Type} [FloatOps F]

/-- The blocks of a point: batch entry, head and tile of queries. -/
theorem index_all : ∀ t : Fin cfg0.N,
    win0_0.index t = ![(grid0.coords t 0).val, (grid0.coords t 1).val, (grid0.coords t 2).val]
    ∧ win0_1.index t = ![(grid0.coords t 0).val, 0, (grid0.coords t 1).val]
    ∧ win0_2.index t = ![(grid0.coords t 0).val, 0, (grid0.coords t 1).val, 0]
    ∧ win0_3.index t = ![(grid0.coords t 0).val, (grid0.coords t 1).val, (grid0.coords t 2).val] :=
  (by decide +kernel : ∀ t : Fin grid0.N, _)

variable (m : (ℓ : Loc nD τ sig) → Buf (Elt F) ℓ) (c : Dev nD) (t : Fin cfg0.N) (b h : Fin 8)
  (hb : (grid0.coords t 0).val = b.val) (hh : (grid0.coords t 1).val = h.val)

include hb hh

/-- The block of keys. -/
theorem blk_k (n : Fin 8448) (x : Fin 128) :
    iblk m c 1 t (ix3 0 n x) = V m c main_v13 (ix3 b n ⟨128 * h.val + x.val, by omega⟩) := by
  have e := (index_all t).2.1
  blk_ext [iblk, e, hb, hh]

/-- The block of values. -/
theorem blk_v (j : Fin 33) (x : Fin 80) (r : Fin 256) :
    iblk m c 2 t (ix4 0 j x r) = V m c main_v20 (ix4 b j ⟨80 * h.val + x.val, by omega⟩ r) := by
  have e := (index_all t).2.2.1
  blk_ext [iblk, e, hb, hh]

variable (i : Fin 2) (hi : (grid0.coords t 2).val = i.val)

include hi

/-- The block of queries. -/
theorem blk_q (x : Fin 128) (n : Fin 4096) :
    X0_0 m c t (ix3 0 x n)
      = V m c main_v9 (ix3 b ⟨128 * h.val + x.val, by omega⟩ ⟨4096 * i.val + n.val, by omega⟩) := by
  have e := (index_all t).1
  unfold X0_0 Pipeline.Window.fill
  rw [dif_pos (moved0_0 t _)]
  blk_ext [iblk, e, hb, hh, hi]

end Cert.Mla

end
-- ==== Proof.Column.lean ====
/-
What a point of the grid leaves in its block of results, in the arrays the program is given: for each query, the values
of its head averaged with weights `exp` of the scores.
-/
module

public import proofs.«01_k».proof.Proof.Tile
public import proofs.«01_k».proof.Proof.Blocks

@[expose] public section

noncomputable section

namespace Cert.Mla

open Idealize.ShloMosaic Idealize.ShloMosaic.TcCoe
open Cert.KernelIdeal Cert.KernelIdeal.Gen

/-- The score of a query against key `n`. -/
def scoreOf (qr : Fin 96 → ℝ) (kr : ℕ → Fin 96 → ℝ) (n : ℕ) : ℝ := (∑ x, qr x * kr n x) / Real.sqrt 96

/-- An entry of a tile of queries, in the block. -/
theorem qTile_apply (x0 : Vec Ideal S1x128x4096 .bf16) (o : ℕ) (x : Fin 128) (l : Fin 1024) :
    qTile x0 o (ix2 x l) = x0 (ix3 0 x ⟨(o + l.val) % 4096, Nat.mod_lt _ (by omega)⟩) := by
  pointwise [qTile, qBlock]

/-- An entry of a block of results, in its tile. -/
theorem blockOut_apply (x0 : Vec Ideal S1x128x4096 .bf16) (x1 : Vec Ideal S1x8448x128 .bf16)
    (x2 : Vec Ideal S1x33x80x256 .bf16) (d : Fin 64) (l : Fin 4096) :
    blockOut x0 x1 x2 (ix3 0 d l)
      = tileOut (qTile x0 (1024 * (l.val / 1024))) x1 x2 (ix3 0 d ⟨l.val % 1024, Nat.mod_lt _ (by omega)⟩) := rfl

/-- An entry of a chunk of values, in the block. -/
theorem vChunk_apply (x2 : Vec Ideal S1x33x80x256 .bf16) (j : ℕ) (d : Fin 80) (r : Fin 256) :
    vChunk x2 j (ix4 0 0 d r) = x2 (ix4 0 ⟨j % 33, Nat.mod_lt _ (by omega)⟩ d r) := rfl

/-- A score in the kernel: the query is divided by `√96 · log 2` before the product. -/
theorem score_scaled (qr : Fin 96 → ℝ) (kr : ℕ → Fin 96 → ℝ) (n : ℕ) :
    ∑ x, kr n x * (qr x / (Real.sqrt 96 * Real.log 2)) = scoreOf qr kr n / Real.log 2 := by
  unfold scoreOf
  rw [div_div, Finset.sum_div]
  exact Finset.sum_congr rfl fun x _ => by ring

variable (m : (ℓ : Loc nD τ sig) → Buf (Elt Ideal) ℓ) (c : Dev nD) (t : Fin cfg0.N) (b h : Fin 8)
  (hb : (grid0.coords t 0).val = b.val) (hh : (grid0.coords t 1).val = h.val) (i : Fin 2)
  (hi : (grid0.coords t 2).val = i.val) (a0 a1 : FVec Ideal S8x8192x8x96 .f32) (a2 : FVec Ideal S8x8192x8x64 .f32)
  (a4 : FVec Ideal S8x256x8x96 .f32) (a5 : FVec Ideal S8x256x8x64 .f32)
  (e0 : m ((c : Thread nD τ).loc main_arg0) = a0) (e1 : m ((c : Thread nD τ).loc main_arg1) = a1)
  (e2 : m ((c : Thread nD τ).loc main_arg2) = a2) (e4 : m ((c : Thread nD τ).loc main_arg4) = a4)
  (e5 : m ((c : Thread nD τ).loc main_arg5) = a5)
  (l : Fin 4096) (d : Fin 64) (qr : Fin 96 → ℝ) (kr : ℕ → Fin 96 → ℝ) (v : ℕ → EReal)
  (n₀ : Fin 8192) (hn₀ : n₀.val = 4096 * i.val + l.val) (hq : ∀ x, a0 (ix4 b n₀ h x) = qr x)
  (hk : ∀ (n : Fin 8192) x, a1 (ix4 b n h x) = kr n.val x) (hk' : ∀ (n : Fin 256) x, a4 (ix4 b n h x) = kr (8192 + n.val) x)
  (hv : ∀ n : Fin 8192, a2 (ix4 b n h d) = v n.val) (hv' : ∀ n : Fin 256, a5 (ix4 b n h d) = v (8192 + n.val))

include hb hh e1 e4 hk hk' in
/-- A key of the point's block. -/
theorem key_at (n : Fin 8448) (x : Fin 128) :
    iblk m c 1 t (ix3 0 n x) = if hx : x.val < 96 then ((kr n.val ⟨x.val, hx⟩ : ℝ) : EReal) else 0 := by
  rw [blk_k m c t b h hb hh, V_k, e1, e4, kArr_apply]
  by_cases hx : x.val < 96
  · rw [dif_pos hx, dif_pos hx]
    by_cases hn : n.val < 8192
    · rw [dif_pos hn, hk]
    · rw [dif_neg hn, hk', show 8192 + (n.val - 8192) = n.val by omega]
  · rw [dif_neg hx, dif_neg hx]

include hb hh hi e0 hn₀ hq in
/-- A query of the point's block: lane `l`. -/
theorem query_at (x : Fin 128) :
    X0_0 m c t (ix3 0 x l)
      = if hx : x.val < 96 then ((qr ⟨x.val, hx⟩ / (Real.sqrt 96 * Real.log 2) : ℝ) : EReal) else 0 := by
  rw [blk_q m c t b h hb hh i hi, V_q, e0, qArr_apply _ _ _ _ _ _ (show 4096 * i.val + l.val < 8192 by omega)]
  by_cases hx : x.val < 96
  · have e : (⟨4096 * i.val + l.val, by omega⟩ : Fin 8192) = n₀ := Fin.ext hn₀.symm
    rw [dif_pos hx, dif_pos hx, e, hq, Softmax.div_real _ _ (mul_pos (by positivity) (Real.log_pos (by norm_num))).ne']
  · rw [dif_neg hx, dif_neg hx]

include hb hh e2 e5 hv hv' in
/-- A value of the point's block: row `d`. -/
theorem value_at (j : ℕ) (hj : j < 33) (r : Fin 256) :
    vChunk (iblk m c 2 t) j (ix4 0 0 ⟨d.val, d.isLt.trans (by decide)⟩ r) = v (j * 256 + r.val) := by
  rw [vChunk_apply, blk_v m c t b h hb hh, V_v, e2, e5, vArr_chunk, vPad_apply, dif_pos d.isLt]
  have hj' : j % 33 = j := Nat.mod_eq_of_lt hj
  by_cases hn : j * 256 + r.val < 8192
  · rw [dif_pos (show j % 33 * 256 + r.val < 8192 by omega), hv]
    show v (j % 33 * 256 + r.val) = _
    rw [hj']
  · rw [dif_neg (show ¬ j % 33 * 256 + r.val < 8192 by omega), hv']
    show v (8192 + (j % 33 * 256 + r.val - 8192)) = _
    rw [show 8192 + (j % 33 * 256 + r.val - 8192) = j * 256 + r.val by omega]

include hb hh in
/-- Row 64 of the point's block of values holds ones. -/
theorem one_at (j : ℕ) (r : Fin 256) : vChunk (iblk m c 2 t) j (ix4 0 0 64 r) = 1 := by
  rw [vChunk_apply, blk_v m c t b h hb hh, V_v, vArr_chunk, vPad_apply, dif_neg (by decide), dif_pos (by decide)]

include hb hh hi e0 e1 e4 hn₀ hq hk hk' in
/-- A score of the kernel: the score over `log 2`. -/
theorem score_at (j : ℕ) (r : Fin 256) :
    scoreAt (qTile (X0_0 m c t) (1024 * (l.val / 1024))) (iblk m c 1 t) j (ix2 r ⟨l.val % 1024, Nat.mod_lt _ (by omega)⟩)
      = ((scoreOf qr kr ((256 * j + r.val) % 8448) / Real.log 2 : ℝ) : EReal) := by
  have hl : (⟨(1024 * (l.val / 1024) + l.val % 1024) % 4096, Nat.mod_lt _ (by omega)⟩ : Fin 4096) = l := Fin.ext (by
    show (1024 * (l.val / 1024) + l.val % 1024) % 4096 = l.val
    omega)
  rw [scoreAt_apply, ← score_scaled]
  refine Softmax.sum_pad _ _ (fun x => ?_) (fun x hx => ?_)
  · rw [qTile_apply, hl, key_at m c t b h hb hh a1 a4 e1 e4 kr hk hk', query_at m c t b h hb hh i hi a0 e0 l qr n₀ hn₀ hq,
      dif_pos x.isLt, dif_pos x.isLt, ← EReal.coe_mul]
  · rw [qTile_apply, hl, key_at m c t b h hb hh a1 a4 e1 e4 kr hk hk', query_at m c t b h hb hh i hi a0 e0 l qr n₀ hn₀ hq,
      dif_neg hx, dif_neg hx, mul_zero]

include hb hh hi e0 e1 e2 e4 e5 hn₀ hq hk hk' hv hv' in
/-- What the point leaves at row `d`, lane `l`: the values averaged with weights `exp` of the scores. -/
theorem outAt_average :
    outAt m c t (ix3 0 d l)
      = ∑ n ∈ Finset.range 8448, v n
          * ((Real.exp (scoreOf qr kr n) / ∑ n ∈ Finset.range 8448, Real.exp (scoreOf qr kr n) : ℝ) : EReal) := by
  have hT : ∀ p ∈ Finset.range 33 ×ˢ (Finset.univ : Finset (Fin 256)),
      scoreOf qr kr ((256 * p.1 + p.2.val) % 8448) = scoreOf qr kr (p.1 * 256 + p.2.val) := fun p hp => by
    have h1 : p.1 < 33 := Finset.mem_range.1 (Finset.mem_product.1 hp).1
    have h2 := p.2.isLt
    rw [show (256 * p.1 + p.2.val) % 8448 = p.1 * 256 + p.2.val by omega]
  have hZ := Softmax.sum_chunks (fun n => Real.exp (scoreOf qr kr n)) 33
  refine (blockOut_apply _ _ _ d l).trans ?_
  rw [tileOut_average _ _ _ _ (fun j r => scoreOf qr kr ((256 * j + r.val) % 8448) / Real.log 2)
    (score_at m c t b h hb hh i hi a0 a1 a4 e0 e1 e4 l qr kr n₀ hn₀ hq hk hk')
    (fun j r => scoreOf qr kr ((256 * j + r.val) % 8448)) (fun _ _ => rfl) (one_at m c t b h hb hh) d,
    Finset.sum_congr rfl (fun p hp => congrArg Real.exp (hT p hp)), hZ]
  generalize ∑ k ∈ Finset.range (33 * 256), Real.exp (scoreOf qr kr k) = Z
  refine Eq.trans ?_ (Softmax.sum_chunks (fun n => v n * ((Real.exp (scoreOf qr kr n) / Z : ℝ) : EReal)) 33)
  refine Finset.sum_congr rfl fun p hp => ?_
  rw [value_at m c t b h hb hh a2 a5 e2 e5 d v hv hv' p.1 (Finset.mem_range.1 (Finset.mem_product.1 hp).1), hT p hp]

end Cert.Mla

end
-- ==== Proof.Ref.lean ====
/-
The reference's result, read at an index over the extended reals: plain softmax attention over the keys of the frames and
of the context.
-/
module

public import proofs.«01_k».proof.Proof.Gen.ReferenceIdeal.Run
public import proofs.«01_k».proof.Proof.Softmax
public import Idealize.ShloMosaic.Lib.Pointwise
public import Idealize.ShloMosaic.PureOps.Ideal.Laws

@[expose] public section

noncomputable section

namespace Cert.Ref

open Idealize.ShloMosaic Idealize.ShloMosaic.TcCoe
open Cert.ReferenceIdeal Cert.ReferenceIdeal.Gen

/-- The scores: the products of queries and keys over `√96`, of the frames' keys and then of the context's. -/
def scores (a0 a1 : FVec Ideal S8x8192x8x96 .f32) (a4 : FVec Ideal S8x256x8x96 .f32) : FVec Ideal S8x8x8192x8448 .f32 :=
  concatenate S8x8x8192x8448 3
    [⟨S8x8x8192x8192, Host.divf (Host.dotGeneral dot_S8x8192x8x96_S8x8192x8x96_S8x8x8192x8192_3_3_1_1_02_02 none a0 a1)
        (broadcastInDim S8x8x8192x8192 ![] bcast_S_S8x8x8192x8192 (Host.sqrt (constant S_ .f32 0x42C00000#32)))⟩,
     ⟨S8x8x8192x256, Host.divf (Host.dotGeneral dot_S8x8192x8x96_S8x256x8x96_S8x8x8192x256_3_3_1_1_02_02 none a0 a4)
        (broadcastInDim S8x8x8192x256 ![] bcast_S_S8x8x8192x256 (Host.sqrt (constant S_ .f32 0x42C00000#32)))⟩]
    concatenates_S8x8x8192x8192_S8x8x8192x256_S8x8x8192x8448_d3

/-- The greatest score of each row. -/
def rowMax (s : FVec Ideal S8x8x8192x8448 .f32) : FVec Ideal S8x8x8192 .f32 :=
  Host.reduce FloatOps.maximumf s (constant S_ .f32 0xFF800000#32) reducesTo_S8x8x8192x8448_S8x8x8192_d3 h_S_

/-- The exponentials of the scores' distances from their row's greatest. -/
def exps (s : FVec Ideal S8x8x8192x8448 .f32) : FVec Ideal S8x8x8192x8448 .f32 :=
  Host.exp (subf s (broadcastInDim S8x8x8192x8448 ![0, 1, 2, 3] bcast_S8x8x8192x1_S8x8x8192x8448_0_1_2_3
    (broadcastInDim S8x8x8192x1 ![0, 1, 2] bcast_S8x8x8192_S8x8x8192x1_0_1_2
      (maximumf (broadcastInDim S8x8x8192 ![] bcast_S_S8x8x8192 (constant S_ .f32 0xFF800000#32)) (rowMax s)))))

/-- Each exponential over its row's sum. -/
def weights (e : FVec Ideal S8x8x8192x8448 .f32) : FVec Ideal S8x8x8192x8448 .f32 :=
  Host.divf e (broadcastInDim S8x8x8192x8448 ![0, 1, 2, 3] bcast_S8x8x8192x1_S8x8x8192x8448_0_1_2_3
    (broadcastInDim S8x8x8192x1 ![0, 1, 2] bcast_S8x8x8192_S8x8x8192x1_0_1_2
      (Host.reduceAdd e (constant S_ .f32 0x00000000#32) reducesTo_S8x8x8192x8448_S8x8x8192_d3 h_S_)))

/-- The values of the frames and of the context under the weights, laid out head by head. -/
def out (a2 : FVec Ideal S8x8192x8x64 .f32) (a5 : FVec Ideal S8x256x8x64 .f32) (p : FVec Ideal S8x8x8192x8448 .f32) :
    FVec Ideal S8x512x8192 .bf16 :=
  truncf .bf16 (transpose S8x512x8192 [0, 2, 1] (shapeCast S8x8192x512 (addf
      (transpose S8x8192x8x64 [0, 3, 1, 2] (Host.dotGeneral dot_S8x8192x8x64_S8x8x8192x8192_S8x8x64x8192_1_3_3_2_02_01 none a2
        (extractStridedSlice S8x8x8192x8192 ![0, 0, 0, 0] p slices_S8x8x8192x8448_S8x8x8192x8192_0_0_0_0))
        transposes_S8x8x64x8192_S8x8192x8x64_0_3_1_2)
      (transpose S8x8192x8x64 [0, 3, 1, 2] (Host.dotGeneral dot_S8x256x8x64_S8x8x8192x256_S8x8x64x8192_1_3_3_2_02_01 none a5
        (extractStridedSlice S8x8x8192x256 ![0, 0, 0, 8192] p slices_S8x8x8192x8448_S8x8x8192x256_0_0_0_8192))
        transposes_S8x8x64x8192_S8x8192x8x64_0_3_1_2))
    shapeCasts_S8x8192x8x64_S8x8192x512) transposes_S8x8192x512_S8x512x8192_0_2_1) bitsLt_bf16_f32

/-- A run's result is that. -/
theorem result_named (m : (ℓ : Loc nD τ sig) → Buf (Elt Ideal) ℓ) (c : Dev nD) :
    Value.res_out0 m c = out (m ((c.tc : Thread nD τ).loc main_arg2)) (m ((c.tc : Thread nD τ).loc main_arg5))
      (weights (exps (scores (m ((c.tc : Thread nD τ).loc main_arg0)) (m ((c.tc : Thread nD τ).loc main_arg1))
        (m ((c.tc : Thread nD τ).loc main_arg4))))) := by
  unfold Value.res_out0 Value.res_main_v29 out weights exps rowMax scores
  rfl

end Cert.Ref

end
-- ==== Proof.RefOut.lean ====
/-
The reference's weighted sums read at an index over the extended reals.
-/
module

public import proofs.«01_k».proof.Proof.Ref

@[expose] public section

noncomputable section

namespace Cert.Ref

open Idealize.ShloMosaic Idealize.ShloMosaic.TcCoe
open Cert.ReferenceIdeal Cert.ReferenceIdeal.Gen

variable (b h : Fin 8) (q : Fin 8192)

/-- An element of the result. -/
theorem out_apply (a2 : FVec Ideal S8x8192x8x64 .f32) (a5 : FVec Ideal S8x256x8x64 .f32)
    (p : FVec Ideal S8x8x8192x8448 .f32) (d : Fin 64) :
    out a2 a5 p (ix3 b ⟨64 * h.val + d.val, by omega⟩ q)
      = (∑ k : Fin 8192, a2 (ix4 b k h d) * p (ix4 b h q ⟨k.val, by omega⟩))
        + ∑ k : Fin 256, a5 (ix4 b k h d) * p (ix4 b h q ⟨8192 + k.val, by omega⟩) := by
  pointwise [out]

end Cert.Ref

end
-- ==== Proof.RefAt.lean ====
/-
The reference's terms read at an index over the extended reals.
-/
module

public import proofs.«01_k».proof.Proof.RefOut

@[expose] public section

noncomputable section

namespace Cert.Ref

open Idealize.ShloMosaic Idealize.ShloMosaic.TcCoe
open Cert.ReferenceIdeal Cert.ReferenceIdeal.Gen

variable (b h : Fin 8) (q : Fin 8192)

/-- A score. -/
theorem scores_apply (a0 a1 : FVec Ideal S8x8192x8x96 .f32) (a4 : FVec Ideal S8x256x8x96 .f32) (k : Fin 8448) :
    scores a0 a1 a4 (ix4 b h q k)
      = if hk : k.val < 8192 then
          Ideal.div (∑ x : Fin 96, a0 (ix4 b q h x) * a1 (ix4 b ⟨k.val, hk⟩ h x)) (Ideal.sqrt (Ideal.ofBits .f32 0x42C00000#32))
        else
          Ideal.div (∑ x : Fin 96, a0 (ix4 b q h x) * a4 (ix4 b ⟨k.val - 8192, by omega⟩ h x))
            (Ideal.sqrt (Ideal.ofBits .f32 0x42C00000#32)) := by
  pointwise [scores]

/-- A row's greatest score. -/
theorem rowMax_apply (s : FVec Ideal S8x8x8192x8448 .f32) :
    rowMax s (ix3 b h q)
      = (Finset.univ : Finset (Fin 8448)).fold max (Ideal.ofBits .f32 0xFF800000#32) fun k => s (ix4 b h q k) := by
  pointwise [rowMax]

/-- A row's number, handed to each of the row's entries. -/
theorem row_apply (r : FVec Ideal S8x8x8192 .f32) (k : Fin 8448) :
    broadcastInDim S8x8x8192x8448 ![0, 1, 2, 3] bcast_S8x8x8192x1_S8x8x8192x8448_0_1_2_3
        (broadcastInDim S8x8x8192x1 ![0, 1, 2] bcast_S8x8x8192_S8x8x8192x1_0_1_2 r) (ix4 b h q k) = r (ix3 b h q) := by
  pointwise

/-- The exponential of a difference, element by element. -/
theorem exp_sub_at {S : Shape} (x y : FVec Ideal S .f32) (i : S.Idx) : Host.exp (subf x y) i = Ideal.exp (x i - y i) := rfl

/-- The greater of two arrays, element by element. -/
theorem max_at {S : Shape} (x y : FVec Ideal S .f32) (i : S.Idx) : maximumf x y i = max (x i) (y i) := rfl

/-- A constant, handed to every entry. -/
theorem const_at {S : Shape} (hb : S_.BroadcastsInDim S ![]) (w : BitVec 32) (i : S.Idx) :
    broadcastInDim S ![] hb (constant (F := Ideal) S_ .f32 w) i = Ideal.ofBits .f32 w := rfl

/-- An exponential. -/
theorem exps_apply (s : FVec Ideal S8x8x8192x8448 .f32) (k : Fin 8448) :
    exps s (ix4 b h q k)
      = Ideal.exp (s (ix4 b h q k) - max (Ideal.ofBits .f32 0xFF800000#32) (rowMax s (ix3 b h q))) := by
  unfold exps
  rw [exp_sub_at, row_apply, max_at, const_at]

/-- A weight. -/
theorem weights_apply (e : FVec Ideal S8x8x8192x8448 .f32) (k : Fin 8448) :
    weights e (ix4 b h q k) = Ideal.div (e (ix4 b h q k)) (∑ k : Fin 8448, e (ix4 b h q k)) := by
  pointwise [weights]

/-- An element of the result, where the row's scores are the reals `t` and its values `v`: the values averaged with
weights `exp t`. -/
theorem out_average (s : FVec Ideal S8x8x8192x8448 .f32) (t : ℕ → ℝ) (ht : ∀ k : Fin 8448, s (ix4 b h q k) = t k.val)
    (a2 : FVec Ideal S8x8192x8x64 .f32) (a5 : FVec Ideal S8x256x8x64 .f32) (d : Fin 64) (v : ℕ → EReal)
    (h2 : ∀ k : Fin 8192, a2 (ix4 b k h d) = v k.val) (h5 : ∀ k : Fin 256, a5 (ix4 b k h d) = v (8192 + k.val)) :
    out a2 a5 (weights (exps s)) (ix3 b ⟨64 * h.val + d.val, by omega⟩ q)
      = ∑ n ∈ Finset.range 8448, v n * ((Real.exp (t n) / ∑ n ∈ Finset.range 8448, Real.exp (t n) : ℝ) : EReal) := by
  obtain ⟨μ, hμ⟩ := Softmax.fold_max_real (n := 8447) (fun k => s (ix4 b h q k)) (fun k => ⟨_, ht k⟩)
  have he : ∀ k : Fin 8448, exps s (ix4 b h q k) = ((Real.exp (t k.val - μ) : ℝ) : EReal) := fun k => by
    rw [exps_apply, rowMax_apply, Softmax.ofBits_neg_inf, hμ, ht, max_eq_right bot_le, ← EReal.coe_sub, Ideal.exp_coe]
  have hZ : 0 < ∑ n ∈ Finset.range 8448, Real.exp (t n) :=
    Finset.sum_pos (fun _ _ => Real.exp_pos _) (Finset.nonempty_range_iff.2 (by norm_num))
  have hx : ∀ a : ℝ, Real.exp (a - μ) = Real.exp (-μ) * Real.exp a := fun a => by
    rw [← Real.exp_add, neg_add_eq_sub]
  have hs : ∑ k : Fin 8448, Real.exp (t k.val - μ) = Real.exp (-μ) * ∑ n ∈ Finset.range 8448, Real.exp (t n) := by
    rw [Finset.mul_sum, ← Fin.sum_univ_eq_sum_range (fun n => Real.exp (-μ) * Real.exp (t n)) 8448]
    exact Finset.sum_congr rfl fun k _ => hx (t k.val)
  have hw : ∀ k : Fin 8448, weights (exps s) (ix4 b h q k)
      = ((Real.exp (t k.val) / ∑ n ∈ Finset.range 8448, Real.exp (t n) : ℝ) : EReal) := fun k => by
    rw [weights_apply]
    simp only [he]
    rw [← Softmax.coe_sum, hs, Softmax.div_real _ _ (mul_pos (Real.exp_pos _) hZ).ne', hx,
      mul_div_mul_left _ _ (Real.exp_pos _).ne']
  rw [out_apply]
  simp only [hw, h2, h5]
  generalize ∑ n ∈ Finset.range 8448, Real.exp (t n) = Z
  refine Eq.trans ?_ (Finset.sum_range_add (fun n => v n * ((Real.exp (t n) / Z : ℝ) : EReal)) 8192 256).symm
  rw [← Fin.sum_univ_eq_sum_range, ← Fin.sum_univ_eq_sum_range (fun n => v (8192 + n) * ((Real.exp (t (8192 + n)) / Z : ℝ) : EReal))]

end Cert.Ref

end
-- ==== Proof.Value.lean ====
/-
The kernel's result is the reference's: over the extended reals, where the queries of the frames and all keys are real.
-/
module

public import proofs.«01_k».proof.Proof.Column
public import proofs.«01_k».proof.Proof.RefAt

@[expose] public section

noncomputable section

namespace Cert.Mla

open Idealize.ShloMosaic Idealize.ShloMosaic.TcCoe
open Cert.KernelIdeal Cert.KernelIdeal.Gen

/-- The divisor of the reference's scores is `√96`. -/
theorem sqrt_word : Ideal.sqrt (Ideal.ofBits .f32 0x42C00000#32) = ((Real.sqrt 96 : ℝ) : EReal) := by
  have h1 : Ideal.ofBits .f32 0x42C00000#32 = ((96 : ℝ) : EReal) := by
    simp [Ideal.ofBits, Ideal.ieee, -EReal.coe_mul]
    norm_num
  rw [h1, Ideal.sqrt_coe, if_neg (by norm_num)]

/-- A score of the reference. -/
theorem ref_score (a0 a1 : FVec Ideal S8x8192x8x96 .f32) (a4 : FVec Ideal S8x256x8x96 .f32) (b h : Fin 8) (q : Fin 8192)
    (qr : Fin 96 → ℝ) (kr : ℕ → Fin 96 → ℝ) (hq : ∀ x, a0 (ix4 b q h x) = qr x)
    (hk : ∀ (n : Fin 8192) x, a1 (ix4 b n h x) = kr n.val x)
    (hk' : ∀ (n : Fin 256) x, a4 (ix4 b n h x) = kr (8192 + n.val) x) (n : Fin 8448) :
    Ref.scores a0 a1 a4 (ix4 b h q n) = ((scoreOf qr kr n.val : ℝ) : EReal) := by
  have hs : Real.sqrt 96 ≠ 0 := by positivity
  rw [Ref.scores_apply, sqrt_word]
  by_cases hn : n.val < 8192
  · rw [dif_pos hn]
    simp only [hq, hk, ← EReal.coe_mul]
    rw [← Softmax.coe_sum, Softmax.div_real _ _ hs]
    rfl
  · rw [dif_neg hn]
    simp only [hq, hk', ← EReal.coe_mul, show 8192 + (n.val - 8192) = n.val by omega]
    rw [← Softmax.coe_sum, Softmax.div_real _ _ hs]
    rfl

variable (m : (ℓ : Loc nD τ sig) → Buf (Elt Ideal) ℓ) (c : Dev nD)
  (a0 a1 : FVec Ideal S8x8192x8x96 .f32) (a2 : FVec Ideal S8x8192x8x64 .f32)
  (a4 : FVec Ideal S8x256x8x96 .f32) (a5 : FVec Ideal S8x256x8x64 .f32)
  (e0 : m ((c : Thread nD τ).loc main_arg0) = a0) (e1 : m ((c : Thread nD τ).loc main_arg1) = a1)
  (e2 : m ((c : Thread nD τ).loc main_arg2) = a2) (e4 : m ((c : Thread nD τ).loc main_arg4) = a4)
  (e5 : m ((c : Thread nD τ).loc main_arg5) = a5)
  (h0 : ∀ i, ∃ r : ℝ, a0 i = r) (h1 : ∀ i, ∃ r : ℝ, a1 i = r) (h4 : ∀ i, ∃ r : ℝ, a4 i = r)

include e0 e1 e2 e4 e5 h0 h1 h4

/-- What a point leaves is the reference's block. -/
theorem point_eq (t : Fin cfg0.N) (b h : Fin 8) (i : Fin 2) (hb : (grid0.coords t 0).val = b.val)
    (hh : (grid0.coords t 1).val = h.val) (hi : (grid0.coords t 2).val = i.val) (d : Fin 64) (l : Fin 4096) :
    outAt m c t (ix3 0 d l)
      = Ref.out a2 a5 (Ref.weights (Ref.exps (Ref.scores a0 a1 a4)))
          (ix3 b ⟨64 * h.val + d.val, by omega⟩ ⟨4096 * i.val + l.val, by omega⟩) := by
  choose r0 h0 using h0
  choose r1 h1 using h1
  choose r4 h4 using h4
  have hq : ∀ x, a0 (ix4 b ⟨4096 * i.val + l.val, by omega⟩ h x)
      = ((fun x => r0 (ix4 b ⟨4096 * i.val + l.val, by omega⟩ h x)) x : ℝ) := fun x => h0 _
  obtain ⟨kr, hk, hk'⟩ : ∃ kr : ℕ → Fin 96 → ℝ, (∀ (n : Fin 8192) x, a1 (ix4 b n h x) = kr n.val x)
      ∧ (∀ (n : Fin 256) x, a4 (ix4 b n h x) = kr (8192 + n.val) x) := by
    refine ⟨fun n x => if hn : n < 8192 then r1 (ix4 b ⟨n, hn⟩ h x)
      else r4 (ix4 b ⟨(n - 8192) % 256, Nat.mod_lt _ (by omega)⟩ h x), fun n x => ?_, fun n x => ?_⟩
    · rw [h1]; simp only [n.isLt, ↓reduceDIte]
    · rw [h4]
      simp only [show ¬ 8192 + n.val < 8192 by omega, ↓reduceDIte, Nat.add_sub_cancel_left, Nat.mod_eq_of_lt n.isLt]
  obtain ⟨v, hv, hv'⟩ : ∃ v : ℕ → EReal, (∀ n : Fin 8192, a2 (ix4 b n h d) = v n.val)
      ∧ (∀ n : Fin 256, a5 (ix4 b n h d) = v (8192 + n.val)) := by
    refine ⟨fun n => if hn : n < 8192 then a2 (ix4 b ⟨n, hn⟩ h d)
      else a5 (ix4 b ⟨(n - 8192) % 256, Nat.mod_lt _ (by omega)⟩ h d), fun n => ?_, fun n => ?_⟩
    · simp only [n.isLt, ↓reduceDIte]
    · simp only [show ¬ 8192 + n.val < 8192 by omega, ↓reduceDIte, Nat.add_sub_cancel_left, Nat.mod_eq_of_lt n.isLt]
  rw [outAt_average m c t b h hb hh i hi a0 a1 a2 a4 a5 e0 e1 e2 e4 e5 l d _ kr v _ rfl hq hk hk' hv hv']
  exact (Ref.out_average b h _ _ _ (ref_score a0 a1 a4 b h _ _ kr hq hk hk') a2 a5 d v hv hv').symm

/-- The array of results is the reference's. -/
theorem array_eq :
    (dats m 0 c).arrAt 3 cfg0.N = Ref.out a2 a5 (Ref.weights (Ref.exps (Ref.scores a0 a1 a4))) := by
  refine (dats m 0 c).arrAt_eq_of_covers 3 _ (by decide +kernel) fun t hf y => ?_
  blk_simp
  rw [after_o]
  have e := (index_all t).2.2.2
  have h0' : (y 0).val < 1 := (y 0).isLt
  have h1' : (y 1).val < 64 := (y 1).isLt
  have h2' : (y 2).val < 4096 := (y 2).isLt
  have hy : y = ix3 (n0 := 1) (n1 := 64) (n2 := 4096) 0 ⟨(y 1).val, h1'⟩ ⟨(y 2).val, h2'⟩ := by
    funext a
    match a with
    | ⟨0, _⟩ => exact Fin.ext (by show (y 0).val = 0; omega)
    | ⟨1, _⟩ => rfl
    | ⟨2, _⟩ => rfl
  have hp := point_eq m c a0 a1 a2 a4 a5 e0 e1 e2 e4 e5 h0 h1 h4 t ⟨(grid0.coords t 0).val, (grid0.coords t 0).isLt⟩
    ⟨(grid0.coords t 1).val, (grid0.coords t 1).isLt⟩ ⟨(grid0.coords t 2).val, (grid0.coords t 2).isLt⟩ rfl rfl rfl
    ⟨(y 1).val, h1'⟩ ⟨(y 2).val, h2'⟩
  generalize Ref.out a2 a5 (Ref.weights (Ref.exps (Ref.scores a0 a1 a4))) = G at hp ⊢
  refine (congrArg (outAt m c t) hy).trans (hp.trans ?_)
  blk_ext [e]

end Cert.Mla

end
-- ==== Proof.MergeRow.lean ====
/-
The end of the layer at one token, over the extended reals: the branches are merged, projected and added with a gate,
and the feed-forward part of the normalised and modulated sum is added with a gate.
-/
module

public import Idealize.ShloMosaic.PureOps.Ideal
public import Mathlib.Algebra.BigOperators.Group.Finset.Basic
public import Mathlib.Algebra.BigOperators.Fin
public import Mathlib.Data.Finset.Fold
public import Mathlib.Analysis.SpecialFunctions.Pow.Real

@[expose] public section

noncomputable section

namespace Cert.Merge

open Idealize.ShloMosaic

/-- The branches, each through its matrix, with their gates. -/
def merged (yh yg ym : Fin 512 → EReal) (g : Fin 3 → Fin 1024 → EReal) (wb : Fin 3 → Fin 512 → Fin 1024 → EReal)
    (d : Fin 1024) : EReal :=
  g 0 d * (∑ k, yh k * wb 0 k d) + g 1 d * (∑ k, yg k * wb 1 k d) + g 2 d * (∑ k, ym k * wb 2 k d)

/-- The stream with the merged branches. -/
def mixed (x gate mg : Fin 1024 → EReal) (wo : Fin 1024 → Fin 1024 → EReal) (d : Fin 1024) : EReal :=
  x d + gate d * ∑ e, mg e * wo e d

/-- The normalised and modulated stream. -/
def hidden (x g scale shift : Fin 1024 → EReal) (d : Fin 1024) : EReal :=
  x d * Ideal.rsqrt (Ideal.div (∑ e, x e * x e) (Ideal.ofBits .f32 0x44800000#32) + Ideal.ofBits .f32 0x358637BD#32) * g d
    * (Ideal.ofBits .f32 0x3F800000#32 + scale d) + shift d

/-- A unit of the feed-forward part: the square of what is positive. -/
def unit {n : ℕ} (h : Fin 1024 → EReal) (w1 : Fin 1024 → Fin n → EReal) (f : Fin n) : EReal :=
  max (∑ d, h d * w1 d f) 0 * max (∑ d, h d * w1 d f) 0

/-- The stream with the feed-forward part. -/
def fed (x gate h : Fin 1024 → EReal) (w1 : Fin 1024 → Fin 4096 → EReal) (w2 : Fin 4096 → Fin 1024 → EReal)
    (d : Fin 1024) : EReal :=
  x d + gate d * ∑ f, unit h w1 f * w2 f d

/-- A sum by four parts. -/
theorem sum_four {M : Type} [AddCommMonoid M] (n N : ℕ) (hN : N = n + n + n + n) (v : Fin N → M) :
    ∑ f, v f = ∑ f : Fin n, v ⟨f.val, by omega⟩ + ∑ f : Fin n, v ⟨n + f.val, by omega⟩
      + ∑ f : Fin n, v ⟨n + n + f.val, by omega⟩ + ∑ f : Fin n, v ⟨n + n + n + f.val, by omega⟩ := by
  subst hN
  rw [Fin.sum_univ_add, Fin.sum_univ_add, Fin.sum_univ_add]
  rfl

end Cert.Merge

end
-- ==== Proof.MergeTile.lean ====
/-
What the merge call's body computes of one batch entry's tile of 256 tokens, read at a token.
-/
module

public import proofs.«01_k».proof.Proof.MergeRow
public import proofs.«01_k».proof.Proof.Gen.Kernel2Ideal.Skeleton
public import Idealize.ShloMosaic.Lib.Pointwise

@[expose] public section

noncomputable section

namespace Cert.Merge

open Idealize.ShloMosaic Idealize.ShloMosaic.TcCoe
open Cert.Kernel2Ideal Cert.Kernel2Ideal.Gen

variable (r : Fin 256)

/-- The point's tile is one of the latent tokens. -/
theorem latent : ∀ i : Fin 32, Scalar.cmpi .slt (BitVec.ofNat 32 i.val) 32#32 = 1#1 := by decide

/-- The convolution's branch. -/
theorem pay2_apply (i : grid0.Coords) (v1 v3 v7 v9 v13 v15 : FVec Ideal S1x256x512 .bf16) (v19 : FVec Ideal S1x512 .f32)
    (hi : Scalar.cmpi .slt (BitVec.ofNat 32 (i 1).val) 32#32 = 1#1) (k : Fin 512) :
    k0_pay2 (F := Ideal) i v1 v3 v7 v9 v13 v15 v19 (ix2 r k)
      = v7 (ix3 0 r k) * (v1 (ix3 0 r k) + v13 (ix3 0 r k) * v19 (ix2 0 k)) := by
  unfold k0_pay2
  dsimp only
  rw [hi]
  pointwise

/-- The windowed attention's branch. -/
theorem pay3_apply (v : FVec Ideal S1x512x256 .bf16) (k : Fin 512) :
    k0_pay3 (F := Ideal) v (ix2 r k) = v (ix3 0 k r) := by
  pointwise [k0_pay3]

/-- The latent attention's branch. -/
theorem pay4_apply (v w : FVec Ideal S1x512x256 .bf16) (k : Fin 512) :
    k0_pay4 (F := Ideal) 1#1 v w (ix2 r k) = v (ix3 0 k r) := by
  pointwise [k0_pay4]

/-- Two branches with their gates. -/
theorem pay5_apply (y0 y1 : FVec Ideal S256x512 .bf16) (g0 g1 : FVec Ideal S256x1024 .bf16)
    (b0 b1 : FVec Ideal S1x512x1024 .bf16) (d : Fin 1024) :
    k0_pay5 (F := Ideal) y0 y1 g0 b0 g1 b1 (ix2 r d)
      = g0 (ix2 r d) * (∑ k : Fin 512, y0 (ix2 r k) * b0 (ix3 0 k d))
        + g1 (ix2 r d) * (∑ k : Fin 512, y1 (ix2 r k) * b1 (ix3 0 k d)) := by
  pointwise [k0_pay5]

/-- The third gate. -/
theorem pay6_apply (g : FVec Ideal S256x1024 .bf16) (d : Fin 1024) : k0_pay6 (F := Ideal) g (ix2 r d) = g (ix2 r d) := by
  pointwise [k0_pay6]

/-- The stream with the branches. -/
theorem pay7_apply (y : FVec Ideal S256x512 .bf16) (a g : FVec Ideal S256x1024 .f32) (b : FVec Ideal S1x512x1024 .bf16)
    (wo : FVec Ideal S1024x1024 .bf16) (x : FVec Ideal S1x256x1024 .f32) (m : FVec Ideal S1x1024 .f32) (d : Fin 1024) :
    k0_pay7 (F := Ideal) y a g b wo x m (ix2 r d)
      = x (ix3 0 r d) + m (ix2 0 d) * ∑ e : Fin 1024,
          (a (ix2 r e) + g (ix2 r e) * ∑ k : Fin 512, y (ix2 r k) * b (ix3 0 k e)) * wo (ix2 e d) := by
  pointwise [k0_pay7]

/-- The normalised stream. -/
theorem pay8_apply (y : FVec Ideal S256x512 .bf16) (a g : FVec Ideal S256x1024 .f32) (b : FVec Ideal S1x512x1024 .bf16)
    (wo : FVec Ideal S1024x1024 .bf16) (x : FVec Ideal S1x256x1024 .f32) (m n : FVec Ideal S1x1024 .f32) (d : Fin 1024) :
    k0_pay8 (F := Ideal) y a g b wo x m n (ix2 r d)
      = k0_pay7 (F := Ideal) y a g b wo x m (ix2 r d)
        * Ideal.rsqrt (Ideal.div (∑ e : Fin 1024, k0_pay7 (F := Ideal) y a g b wo x m (ix2 r e) * k0_pay7 (F := Ideal) y a g b wo x m (ix2 r e))
            (Ideal.ofBits .f32 0x44800000#32) + Ideal.ofBits .f32 0x358637BD#32) * n (ix2 0 d) := by
  unfold k0_pay8
  generalize k0_pay7 (F := Ideal) y a g b wo x m = z
  pointwise

/-- The normalised stream, modulated. -/
theorem pay9_apply (z : FVec Ideal S256x1024 .f32) (s t : FVec Ideal S1x1024 .f32) (d : Fin 1024) :
    k0_pay9 (F := Ideal) z s t (ix2 r d)
      = z (ix2 r d) * (Ideal.ofBits .f32 0x3F800000#32 + s (ix2 0 d)) + t (ix2 0 d) := by
  pointwise [k0_pay9]

/-- Half of the feed-forward part. -/
theorem pay10_apply (z : FVec Ideal S256x1024 .f32) (s t : FVec Ideal S1x1024 .f32)
    (p0 q0 p1 q1 : FVec Ideal S1024x1024 .bf16) (d : Fin 1024) :
    k0_pay10 (F := Ideal) z s t p0 q0 p1 q1 (ix2 r d)
      = (∑ f : Fin 1024, unit (fun e => k0_pay9 (F := Ideal) z s t (ix2 r e)) (fun e f => p0 (ix2 e f)) f * q0 (ix2 f d))
        + ∑ f : Fin 1024, unit (fun e => k0_pay9 (F := Ideal) z s t (ix2 r e)) (fun e f => p1 (ix2 e f)) f * q1 (ix2 f d) := by
  unfold k0_pay10 unit
  generalize k0_pay9 (F := Ideal) z s t = h
  pointwise

/-- The other half, and the sum with its gate. -/
theorem pay11_apply (x : FVec Ideal S256x1024 .f32) (h : FVec Ideal S256x1024 .bf16) (z : FVec Ideal S256x1024 .f32)
    (p2 q2 p3 q3 : FVec Ideal S1024x1024 .bf16) (m : FVec Ideal S1x1024 .f32) (d : Fin 1024) :
    k0_pay11 (F := Ideal) x h z p2 q2 p3 q3 m (ix3 0 r d)
      = x (ix2 r d) + m (ix2 0 d) * (z (ix2 r d)
          + (∑ f : Fin 1024, unit (fun e => h (ix2 r e)) (fun e f => p2 (ix2 e f)) f * q2 (ix2 f d))
          + ∑ f : Fin 1024, unit (fun e => h (ix2 r e)) (fun e f => p3 (ix2 e f)) f * q3 (ix2 f d)) := by
  pointwise [k0_pay11, unit]

end Cert.Merge

end
-- ==== Proof.MergePoint.lean ====
/-
What a point of the merge call's grid leaves: at each of its two batch entries and 256 tokens the end of the layer.
-/
module

public import proofs.«01_k».proof.Proof.MergeTile
public import proofs.«01_k».proof.Proof.Gen.Kernel2Ideal.Frame

@[expose] public section

noncomputable section

namespace Cert.Merge

open Idealize.ShloMosaic Idealize.ShloMosaic.TcCoe
open Cert.Kernel2Ideal Cert.Kernel2Ideal.Gen

section Tile

variable {F : FTy → Type} [FloatOps F]

/-- One batch entry's tile, from the values that the body loads for it. -/
def tile (i : grid0.Coords) (l2 l5 l3 l6 l4 l7 : FVec F S1x256x512 .bf16) (l8 : FVec F S1x512 .f32)
    (l9 l10 l11 : FVec F S1x512x256 .bf16) (g0 g1 g2 : FVec F S256x1024 .bf16) (b0 b1 b2 : FVec F S1x512x1024 .bf16)
    (wo : FVec F S1024x1024 .bf16) (x : FVec F S1x256x1024 .f32) (m2 ng m4 m3 m5 : FVec F S1x1024 .f32)
    (p0 q0 p1 q1 p2 q2 p3 q3 : FVec F S1024x1024 .bf16) : FVec F S1x256x1024 .f32 :=
  k0_pay11
    (k0_pay7 (k0_pay4 (Scalar.cmpi .slt (BitVec.ofNat 32 (i 1).val) 32#32) l10 l11)
      (k0_pay5 (k0_pay2 i l2 l5 l3 l6 l4 l7 l8) (k0_pay3 l9) g0 b0 g1 b1) (k0_pay6 g2) b2 wo x m2)
    (k0_pay9 (k0_pay8 (k0_pay4 (Scalar.cmpi .slt (BitVec.ofNat 32 (i 1).val) 32#32) l10 l11)
      (k0_pay5 (k0_pay2 i l2 l5 l3 l6 l4 l7 l8) (k0_pay3 l9) g0 b0 g1 b1) (k0_pay6 g2) b2 wo x m2 ng) m4 m3)
    (k0_pay10 (k0_pay8 (k0_pay4 (Scalar.cmpi .slt (BitVec.ofNat 32 (i 1).val) 32#32) l10 l11)
      (k0_pay5 (k0_pay2 i l2 l5 l3 l6 l4 l7 l8) (k0_pay3 l9) g0 b0 g1 b1) (k0_pay6 g2) b2 wo x m2 ng) m4 m3 p0 q0 p1 q1)
    p2 q2 p3 q3 m5

/-- The second batch entry's tile is computed as the first's. -/
theorem tile_second (i : grid0.Coords) (l2 l5 l3 l6 l4 l7 : FVec F S1x256x512 .bf16) (l8 : FVec F S1x512 .f32)
    (l9 l10 l11 : FVec F S1x512x256 .bf16) (g0 g1 g2 : FVec F S256x1024 .bf16) (b0 b1 b2 : FVec F S1x512x1024 .bf16)
    (wo : FVec F S1024x1024 .bf16) (x : FVec F S1x256x1024 .f32) (m2 ng m4 m3 m5 : FVec F S1x1024 .f32)
    (p0 q0 p1 q1 p2 q2 p3 q3 : FVec F S1024x1024 .bf16) (z : FVec F S256x1024 .bf16) (u : FVec F S256x1024 .f32)
    (hz : z = k0_pay16 (k0_pay13 (Scalar.cmpi .slt (BitVec.ofNat 32 (i 1).val) 32#32) (k0_pay12 l2) l5 l3 l6 l4 l7 l8)
      (k0_pay14 l9) (k0_pay15 (Scalar.cmpi .slt (BitVec.ofNat 32 (i 1).val) 32#32) l10 l11) g0 b0 g1 b1 g2 b2)
    (hu : u = k0_pay18 z wo x m2 ng m4) :
    k0_pay1 (k0_pay17 z wo x m2) (k0_pay19 u m3) (k0_pay20 u m3 p0 q0 p1 q1) (k0_pay21 u m3 p2) q2 p3 q3 m5
      = tile i l2 l5 l3 l6 l4 l7 l8 l9 l10 l11 g0 g1 g2 b0 b1 b2 wo x m2 ng m4 m3 m5 p0 q0 p1 q1 p2 q2 p3 q3 := by
  subst hu
  subst hz
  rfl

end Tile

/-- A tile at a token: the end of the layer. -/
theorem tile_apply (i : grid0.Coords) (hi : Scalar.cmpi .slt (BitVec.ofNat 32 (i 1).val) 32#32 = 1#1)
    (l2 l5 l3 l6 l4 l7 : FVec Ideal S1x256x512 .bf16) (l8 : FVec Ideal S1x512 .f32)
    (l9 l10 l11 : FVec Ideal S1x512x256 .bf16) (g0 g1 g2 : FVec Ideal S256x1024 .bf16)
    (b0 b1 b2 : FVec Ideal S1x512x1024 .bf16)
    (wo : FVec Ideal S1024x1024 .bf16) (x : FVec Ideal S1x256x1024 .f32) (m2 ng m4 m3 m5 : FVec Ideal S1x1024 .f32)
    (p0 q0 p1 q1 p2 q2 p3 q3 : FVec Ideal S1024x1024 .bf16) (r : Fin 256)
    (g : Fin 3 → Fin 1024 → EReal) (hg0 : ∀ d, g0 (ix2 r d) = g 0 d) (hg1 : ∀ d, g1 (ix2 r d) = g 1 d)
    (hg2 : ∀ d, g2 (ix2 r d) = g 2 d)
    (wb : Fin 3 → Fin 512 → Fin 1024 → EReal) (hb0 : ∀ k d, b0 (ix3 0 k d) = wb 0 k d)
    (hb1 : ∀ k d, b1 (ix3 0 k d) = wb 1 k d) (hb2 : ∀ k d, b2 (ix3 0 k d) = wb 2 k d)
    (w1 : Fin 1024 → Fin 4096 → EReal) (w2 : Fin 4096 → Fin 1024 → EReal)
    (hp0 : ∀ d (f : Fin 1024), p0 (ix2 d f) = w1 d ⟨f.val, f.isLt.trans (by decide)⟩)
    (hp1 : ∀ d (f : Fin 1024), p1 (ix2 d f) = w1 d ⟨1024 + f.val, by omega⟩)
    (hp2 : ∀ d (f : Fin 1024), p2 (ix2 d f) = w1 d ⟨1024 + 1024 + f.val, by omega⟩)
    (hp3 : ∀ d (f : Fin 1024), p3 (ix2 d f) = w1 d ⟨1024 + 1024 + 1024 + f.val, by omega⟩)
    (hq0 : ∀ d (f : Fin 1024), q0 (ix2 f d) = w2 ⟨f.val, f.isLt.trans (by decide)⟩ d)
    (hq1 : ∀ d (f : Fin 1024), q1 (ix2 f d) = w2 ⟨1024 + f.val, by omega⟩ d)
    (hq2 : ∀ d (f : Fin 1024), q2 (ix2 f d) = w2 ⟨1024 + 1024 + f.val, by omega⟩ d)
    (hq3 : ∀ d (f : Fin 1024), q3 (ix2 f d) = w2 ⟨1024 + 1024 + 1024 + f.val, by omega⟩ d)
    (mx : Fin 1024 → EReal)
    (hmx : mx = mixed (fun d => x (ix3 0 r d)) (fun d => m2 (ix2 0 d))
      (merged (fun k => l3 (ix3 0 r k) * (l2 (ix3 0 r k) + l4 (ix3 0 r k) * l8 (ix2 0 k))) (fun k => l9 (ix3 0 k r))
        (fun k => l10 (ix3 0 k r)) g wb) (fun e d => wo (ix2 e d)))
    (d : Fin 1024) :
    tile (F := Ideal) i l2 l5 l3 l6 l4 l7 l8 l9 l10 l11 g0 g1 g2 b0 b1 b2 wo x m2 ng m4 m3 m5 p0 q0 p1 q1 p2 q2 p3 q3
        (ix3 0 r d)
      = fed mx (fun d => m5 (ix2 0 d))
          (hidden mx (fun d => ng (ix2 0 d)) (fun d => m4 (ix2 0 d)) (fun d => m3 (ix2 0 d))) w1 w2 d := by
  have h7 : ∀ d, k0_pay7 (F := Ideal) (k0_pay4 (F := Ideal) 1#1 l10 l11)
      (k0_pay5 (F := Ideal) (k0_pay2 (F := Ideal) i l2 l5 l3 l6 l4 l7 l8) (k0_pay3 (F := Ideal) l9) g0 b0 g1 b1)
      (k0_pay6 (F := Ideal) g2) b2 wo x m2 (ix2 r d) = mx d := by
    intro d
    rw [pay7_apply, hmx]
    simp only [pay4_apply, pay5_apply, pay6_apply, pay3_apply, pay2_apply _ _ _ _ _ _ _ _ _ hi, hg0, hg1, hg2, hb0, hb1, hb2]
    rfl
  unfold tile
  rw [hi]
  generalize k0_pay4 (F := Ideal) 1#1 l10 l11 = Y at h7 ⊢
  generalize k0_pay5 (F := Ideal) (k0_pay2 (F := Ideal) i l2 l5 l3 l6 l4 l7 l8) (k0_pay3 (F := Ideal) l9) g0 b0 g1 b1 = A at h7 ⊢
  generalize k0_pay6 (F := Ideal) g2 = G at h7 ⊢
  have h9 : ∀ d, k0_pay9 (F := Ideal) (k0_pay8 (F := Ideal) Y A G b2 wo x m2 ng) m4 m3 (ix2 r d)
      = hidden mx (fun d => ng (ix2 0 d)) (fun d => m4 (ix2 0 d)) (fun d => m3 (ix2 0 d)) d := by
    intro d
    rw [pay9_apply, pay8_apply]
    simp only [h7]
    rfl
  rw [pay11_apply, pay10_apply]
  simp only [h7, h9, hp0, hp1, hp2, hp3, hq0, hq1, hq2, hq3]
  unfold fed
  rw [sum_four 1024 4096 rfl]
  rfl

end Cert.Merge

end
-- ==== Proof.MergeOut.lean ====
/-
What a point of the merge call's grid leaves, read in the blocks that the point is given.
-/
module

public import proofs.«01_k».proof.Proof.MergePoint
public import Idealize.ShloMosaic.Lib.Pipeline.ValueKit

@[expose] public section

noncomputable section

namespace Cert.Merge

open Idealize.ShloMosaic Idealize.ShloMosaic.TcCoe
open Cert.Kernel2Ideal Cert.Kernel2Ideal.Gen

/-- The stream with the merged branches, at a token of a point's blocks. -/
def mixAt (x0 : FVec Ideal S2x256x1024 .f32) (x1 : FVec Ideal S2x1x1x6144 .f32)
    (x2 x3 x4 : FVec Ideal S2x256x512 .bf16) (x8 : FVec Ideal S1x512 .f32) (x9 x10 : FVec Ideal S2x512x256 .bf16)
    (x12 : FVec Ideal S2x256x3072 .bf16) (x13 : FVec Ideal S3x512x1024 .bf16) (x14 : FVec Ideal S1024x1024 .bf16)
    (n : Fin 2) (r : Fin 256) : Fin 1024 → EReal :=
  mixed (fun d => x0 (ix3 n r d)) (fun d => x1 (ix4 n 0 0 ⟨2048 + d.val, by omega⟩))
    (merged (fun k => x3 (ix3 n r k) * (x2 (ix3 n r k) + x4 (ix3 n r k) * x8 (ix2 0 k))) (fun k => x9 (ix3 n k r))
      (fun k => x10 (ix3 n k r)) (fun j d => x12 (ix3 n r ⟨1024 * j.val + d.val, by omega⟩))
      (fun j k d => x13 (ix3 j k d))) (fun e d => x14 (ix2 e d))

/-- The end of the layer, at a token of a point's blocks. -/
def outAt (x0 : FVec Ideal S2x256x1024 .f32) (x1 : FVec Ideal S2x1x1x6144 .f32)
    (x2 x3 x4 : FVec Ideal S2x256x512 .bf16) (x8 : FVec Ideal S1x512 .f32) (x9 x10 : FVec Ideal S2x512x256 .bf16)
    (x12 : FVec Ideal S2x256x3072 .bf16) (x13 : FVec Ideal S3x512x1024 .bf16) (x14 : FVec Ideal S1024x1024 .bf16)
    (x15 : FVec Ideal S1x1024 .f32) (x16 : FVec Ideal S1024x4096 .bf16) (x17 : FVec Ideal S4096x1024 .bf16)
    (n : Fin 2) (r : Fin 256) : Fin 1024 → EReal :=
  fed (mixAt x0 x1 x2 x3 x4 x8 x9 x10 x12 x13 x14 n r) (fun d => x1 (ix4 n 0 0 ⟨5120 + d.val, by omega⟩))
    (hidden (mixAt x0 x1 x2 x3 x4 x8 x9 x10 x12 x13 x14 n r) (fun d => x15 (ix2 0 d))
      (fun d => x1 (ix4 n 0 0 ⟨4096 + d.val, by omega⟩)) (fun d => x1 (ix4 n 0 0 ⟨3072 + d.val, by omega⟩)))
    (fun e f => x16 (ix2 e f)) (fun f d => x17 (ix2 f d))

/-- A tile whose operands are the parts of a point's blocks at one batch entry is the end of the layer there. -/
theorem tile_out (i : grid0.Coords) (hi : Scalar.cmpi .slt (BitVec.ofNat 32 (i 1).val) 32#32 = 1#1)
    (x0 : FVec Ideal S2x256x1024 .f32) (x1 : FVec Ideal S2x1x1x6144 .f32)
    (x2 x3 x4 : FVec Ideal S2x256x512 .bf16) (x8 : FVec Ideal S1x512 .f32) (x9 x10 : FVec Ideal S2x512x256 .bf16)
    (x12 : FVec Ideal S2x256x3072 .bf16) (x13 : FVec Ideal S3x512x1024 .bf16) (x14 : FVec Ideal S1024x1024 .bf16)
    (x15 : FVec Ideal S1x1024 .f32) (x16 : FVec Ideal S1024x4096 .bf16) (x17 : FVec Ideal S4096x1024 .bf16)
    (l2 l5 l3 l6 l4 l7 : FVec Ideal S1x256x512 .bf16) (l8 : FVec Ideal S1x512 .f32)
    (l9 l10 l11 : FVec Ideal S1x512x256 .bf16) (g0 g1 g2 : FVec Ideal S256x1024 .bf16)
    (b0 b1 b2 : FVec Ideal S1x512x1024 .bf16)
    (wo : FVec Ideal S1024x1024 .bf16) (x : FVec Ideal S1x256x1024 .f32) (m2 ng m4 m3 m5 : FVec Ideal S1x1024 .f32)
    (p0 q0 p1 q1 p2 q2 p3 q3 : FVec Ideal S1024x1024 .bf16) (n : Fin 2) (r : Fin 256)
    (hx : ∀ d, x (ix3 0 r d) = x0 (ix3 n r d))
    (h2 : ∀ k, l2 (ix3 0 r k) = x2 (ix3 n r k)) (h3 : ∀ k, l3 (ix3 0 r k) = x3 (ix3 n r k))
    (h4 : ∀ k, l4 (ix3 0 r k) = x4 (ix3 n r k)) (h8 : ∀ k, l8 (ix2 0 k) = x8 (ix2 0 k))
    (h9 : ∀ k, l9 (ix3 0 k r) = x9 (ix3 n k r)) (h10 : ∀ k, l10 (ix3 0 k r) = x10 (ix3 n k r))
    (hg0 : ∀ d : Fin 1024, g0 (ix2 r d) = x12 (ix3 n r ⟨1024 * (0 : Fin 3).val + d.val, by omega⟩))
    (hg1 : ∀ d : Fin 1024, g1 (ix2 r d) = x12 (ix3 n r ⟨1024 * (1 : Fin 3).val + d.val, by omega⟩))
    (hg2 : ∀ d : Fin 1024, g2 (ix2 r d) = x12 (ix3 n r ⟨1024 * (2 : Fin 3).val + d.val, by omega⟩))
    (hb0 : ∀ k d, b0 (ix3 0 k d) = x13 (ix3 0 k d)) (hb1 : ∀ k d, b1 (ix3 0 k d) = x13 (ix3 1 k d))
    (hb2 : ∀ k d, b2 (ix3 0 k d) = x13 (ix3 2 k d)) (hwo : ∀ e d, wo (ix2 e d) = x14 (ix2 e d))
    (hm2 : ∀ d : Fin 1024, m2 (ix2 0 d) = x1 (ix4 n 0 0 ⟨2048 + d.val, by omega⟩))
    (hng : ∀ d, ng (ix2 0 d) = x15 (ix2 0 d))
    (hm4 : ∀ d : Fin 1024, m4 (ix2 0 d) = x1 (ix4 n 0 0 ⟨4096 + d.val, by omega⟩))
    (hm3 : ∀ d : Fin 1024, m3 (ix2 0 d) = x1 (ix4 n 0 0 ⟨3072 + d.val, by omega⟩))
    (hm5 : ∀ d : Fin 1024, m5 (ix2 0 d) = x1 (ix4 n 0 0 ⟨5120 + d.val, by omega⟩))
    (hp0 : ∀ d (f : Fin 1024), p0 (ix2 d f) = x16 (ix2 d ⟨f.val, f.isLt.trans (by decide)⟩))
    (hp1 : ∀ d (f : Fin 1024), p1 (ix2 d f) = x16 (ix2 d ⟨1024 + f.val, by omega⟩))
    (hp2 : ∀ d (f : Fin 1024), p2 (ix2 d f) = x16 (ix2 d ⟨1024 + 1024 + f.val, by omega⟩))
    (hp3 : ∀ d (f : Fin 1024), p3 (ix2 d f) = x16 (ix2 d ⟨1024 + 1024 + 1024 + f.val, by omega⟩))
    (hq0 : ∀ d (f : Fin 1024), q0 (ix2 f d) = x17 (ix2 ⟨f.val, f.isLt.trans (by decide)⟩ d))
    (hq1 : ∀ d (f : Fin 1024), q1 (ix2 f d) = x17 (ix2 ⟨1024 + f.val, by omega⟩ d))
    (hq2 : ∀ d (f : Fin 1024), q2 (ix2 f d) = x17 (ix2 ⟨1024 + 1024 + f.val, by omega⟩ d))
    (hq3 : ∀ d (f : Fin 1024), q3 (ix2 f d) = x17 (ix2 ⟨1024 + 1024 + 1024 + f.val, by omega⟩ d))
    (d : Fin 1024) :
    tile (F := Ideal) i l2 l5 l3 l6 l4 l7 l8 l9 l10 l11 g0 g1 g2 b0 b1 b2 wo x m2 ng m4 m3 m5 p0 q0 p1 q1 p2 q2 p3 q3
        (ix3 0 r d)
      = outAt x0 x1 x2 x3 x4 x8 x9 x10 x12 x13 x14 x15 x16 x17 n r d := by
  rw [tile_apply i hi l2 l5 l3 l6 l4 l7 l8 l9 l10 l11 g0 g1 g2 b0 b1 b2 wo x m2 ng m4 m3 m5 p0 q0 p1 q1 p2 q2 p3 q3 r
    (fun j d => x12 (ix3 n r ⟨1024 * j.val + d.val, by omega⟩)) hg0 hg1 hg2 (fun j k d => x13 (ix3 j k d)) hb0 hb1 hb2
    (fun e f => x16 (ix2 e f)) (fun f d => x17 (ix2 f d)) hp0 hp1 hp2 hp3 hq0 hq1 hq2 hq3 _ rfl d]
  unfold outAt mixAt
  simp only [hx, h2, h3, h4, h8, h9, h10, hwo, hm2, hng, hm4, hm3, hm5]

/-- What a point leaves is the end of the layer. -/
theorem out_apply (i : grid0.Coords) (hi : Scalar.cmpi .slt (BitVec.ofNat 32 (i 1).val) 32#32 = 1#1)
    (x0 : FVec Ideal S2x256x1024 .f32) (x1 : FVec Ideal S2x1x1x6144 .f32)
    (x2 x3 x4 x5 x6 x7 : FVec Ideal S2x256x512 .bf16) (x8 : FVec Ideal S1x512 .f32)
    (x9 x10 x11 : FVec Ideal S2x512x256 .bf16)
    (x12 : FVec Ideal S2x256x3072 .bf16) (x13 : FVec Ideal S3x512x1024 .bf16) (x14 : FVec Ideal S1024x1024 .bf16)
    (x15 : FVec Ideal S1x1024 .f32) (x16 : FVec Ideal S1024x4096 .bf16) (x17 : FVec Ideal S4096x1024 .bf16)
    (n : Fin 2) (r : Fin 256) (d : Fin 1024) :
    out0_18 (F := Ideal) i x0 x1 x2 x3 x4 x5 x6 x7 x8 x9 x10 x11 x12 x13 x14 x15 x16 x17 (ix3 n r d)
      = outAt x0 x1 x2 x3 x4 x8 x9 x10 x12 x13 x14 x15 x16 x17 n r d := by
  unfold out0_18
  have hn : n = 0 ∨ n = 1 := by omega
  canon_tiles x h
  · have en : n = 1 := by
      simp only [ix3] at h0
      rcases hn with hn | hn <;> subst hn <;> simp_all
    have ex : x = ix3 0 r d := by
      refine funext fun a => ?_
      fin_cases a
      · exact Fin.ext (by simpa using x0_lt)
      · exact Fin.ext h1.symm
      · exact Fin.ext h2.symm
    subst ex
    subst en
    refine (congrFun (tile_second i _ _ _ _ _ _ _ _ _ _ _ _ _ _ _ _ _ _ _ _ _ _ _ _ _ _ _ _ _ _ _ _ _
      (by unfold k0_pay26; rfl) (by unfold k0_pay27; rfl)) _).trans ?_
    exact tile_out i hi x0 x1 x2 x3 x4 x8 x9 x10 x12 x13 x14 x15 x16 x17 _ _ _ _ _ _ _ _ _ _ _ _ _ _ _ _ _ _ _ _ _ _ _
      _ _ _ _ _ _ _ _ 1 r
      (fun _ => by pointwise) (fun _ => by pointwise) (fun _ => by pointwise) (fun _ => by pointwise) (fun _ => by pointwise) (fun _ => by pointwise) (fun _ => by pointwise) (fun _ => by pointwise) (fun _ => by pointwise) (fun _ => by pointwise)
      (fun _ _ => by pointwise) (fun _ _ => by pointwise) (fun _ _ => by pointwise) (fun _ _ => by pointwise)
      (fun _ => by pointwise) (fun _ => by pointwise) (fun _ => by pointwise) (fun _ => by pointwise) (fun _ => by pointwise)
      (fun _ _ => by pointwise) (fun _ _ => by pointwise) (fun _ _ => by pointwise) (fun _ _ => by pointwise) (fun _ _ => by pointwise) (fun _ _ => by pointwise) (fun _ _ => by pointwise) (fun _ _ => by pointwise) d
  · have en : n = 0 := by
      simp only [ix3] at h0
      rcases hn with hn | hn <;> subst hn <;> simp_all
    have ex : x = ix3 0 r d := by
      refine funext fun a => ?_
      fin_cases a
      · exact Fin.ext (by simpa using x0_lt)
      · exact Fin.ext h1.symm
      · exact Fin.ext h2.symm
    subst ex
    subst en
    unfold k0_pay22 k0_pay23 k0_pay24 k0_pay25
    exact tile_out i hi x0 x1 x2 x3 x4 x8 x9 x10 x12 x13 x14 x15 x16 x17 _ _ _ _ _ _ _ _ _ _ _ _ _ _ _ _ _ _ _ _ _ _ _
      _ _ _ _ _ _ _ _ 0 r
      (fun _ => by pointwise) (fun _ => by pointwise) (fun _ => by pointwise) (fun _ => by pointwise) (fun _ => by pointwise) (fun _ => by pointwise) (fun _ => by pointwise) (fun _ => by pointwise) (fun _ => by pointwise) (fun _ => by pointwise)
      (fun _ _ => by pointwise) (fun _ _ => by pointwise) (fun _ _ => by pointwise) (fun _ _ => by pointwise)
      (fun _ => by pointwise) (fun _ => by pointwise) (fun _ => by pointwise) (fun _ => by pointwise) (fun _ => by pointwise)
      (fun _ _ => by pointwise) (fun _ _ => by pointwise) (fun _ _ => by pointwise) (fun _ _ => by pointwise) (fun _ _ => by pointwise) (fun _ _ => by pointwise) (fun _ _ => by pointwise) (fun _ _ => by pointwise) d

end Cert.Merge

end
-- ==== Proof.MergeBlocks.lean ====
/-
The blocks a point of the merge call's grid is given: two batch entries, 256 tokens of each.
-/
module

public import proofs.«01_k».proof.Proof.Gen.Kernel2Ideal.Value
public import Idealize.ShloMosaic.Lib.Pipeline.ValueKit
public import Idealize.ShloMosaic.Lib.Pointwise

@[expose] public section

noncomputable section

namespace Cert.Merge

open Idealize.ShloMosaic Idealize.ShloMosaic.TcCoe
open Cert.Kernel2Ideal Cert.Kernel2Ideal.Gen

variable {F : FTy → Type} [FloatOps F]

/-- The stream and what lies beside it, tile by tile of the tokens. -/
theorem index_rows : ∀ t : Fin cfg0.N,
    win0_0.index t = ![(grid0.coords t 0).val, (grid0.coords t 1).val, 0]
    ∧ win0_2.index t = ![(grid0.coords t 0).val, (grid0.coords t 1).val, 0]
    ∧ win0_3.index t = ![(grid0.coords t 0).val, (grid0.coords t 1).val, 0]
    ∧ win0_4.index t = ![(grid0.coords t 0).val, (grid0.coords t 1).val, 0]
    ∧ win0_9.index t = ![(grid0.coords t 0).val, 0, (grid0.coords t 1).val]
    ∧ win0_10.index t = ![(grid0.coords t 0).val, 0, (grid0.coords t 1).val]
    ∧ win0_12.index t = ![(grid0.coords t 0).val, (grid0.coords t 1).val, 0]
    ∧ win0_18.index t = ![(grid0.coords t 0).val, (grid0.coords t 1).val, 0] :=
  (by decide +kernel : ∀ t : Fin grid0.N, _)

/-- The modulation of the frames' tokens, and the weights, whole. -/
theorem index_whole : ∀ t : Fin cfg0.N,
    win0_1.index t = ![(grid0.coords t 0).val, 0, 0, 0]
    ∧ win0_8.index t = ![0, 0] ∧ win0_13.index t = ![0, 0, 0] ∧ win0_14.index t = ![0, 0]
    ∧ win0_15.index t = ![0, 0] ∧ win0_16.index t = ![0, 0] ∧ win0_17.index t = ![0, 0] :=
  (by decide +kernel : ∀ t : Fin grid0.N, _)

variable (m : (ℓ : Loc nD τ sig) → Buf (Elt F) ℓ) (c : Dev nD) (t : Fin cfg0.N)

/-- The weights of the skip. -/
theorem blk_skip (k : Fin 512) : iblk m c 8 t (ix2 0 k) = V m c main_v18 (ix2 0 k) := by
  have e := (index_whole t).2.1
  blk_ext [iblk, e]

/-- The matrices of the branches. -/
theorem blk_branch (j : Fin 3) (k : Fin 512) (d : Fin 1024) : iblk m c 13 t (ix3 j k d) = V m c main_v19 (ix3 j k d) := by
  have e := (index_whole t).2.2.1
  blk_ext [iblk, e]

/-- The matrix of the merge. -/
theorem blk_merge (e d : Fin 1024) : iblk m c 14 t (ix2 e d) = V m c main_v20 (ix2 e d) := by
  have h := (index_whole t).2.2.2.1
  blk_ext [iblk, h]

/-- The weight of the norm. -/
theorem blk_norm (d : Fin 1024) : iblk m c 15 t (ix2 0 d) = V m c main_v21 (ix2 0 d) := by
  have e := (index_whole t).2.2.2.2.1
  blk_ext [iblk, e]

/-- The first matrix of the feed-forward part. -/
theorem blk_up (d : Fin 1024) (f : Fin 4096) : iblk m c 16 t (ix2 d f) = V m c main_v22 (ix2 d f) := by
  have e := (index_whole t).2.2.2.2.2.1
  blk_ext [iblk, e]

/-- The second matrix of the feed-forward part. -/
theorem blk_down (f : Fin 4096) (d : Fin 1024) : iblk m c 17 t (ix2 f d) = V m c main_v23 (ix2 f d) := by
  have e := (index_whole t).2.2.2.2.2.2
  blk_ext [iblk, e]

variable (b : Fin 8) (n : Fin 2) (hb : b.val = 2 * (grid0.coords t 0).val + n.val)

include hb

/-- The block of the modulation. -/
theorem blk_mod (d : Fin 6144) : iblk m c 1 t (ix4 n 0 0 d) = V m c main_v3 (ix4 b 0 0 d) := by
  have e := (index_whole t).1
  blk_ext [iblk, e, hb]

variable (q : Fin 8192) (q' : Fin 8448) (eq : q'.val = q.val) (r : Fin 256)
  (hq : q.val = 256 * (grid0.coords t 1).val + r.val)

include hq

/-- The blocks of the operands of the first mixer's output. -/
theorem blk_hyena (k : Fin 512) :
    iblk m c 2 t (ix3 n r k) = V m c main_v4 (ix3 b q k) ∧ iblk m c 3 t (ix3 n r k) = V m c main_v5 (ix3 b q k)
    ∧ iblk m c 4 t (ix3 n r k) = V m c main_v6 (ix3 b q k) := by
  obtain ⟨_, e2, e3, e4, _⟩ := index_rows t
  refine ⟨?_, ?_, ?_⟩
  · blk_ext [iblk, e2, hb, hq]
  · blk_ext [iblk, e3, hb, hq]
  · blk_ext [iblk, e4, hb, hq]

/-- The block of the latent attention's output. -/
theorem blk_mla (k : Fin 512) : iblk m c 10 t (ix3 n k r) = V m c main_v13 (ix3 b k q) := by
  obtain ⟨_, _, _, _, _, e, _⟩ := index_rows t
  blk_ext [iblk, e, hb, hq]

include eq

/-- The block of the stream. -/
theorem blk_stream (d : Fin 1024) : iblk m c 0 t (ix3 n r d) = V m c main_arg0 (ix3 b q' d) := by
  have e := (index_rows t).1
  blk_ext [iblk, e, hb, eq, hq]

/-- The block of the grouped attention's output. -/
theorem blk_gqa (k : Fin 512) : iblk m c 9 t (ix3 n k r) = V m c main_v11 (ix3 b k q') := by
  obtain ⟨_, _, _, _, e, _⟩ := index_rows t
  blk_ext [iblk, e, hb, eq, hq]

/-- The block of the gates. -/
theorem blk_gates (d : Fin 3072) : iblk m c 12 t (ix3 n r d) = V m c main_v17 (ix3 b q' d) := by
  obtain ⟨_, _, _, _, _, _, e, _⟩ := index_rows t
  blk_ext [iblk, e, hb, eq, hq]

end Cert.Merge

end
-- ==== Proof.MergeOperands.lean ====
/-
The arrays the host hands to the merge call, read at an index over the extended reals.
-/
module

public import proofs.«01_k».proof.Proof.Gen.Kernel2Ideal.Frame
public import Idealize.ShloMosaic.Lib.StableHlo.Run
public import Idealize.ShloMosaic.Lib.Pointwise
public import Idealize.ShloMosaic.PureOps.Ideal.Laws

@[expose] public section

noncomputable section

namespace Cert.Merge

open Idealize.ShloMosaic Idealize.ShloMosaic.TcCoe
open Cert.Kernel2Ideal Cert.Kernel2Ideal.Gen

variable (m : (ℓ : Loc nD τ sig) → Buf (Elt Ideal) ℓ) (c : Dev nD)

/-- The modulation of the frames' tokens. -/
theorem V_mod (b : Fin 8) (d : Fin 6144) :
    V m c main_v3 (ix4 b 0 0 d) = m ((c : Thread nD τ).loc main_arg1) (ix3 b 0 d) := by
  dsimp only [V]
  simp only [hostOps0, List.flatten_cons, List.flatten_nil, List.append_nil, List.cons_append, List.nil_append]
  after_results
  pointwise

/-- The operands of the first mixer's output. -/
theorem V_hyena (b : Fin 8) (q : Fin 8192) (k : Fin 512) :
    V m c main_v4 (ix3 b q k) = m ((c : Thread nD τ).loc main_arg3) (ix3 b q k)
    ∧ V m c main_v5 (ix3 b q k) = m ((c : Thread nD τ).loc main_arg4) (ix3 b q k)
    ∧ V m c main_v6 (ix3 b q k) = m ((c : Thread nD τ).loc main_arg5) (ix3 b q k)
    ∧ V m c main_v18 (ix2 0 k) = m ((c : Thread nD τ).loc main_arg9) (ix1 k) := by
  refine ⟨?_, ?_, ?_, ?_⟩ <;> dsimp only [V] <;>
    simp only [hostOps0, List.flatten_cons, List.flatten_nil, List.append_nil, List.cons_append, List.nil_append] <;>
    after_results <;> pointwise

/-- The outputs of the other two mixers. -/
theorem V_mixers (b : Fin 8) (k : Fin 512) :
    (∀ q : Fin 8448, V m c main_v11 (ix3 b k q) = m ((c : Thread nD τ).loc main_arg10) (ix3 b q k))
    ∧ ∀ q : Fin 8192, V m c main_v13 (ix3 b k q) = m ((c : Thread nD τ).loc main_arg11) (ix3 b q k) := by
  refine ⟨fun q => ?_, fun q => ?_⟩ <;> dsimp only [V] <;>
    simp only [hostOps0, List.flatten_cons, List.flatten_nil, List.append_nil, List.cons_append, List.nil_append] <;>
    after_results <;> pointwise

/-- The gates of the branches. -/
theorem V_gates (b : Fin 8) (q : Fin 8448) (j : Fin 3) (d : Fin 1024) :
    V m c main_v17 (ix3 b q ⟨1024 * j.val + d.val, by omega⟩)
      = m ((c : Thread nD τ).loc main_arg13) (ix4 b q j d) := by
  dsimp only [V]
  simp only [hostOps0, List.flatten_cons, List.flatten_nil, List.append_nil, List.cons_append, List.nil_append]
  after_results
  pointwise
  have e1 : (1024 * j.val + d.val) / 1024 = j.val := by omega
  have e2 : (1024 * j.val + d.val) % 1024 = d.val := by omega
  exact congrArg (m ((c : Thread nD τ).loc main_arg13)) (congrArg₂ (ix4 b q) (Fin.ext e1) (Fin.ext e2))

/-- The matrices of the branches and of the merge, and the weight of the norm. -/
theorem V_merge (d : Fin 1024) :
    (∀ (j : Fin 3) (k : Fin 512), V m c main_v19 (ix3 j k d) = m ((c : Thread nD τ).loc main_arg14) (ix3 j k d))
    ∧ (∀ e : Fin 1024, V m c main_v20 (ix2 e d) = m ((c : Thread nD τ).loc main_arg15) (ix2 e d))
    ∧ V m c main_v21 (ix2 0 d) = m ((c : Thread nD τ).loc main_arg16) (ix1 d) := by
  refine ⟨fun j k => ?_, fun e => ?_, ?_⟩ <;> dsimp only [V] <;>
    simp only [hostOps0, List.flatten_cons, List.flatten_nil, List.append_nil, List.cons_append, List.nil_append] <;>
    after_results <;> pointwise

/-- The matrices of the feed-forward part. -/
theorem V_mlp (d : Fin 1024) (f : Fin 4096) :
    V m c main_v22 (ix2 d f) = m ((c : Thread nD τ).loc main_arg17) (ix2 d f)
    ∧ V m c main_v23 (ix2 f d) = m ((c : Thread nD τ).loc main_arg18) (ix2 f d) := by
  refine ⟨?_, ?_⟩ <;> dsimp only [V] <;>
    simp only [hostOps0, List.flatten_cons, List.flatten_nil, List.append_nil, List.cons_append, List.nil_append] <;>
    after_results <;> pointwise

end Cert.Merge

end
-- ==== Proof.MergeRef.lean ====
/-
The reference of the merge call: its stages named, and its result read at an index over the extended reals.
-/
module

public import proofs.«01_k».proof.Proof.Gen.Reference2Ideal.Run
public import proofs.«01_k».proof.Proof.MergeRow
public import Idealize.ShloMosaic.Lib.Pointwise
public import Idealize.ShloMosaic.PureOps.Ideal.Laws

@[expose] public section

noncomputable section

namespace Cert.MergeRef

open Idealize.ShloMosaic Idealize.ShloMosaic.TcCoe
open Cert.Reference2Ideal Cert.Reference2Ideal.Gen

/-- The first mixer's output. -/
def hyena (a3 a4 a5 : FVec Ideal S8x8192x512 .f32) (a9 : FVec Ideal S512 .f32) : FVec Ideal S8x8192x512 .f32 :=
  mulf a4 (addf a3 (mulf a5 (broadcastInDim S8x8192x512 ![0, 1, 2] bcast_S1x1x512_S8x8192x512_0_1_2
    (broadcastInDim S1x1x512 ![2] bcast_S512_S1x1x512_2 a9))))

/-- The branches, gated and added. -/
def branches (yh : FVec Ideal S8x8192x512 .f32) (a10 : FVec Ideal S8x8448x512 .f32) (a11 : FVec Ideal S8x8192x512 .f32)
    (a13 : FVec Ideal S8x8448x3x1024 .f32) (a14 : FVec Ideal S3x512x1024 .f32) : FVec Ideal S8x8192x1024 .f32 :=
  addf (addf (addf (broadcastInDim S8x8192x1024 ![] bcast_S_S8x8192x1024 (constant S_ .f32 0x00000000#32))
    (mulf (shapeCast _ (extractStridedSlice S8x8192x1x1024 ![0, 0, 0, 0] a13 slices_S8x8448x3x1024_S8x8192x1x1024_0_0_0_0)
        shapeCasts_S8x8192x1x1024_S8x8192x1024)
      (Host.dotGeneral dot_S8x8192x512_S512x1024_S8x8192x1024_2_0_01_1_n_n none yh
        (shapeCast _ (extractStridedSlice S1x512x1024 ![0, 0, 0] a14 slices_S3x512x1024_S1x512x1024_0_0_0)
          shapeCasts_S1x512x1024_S512x1024))))
    (mulf (shapeCast _ (extractStridedSlice S8x8192x1x1024 ![0, 0, 1, 0] a13 slices_S8x8448x3x1024_S8x8192x1x1024_0_0_1_0)
        shapeCasts_S8x8192x1x1024_S8x8192x1024)
      (Host.dotGeneral dot_S8x8192x512_S512x1024_S8x8192x1024_2_0_01_1_n_n none
        (extractStridedSlice S8x8192x512 ![0, 0, 0] a10 slices_S8x8448x512_S8x8192x512_0_0_0)
        (shapeCast _ (extractStridedSlice S1x512x1024 ![1, 0, 0] a14 slices_S3x512x1024_S1x512x1024_1_0_0)
          shapeCasts_S1x512x1024_S512x1024))))
    (mulf (shapeCast _ (extractStridedSlice S8x8192x1x1024 ![0, 0, 2, 0] a13 slices_S8x8448x3x1024_S8x8192x1x1024_0_0_2_0)
        shapeCasts_S8x8192x1x1024_S8x8192x1024)
      (Host.dotGeneral dot_S8x8192x512_S512x1024_S8x8192x1024_2_0_01_1_n_n none a11
        (shapeCast _ (extractStridedSlice S1x512x1024 ![2, 0, 0] a14 slices_S3x512x1024_S1x512x1024_2_0_0)
          shapeCasts_S1x512x1024_S512x1024)))

/-- A part of the modulation, of the columns from `o` on. -/
def part (o : ℕ) (h : S8x1x6144.Slices ![0, 0, o] S8x1x1024) (a1 : FVec Ideal S8x1x6144 .f32) :
    FVec Ideal S8x8192x1024 .f32 :=
  broadcastInDim S8x8192x1024 ![0, 1, 2] bcast_S8x1x1024_S8x8192x1024_0_1_2 (extractStridedSlice S8x1x1024 ![0, 0, o] a1 h)

/-- The stream with the branches. -/
def stream (a0 : FVec Ideal S8x8448x1024 .f32) (a1 : FVec Ideal S8x1x6144 .f32) (mg : FVec Ideal S8x8192x1024 .f32)
    (a15 : FVec Ideal S1024x1024 .f32) : FVec Ideal S8x8192x1024 .f32 :=
  addf (extractStridedSlice S8x8192x1024 ![0, 0, 0] a0 slices_S8x8448x1024_S8x8192x1024_0_0_0)
    (mulf (part 2048 slices_S8x1x6144_S8x1x1024_0_0_2048 a1)
      (Host.dotGeneral dot_S8x8192x1024_S1024x1024_S8x8192x1024_2_0_01_1_n_n none mg a15))

/-- The normalised and modulated stream. -/
def normed (x : FVec Ideal S8x8192x1024 .f32) (a1 : FVec Ideal S8x1x6144 .f32) (a16 : FVec Ideal S1024 .f32) :
    FVec Ideal S8x8192x1024 .f32 :=
  addf (mulf (mulf (mulf x (broadcastInDim S8x8192x1024 ![0, 1, 2] bcast_S8x8192x1_S8x8192x1024_0_1_2
        (Host.rsqrt (addf (Host.divf (broadcastInDim S8x8192x1 ![0, 1] bcast_S8x8192_S8x8192x1_0_1
            (Host.reduceAdd (mulf x x) (constant S_ .f32 0x00000000#32) reducesTo_S8x8192x1024_S8x8192_d2 h_S_))
          (broadcastInDim S8x8192x1 ![] bcast_S_S8x8192x1 (constant S_ .f32 0x44800000#32)))
          (broadcastInDim S8x8192x1 ![] bcast_S_S8x8192x1 (constant S_ .f32 0x358637BD#32))))))
      (broadcastInDim S8x8192x1024 ![0, 1, 2] bcast_S1x1x1024_S8x8192x1024_0_1_2
        (broadcastInDim S1x1x1024 ![2] bcast_S1024_S1x1x1024_2 a16)))
      (broadcastInDim S8x8192x1024 ![0, 1, 2] bcast_S8x1x1024_S8x8192x1024_0_1_2
        (addf (broadcastInDim S8x1x1024 ![] bcast_S_S8x1x1024 (constant S_ .f32 0x3F800000#32))
          (extractStridedSlice S8x1x1024 ![0, 0, 4096] a1 slices_S8x1x6144_S8x1x1024_0_0_4096))))
    (part 3072 slices_S8x1x6144_S8x1x1024_0_0_3072 a1)

/-- The positive part of the feed-forward part's units. -/
def positive (h : FVec Ideal S8x8192x1024 .f32) (a17 : FVec Ideal S1024x4096 .f32) : FVec Ideal S8x8192x4096 .f32 :=
  maximumf (Host.dotGeneral dot_S8x8192x1024_S1024x4096_S8x8192x4096_2_0_01_1_n_n none h a17)
    (broadcastInDim S8x8192x4096 ![] bcast_S_S8x8192x4096 (constant S_ .f32 0x00000000#32))

/-- The stream with the feed-forward part. -/
def out (x : FVec Ideal S8x8192x1024 .f32) (a1 : FVec Ideal S8x1x6144 .f32) (u : FVec Ideal S8x8192x4096 .f32)
    (a18 : FVec Ideal S4096x1024 .f32) : FVec Ideal S8x8192x1024 .f32 :=
  addf x (mulf (part 5120 slices_S8x1x6144_S8x1x1024_0_0_5120 a1)
    (Host.dotGeneral dot_S8x8192x4096_S4096x1024_S8x8192x1024_2_0_01_1_n_n none (mulf u u) a18))

/-- The whole of the merge. -/
def merge (a0 : FVec Ideal S8x8448x1024 .f32) (a1 : FVec Ideal S8x1x6144 .f32) (a3 a4 a5 : FVec Ideal S8x8192x512 .f32)
    (a9 : FVec Ideal S512 .f32) (a10 : FVec Ideal S8x8448x512 .f32) (a11 : FVec Ideal S8x8192x512 .f32)
    (a13 : FVec Ideal S8x8448x3x1024 .f32) (a14 : FVec Ideal S3x512x1024 .f32) (a15 : FVec Ideal S1024x1024 .f32) :
    FVec Ideal S8x8192x1024 .f32 :=
  stream a0 a1 (branches (hyena a3 a4 a5 a9) a10 a11 a13 a14) a15

/-- The end of the layer, from the merged stream. -/
def last (x : FVec Ideal S8x8192x1024 .f32) (a1 : FVec Ideal S8x1x6144 .f32) (a16 : FVec Ideal S1024 .f32)
    (a17 : FVec Ideal S1024x4096 .f32) (a18 : FVec Ideal S4096x1024 .f32) : FVec Ideal S8x8192x1024 .f32 :=
  out x a1 (positive (normed x a1 a16) a17) a18

set_option maxRecDepth 8192 in
/-- A run's result is that. -/
theorem result_named (m : (ℓ : Loc nD τ sig) → Buf (Elt Ideal) ℓ) (c : Dev nD) :
    Value.res_main_v62 m c = last (merge (m ((c.tc : Thread nD τ).loc main_arg0)) (m ((c.tc : Thread nD τ).loc main_arg1))
        (m ((c.tc : Thread nD τ).loc main_arg3)) (m ((c.tc : Thread nD τ).loc main_arg4))
        (m ((c.tc : Thread nD τ).loc main_arg5)) (m ((c.tc : Thread nD τ).loc main_arg9))
        (m ((c.tc : Thread nD τ).loc main_arg10)) (m ((c.tc : Thread nD τ).loc main_arg11))
        (m ((c.tc : Thread nD τ).loc main_arg13)) (m ((c.tc : Thread nD τ).loc main_arg14))
        (m ((c.tc : Thread nD τ).loc main_arg15)))
      (m ((c.tc : Thread nD τ).loc main_arg1)) (m ((c.tc : Thread nD τ).loc main_arg16))
      (m ((c.tc : Thread nD τ).loc main_arg17)) (m ((c.tc : Thread nD τ).loc main_arg18)) := by
  unfold Value.res_main_v62 last out positive normed merge stream branches hyena part
  rfl

end Cert.MergeRef

end
-- ==== Proof.MergeRefAt.lean ====
/-
The merge call's reference read at an index over the extended reals.
-/
module

public import proofs.«01_k».proof.Proof.MergeRef

@[expose] public section

noncomputable section

namespace Cert.MergeRef

open Idealize.ShloMosaic Idealize.ShloMosaic.TcCoe
open Cert.Reference2Ideal Cert.Reference2Ideal.Gen
open Cert.Merge

variable (b : Fin 8) (q : Fin 8192) (d : Fin 1024)

/-- The word of the float zero. -/
theorem zero_word : Ideal.ofBits .f32 0x00000000#32 = 0 := by
  simp [Ideal.ofBits, Ideal.ieee]

/-- An element of the first mixer's output. -/
theorem hyena_apply (a3 a4 a5 : FVec Ideal S8x8192x512 .f32) (a9 : FVec Ideal S512 .f32) (k : Fin 512) :
    hyena a3 a4 a5 a9 (ix3 b q k) = a4 (ix3 b q k) * (a3 (ix3 b q k) + a5 (ix3 b q k) * a9 (ix1 k)) := by
  pointwise [hyena]

/-- An element of the merged branches. -/
theorem branches_apply (yh : FVec Ideal S8x8192x512 .f32) (a10 : FVec Ideal S8x8448x512 .f32)
    (a11 : FVec Ideal S8x8192x512 .f32) (a13 : FVec Ideal S8x8448x3x1024 .f32) (a14 : FVec Ideal S3x512x1024 .f32) :
    branches yh a10 a11 a13 a14 (ix3 b q d)
      = merged (fun k => yh (ix3 b q k)) (fun k => a10 (ix3 b ⟨q.val, by omega⟩ k)) (fun k => a11 (ix3 b q k))
          (fun j d => a13 (ix4 b ⟨q.val, by omega⟩ j d)) (fun j k d => a14 (ix3 j k d)) d := by
  pointwise [branches, merged, zero_word, zero_add]

/-- A part of the modulation. -/
theorem part_apply (o : ℕ) (h : S8x1x6144.Slices ![0, 0, o] S8x1x1024) (ho : o + 1024 ≤ 6144)
    (a1 : FVec Ideal S8x1x6144 .f32) : part o h a1 (ix3 b q d) = a1 (ix3 b 0 ⟨o + d.val, by omega⟩) := by
  pointwise [part]

/-- An element of the stream with the branches. -/
theorem stream_apply (a0 : FVec Ideal S8x8448x1024 .f32) (a1 : FVec Ideal S8x1x6144 .f32)
    (mg : FVec Ideal S8x8192x1024 .f32) (a15 : FVec Ideal S1024x1024 .f32) :
    stream a0 a1 mg a15 (ix3 b q d)
      = mixed (fun d => a0 (ix3 b ⟨q.val, by omega⟩ d)) (fun d => a1 (ix3 b 0 ⟨2048 + d.val, by omega⟩))
          (fun e => mg (ix3 b q e)) (fun e d => a15 (ix2 e d)) d := by
  pointwise [stream, mixed, part]

/-- An element of the normalised stream. -/
theorem normed_apply (x : FVec Ideal S8x8192x1024 .f32) (a1 : FVec Ideal S8x1x6144 .f32) (a16 : FVec Ideal S1024 .f32) :
    normed x a1 a16 (ix3 b q d)
      = Merge.hidden (fun d => x (ix3 b q d)) (fun d => a16 (ix1 d)) (fun d => a1 (ix3 b 0 ⟨4096 + d.val, by omega⟩))
          (fun d => a1 (ix3 b 0 ⟨3072 + d.val, by omega⟩)) d := by
  pointwise [normed, Merge.hidden, part, zero_word, zero_add]

/-- A unit's positive part. -/
theorem positive_apply (h : FVec Ideal S8x8192x1024 .f32) (a17 : FVec Ideal S1024x4096 .f32) (f : Fin 4096) :
    positive h a17 (ix3 b q f) = max (∑ d : Fin 1024, h (ix3 b q d) * a17 (ix2 d f)) 0 := by
  pointwise [positive, zero_word]

/-- An element of the stream with the feed-forward part. -/
theorem out_apply (x : FVec Ideal S8x8192x1024 .f32) (a1 : FVec Ideal S8x1x6144 .f32) (u : FVec Ideal S8x8192x4096 .f32)
    (a18 : FVec Ideal S4096x1024 .f32) :
    out x a1 u a18 (ix3 b q d)
      = x (ix3 b q d) + a1 (ix3 b 0 ⟨5120 + d.val, by omega⟩)
          * ∑ f : Fin 4096, u (ix3 b q f) * u (ix3 b q f) * a18 (ix2 f d) := by
  pointwise [out, part]

/-- An element of the merged stream. -/
theorem merge_apply (a0 : FVec Ideal S8x8448x1024 .f32) (a1 : FVec Ideal S8x1x6144 .f32)
    (a3 a4 a5 : FVec Ideal S8x8192x512 .f32) (a9 : FVec Ideal S512 .f32) (a10 : FVec Ideal S8x8448x512 .f32)
    (a11 : FVec Ideal S8x8192x512 .f32) (a13 : FVec Ideal S8x8448x3x1024 .f32) (a14 : FVec Ideal S3x512x1024 .f32)
    (a15 : FVec Ideal S1024x1024 .f32) :
    merge a0 a1 a3 a4 a5 a9 a10 a11 a13 a14 a15 (ix3 b q d)
      = mixed (fun d => a0 (ix3 b ⟨q.val, by omega⟩ d)) (fun d => a1 (ix3 b 0 ⟨2048 + d.val, by omega⟩))
          (merged (fun k => a4 (ix3 b q k) * (a3 (ix3 b q k) + a5 (ix3 b q k) * a9 (ix1 k)))
            (fun k => a10 (ix3 b ⟨q.val, by omega⟩ k)) (fun k => a11 (ix3 b q k))
            (fun j d => a13 (ix4 b ⟨q.val, by omega⟩ j d)) (fun j k d => a14 (ix3 j k d)))
          (fun e d => a15 (ix2 e d)) d := by
  unfold merge
  rw [stream_apply]
  simp only [branches_apply, hyena_apply]

/-- An element of the end of the layer. -/
theorem last_apply (x : FVec Ideal S8x8192x1024 .f32) (a1 : FVec Ideal S8x1x6144 .f32) (a16 : FVec Ideal S1024 .f32)
    (a17 : FVec Ideal S1024x4096 .f32) (a18 : FVec Ideal S4096x1024 .f32) :
    last x a1 a16 a17 a18 (ix3 b q d)
      = fed (fun d => x (ix3 b q d)) (fun d => a1 (ix3 b 0 ⟨5120 + d.val, by omega⟩))
          (Merge.hidden (fun d => x (ix3 b q d)) (fun d => a16 (ix1 d)) (fun d => a1 (ix3 b 0 ⟨4096 + d.val, by omega⟩))
            (fun d => a1 (ix3 b 0 ⟨3072 + d.val, by omega⟩)))
          (fun d f => a17 (ix2 d f)) (fun f d => a18 (ix2 f d)) d := by
  unfold last
  rw [out_apply]
  simp only [positive_apply, normed_apply]
  rfl

end Cert.MergeRef

end
-- ==== Proof.MergeValue.lean ====
/-
The merge call's array of results over the extended reals is its reference's.
-/
module

public import proofs.«01_k».proof.Proof.MergeOut
public import proofs.«01_k».proof.Proof.MergeBlocks
public import proofs.«01_k».proof.Proof.MergeOperands
public import proofs.«01_k».proof.Proof.MergeRefAt

@[expose] public section

noncomputable section

namespace Cert.Merge

open Idealize.ShloMosaic Idealize.ShloMosaic.TcCoe
open Cert.Kernel2Ideal Cert.Kernel2Ideal.Gen

variable (m : (ℓ : Loc nD τ sig) → Buf (Elt Ideal) ℓ) (c : Dev nD)
  (a0 : FVec Ideal S8x8448x1024 .f32) (a1 : FVec Ideal S8x1x6144 .f32)
  (a3 a4 a5 : FVec Ideal S8x8192x512 .f32) (a9 : FVec Ideal S512 .f32) (a10 : FVec Ideal S8x8448x512 .f32)
  (a11 : FVec Ideal S8x8192x512 .f32) (a13 : FVec Ideal S8x8448x3x1024 .f32) (a14 : FVec Ideal S3x512x1024 .f32)
  (a15 : FVec Ideal S1024x1024 .f32) (a16 : FVec Ideal S1024 .f32) (a17 : FVec Ideal S1024x4096 .f32)
  (a18 : FVec Ideal S4096x1024 .f32)
  (e0 : m ((c : Thread nD τ).loc main_arg0) = a0) (e1 : m ((c : Thread nD τ).loc main_arg1) = a1)
  (e3 : m ((c : Thread nD τ).loc main_arg3) = a3) (e4 : m ((c : Thread nD τ).loc main_arg4) = a4)
  (e5 : m ((c : Thread nD τ).loc main_arg5) = a5) (e9 : m ((c : Thread nD τ).loc main_arg9) = a9)
  (e10 : m ((c : Thread nD τ).loc main_arg10) = a10) (e11 : m ((c : Thread nD τ).loc main_arg11) = a11)
  (e13 : m ((c : Thread nD τ).loc main_arg13) = a13) (e14 : m ((c : Thread nD τ).loc main_arg14) = a14)
  (e15 : m ((c : Thread nD τ).loc main_arg15) = a15) (e16 : m ((c : Thread nD τ).loc main_arg16) = a16)
  (e17 : m ((c : Thread nD τ).loc main_arg17) = a17) (e18 : m ((c : Thread nD τ).loc main_arg18) = a18)

section Point

variable (t : Fin cfg0.N) (b : Fin 8) (n : Fin 2) (hb : b.val = 2 * (grid0.coords t 0).val + n.val)
  (q : Fin 8192) (r : Fin 256) (hq : q.val = 256 * (grid0.coords t 1).val + r.val)

include hb hq e0 e1 e3 e4 e5 e9 e10 e11 e13 e14 e15

/-- The stream with the merged branches, of a token of a point's blocks, is the reference's. -/
theorem mix_eq :
    mixAt (iblk m c 0 t) (iblk m c 1 t) (iblk m c 2 t) (iblk m c 3 t) (iblk m c 4 t) (iblk m c 8 t) (iblk m c 9 t)
        (iblk m c 10 t) (iblk m c 12 t) (iblk m c 13 t) (iblk m c 14 t) n r
      = fun d => MergeRef.merge a0 a1 a3 a4 a5 a9 a10 a11 a13 a14 a15 (ix3 b q d) := by
  funext d
  rw [MergeRef.merge_apply]
  subst e0 e1 e3 e4 e5 e9 e10 e11 e13 e14 e15
  have hl : q.val < 8448 := q.isLt.trans (by decide)
  have s0 : ∀ d : Fin 1024, iblk m c 0 t (ix3 n r d) = m ((c : Thread nD τ).loc main_arg0) (ix3 b ⟨q.val, hl⟩ d) :=
    fun d => (blk_stream m c t b n hb q ⟨q.val, hl⟩ rfl r hq d).trans (congrFun (V_main_arg0 m c) _)
  have s1 : ∀ d : Fin 6144, iblk m c 1 t (ix4 n 0 0 d) = m ((c : Thread nD τ).loc main_arg1) (ix3 b 0 d) :=
    fun d => (blk_mod m c t b n hb d).trans (V_mod m c b d)
  have s2 : ∀ k, iblk m c 2 t (ix3 n r k) = m ((c : Thread nD τ).loc main_arg3) (ix3 b q k) :=
    fun k => (blk_hyena m c t b n hb q r hq k).1.trans (V_hyena m c b q k).1
  have s3 : ∀ k, iblk m c 3 t (ix3 n r k) = m ((c : Thread nD τ).loc main_arg4) (ix3 b q k) :=
    fun k => (blk_hyena m c t b n hb q r hq k).2.1.trans (V_hyena m c b q k).2.1
  have s4 : ∀ k, iblk m c 4 t (ix3 n r k) = m ((c : Thread nD τ).loc main_arg5) (ix3 b q k) :=
    fun k => (blk_hyena m c t b n hb q r hq k).2.2.trans (V_hyena m c b q k).2.2.1
  have s8 : ∀ k : Fin 512, iblk m c 8 t (ix2 0 k) = m ((c : Thread nD τ).loc main_arg9) (ix1 k) :=
    fun k => (blk_skip m c t k).trans (V_hyena m c b q k).2.2.2
  have s9 : ∀ k, iblk m c 9 t (ix3 n k r) = m ((c : Thread nD τ).loc main_arg10) (ix3 b ⟨q.val, hl⟩ k) :=
    fun k => (blk_gqa m c t b n hb q ⟨q.val, hl⟩ rfl r hq k).trans ((V_mixers m c b k).1 _)
  have s10 : ∀ k, iblk m c 10 t (ix3 n k r) = m ((c : Thread nD τ).loc main_arg11) (ix3 b q k) :=
    fun k => (blk_mla m c t b n hb q r hq k).trans ((V_mixers m c b k).2 _)
  have s12 : ∀ (j : Fin 3) (d : Fin 1024), iblk m c 12 t (ix3 n r ⟨1024 * j.val + d.val, by omega⟩)
      = m ((c : Thread nD τ).loc main_arg13) (ix4 b ⟨q.val, hl⟩ j d) :=
    fun j d => (blk_gates m c t b n hb q ⟨q.val, hl⟩ rfl r hq _).trans (V_gates m c b _ j d)
  have s13 : ∀ j k d, iblk m c 13 t (ix3 j k d) = m ((c : Thread nD τ).loc main_arg14) (ix3 j k d) :=
    fun j k d => (blk_branch m c t j k d).trans ((V_merge m c d).1 j k)
  have s14 : ∀ e d, iblk m c 14 t (ix2 e d) = m ((c : Thread nD τ).loc main_arg15) (ix2 e d) :=
    fun e d => (blk_merge m c t e d).trans ((V_merge m c d).2.1 e)
  unfold mixAt
  simp only [s0, s1, s2, s3, s4, s8, s9, s10, s12, s13, s14]

include e16 e17 e18

/-- What a point leaves of a token is the reference's. -/
theorem point_eq (d : Fin 1024) :
    outAt (iblk m c 0 t) (iblk m c 1 t) (iblk m c 2 t) (iblk m c 3 t) (iblk m c 4 t) (iblk m c 8 t) (iblk m c 9 t)
        (iblk m c 10 t) (iblk m c 12 t) (iblk m c 13 t) (iblk m c 14 t) (iblk m c 15 t) (iblk m c 16 t) (iblk m c 17 t) n r d
      = MergeRef.last (MergeRef.merge a0 a1 a3 a4 a5 a9 a10 a11 a13 a14 a15) a1 a16 a17 a18 (ix3 b q d) := by
  rw [MergeRef.last_apply]
  unfold outAt
  rw [mix_eq m c a0 a1 a3 a4 a5 a9 a10 a11 a13 a14 a15 e0 e1 e3 e4 e5 e9 e10 e11 e13 e14 e15 t b n hb q r hq]
  generalize MergeRef.merge a0 a1 a3 a4 a5 a9 a10 a11 a13 a14 a15 = X
  subst e1 e16 e17 e18
  have s1 : ∀ d : Fin 6144, iblk m c 1 t (ix4 n 0 0 d) = m ((c : Thread nD τ).loc main_arg1) (ix3 b 0 d) :=
    fun d => (blk_mod m c t b n hb d).trans (V_mod m c b d)
  have s15 : ∀ d : Fin 1024, iblk m c 15 t (ix2 0 d) = m ((c : Thread nD τ).loc main_arg16) (ix1 d) :=
    fun d => (blk_norm m c t d).trans (V_merge m c d).2.2
  have s16 : ∀ d f, iblk m c 16 t (ix2 d f) = m ((c : Thread nD τ).loc main_arg17) (ix2 d f) :=
    fun d f => (blk_up m c t d f).trans (V_mlp m c d f).1
  have s17 : ∀ f d, iblk m c 17 t (ix2 f d) = m ((c : Thread nD τ).loc main_arg18) (ix2 f d) :=
    fun f d => (blk_down m c t f d).trans (V_mlp m c d f).2
  simp only [s1, s15, s16, s17]

end Point

include e0 e1 e3 e4 e5 e9 e10 e11 e13 e14 e15 e16 e17 e18

/-- The array of results is the reference's. -/
theorem array_eq :
    (dats m 0 c).arrAt 18 cfg0.N
      = MergeRef.last (MergeRef.merge a0 a1 a3 a4 a5 a9 a10 a11 a13 a14 a15) a1 a16 a17 a18 := by
  refine (dats m 0 c).arrAt_eq_of_covers 18 _ (by decide +kernel) fun t hf y => ?_
  blk_simp
  rw [after0_18]
  have e := (index_rows t).2.2.2.2.2.2.2
  have g0 : (grid0.coords t 0).val < 4 := (grid0.coords t 0).isLt
  have g1 : (grid0.coords t 1).val < 32 := (grid0.coords t 1).isLt
  have h0' : (y 0).val < 2 := (y 0).isLt
  have h1' : (y 1).val < 256 := (y 1).isLt
  have h2' : (y 2).val < 1024 := (y 2).isLt
  have hy : y = ix3 (n0 := 2) (n1 := 256) (n2 := 1024) ⟨(y 0).val, h0'⟩ ⟨(y 1).val, h1'⟩ ⟨(y 2).val, h2'⟩ := by
    funext a
    match a with
    | ⟨0, _⟩ => rfl
    | ⟨1, _⟩ => rfl
    | ⟨2, _⟩ => rfl
  have hp := point_eq m c a0 a1 a3 a4 a5 a9 a10 a11 a13 a14 a15 a16 a17 a18 e0 e1 e3 e4 e5 e9 e10 e11 e13 e14 e15 e16
    e17 e18 t ⟨2 * (grid0.coords t 0).val + (y 0).val, by omega⟩ ⟨(y 0).val, h0'⟩ rfl
    ⟨256 * (grid0.coords t 1).val + (y 1).val, by omega⟩ ⟨(y 1).val, h1'⟩ rfl ⟨(y 2).val, h2'⟩
  generalize MergeRef.last (MergeRef.merge a0 a1 a3 a4 a5 a9 a10 a11 a13 a14 a15) a1 a16 a17 a18 = G at hp ⊢
  refine (congrArg (out0_18 (F := Ideal) (grid0.coords t) (iblk m c 0 t) (iblk m c 1 t) (iblk m c 2 t) (iblk m c 3 t)
    (iblk m c 4 t) (iblk m c 5 t) (iblk m c 6 t) (iblk m c 7 t) (iblk m c 8 t) (iblk m c 9 t) (iblk m c 10 t)
    (iblk m c 11 t) (iblk m c 12 t) (iblk m c 13 t) (iblk m c 14 t) (iblk m c 15 t) (iblk m c 16 t) (iblk m c 17 t)) hy).trans
    ((out_apply _ (latent _) _ _ _ _ _ _ _ _ _ _ _ _ _ _ _ _ _ _ _ _ _).trans (hp.trans ?_))
  blk_ext [e]

end Cert.Merge

end
-- ==== Proof.ProjFrame.lean ====
/-
The frame of the projection call: what a point of the grid leaves in each of the eight results' blocks, the proof data,
the body at every point, and the run. The whole-body run is the generated one (Frame/RunA.lean).
-/
module

public import proofs.«01_k».proof.Proof.Gen.Kernel3Ideal.Frame.RunA
public import Idealize.ShloMosaic.Lib.Claim

@[expose] public section

-- the axes of the blocks are long, and a check of a store's rectangle recurses along them
set_option maxRecDepth 16384

noncomputable section

namespace Cert.ProjFrame

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The 2 stores into output 18's block, each of `S1x256x1536`, cover it. -/
theorem cover0_A_18 (c : Dev nD) (i : grid0.Coords) (arg2 : Memref sig .tc .vmem S2x256x1024 .f32) (harg2 : arg2.IsWhole) (arg3 : Memref sig .tc .vmem S2x1x1x6144 .f32) (harg3 : arg3.IsWhole) (arg4 : Memref sig .tc .vmem S1x1024 .f32) (harg4 : arg4.IsWhole) (arg5 : Memref sig .tc .vmem S1024x1536 .bf16) (harg5 : arg5.IsWhole) (arg6 : Memref sig .tc .vmem S1024x3072 .bf16) (harg6 : arg6.IsWhole) (arg7 : Memref sig .tc .vmem S1440x1024 .bf16) (harg7 : arg7.IsWhole) (arg8 : Memref sig .tc .vmem S768x384 .bf16) (harg8 : arg8.IsWhole) (arg9 : Memref sig .tc .vmem S1024x256 .bf16) (harg9 : arg9.IsWhole) (arg10 : Memref sig .tc .vmem S64x256 .f32) (harg10 : arg10.IsWhole) (arg11 : Memref sig .tc .vmem S64x256 .f32) (harg11 : arg11.IsWhole) (arg12 : Memref sig .tc .vmem S384x256 .f32) (harg12 : arg12.IsWhole) (arg13 : Memref sig .tc .vmem S256x256 .f32) (harg13 : arg13.IsWhole) (arg14 : Memref sig .tc .vmem S96x256 .f32) (harg14 : arg14.IsWhole) (arg15 : Memref sig .tc .vmem S96x256 .f32) (harg15 : arg15.IsWhole) (arg16 : Memref sig .tc .vmem S32x256 .f32) (harg16 : arg16.IsWhole) (arg17 : Memref sig .tc .vmem S32x256 .f32) (harg17 : arg17.IsWhole) (arg18 : Memref sig .tc .vmem S16x256 .f32) (harg18 : arg18.IsWhole) (arg19 : Memref sig .tc .vmem S16x256 .f32) (harg19 : arg19.IsWhole) (arg20 : Memref sig .tc .vmem S2x256x1536 .bf16) (harg20 : arg20.IsWhole) (arg21 : Memref sig .tc .vmem S2x256x3072 .bf16) (harg21 : arg21.IsWhole) (arg22 : Memref sig .tc .vmem S2x512x256 .bf16) (harg22 : arg22.IsWhole) (arg23 : Memref sig .tc .vmem S2x256x256 .bf16) (harg23 : arg23.IsWhole) (arg24 : Memref sig .tc .vmem S2x160x256 .bf16) (harg24 : arg24.IsWhole) (arg25 : Memref sig .tc .vmem S2x1024x256 .bf16) (harg25 : arg25.IsWhole) (arg26 : Memref sig .tc .vmem S2x256x1024 .bf16) (harg26 : arg26.IsWhole) (arg27 : Memref sig .tc .vmem S2x1x640x256 .bf16) (harg27 : arg27.IsWhole)
    (x0 : Vec F S2x256x1024 .f32) (x1 : Vec F S2x1x1x6144 .f32) (x2 : Vec F S1x1024 .f32) (x3 : Vec F S1024x1536 .bf16) (x4 : Vec F S1024x3072 .bf16) (x5 : Vec F S1440x1024 .bf16) (x6 : Vec F S768x384 .bf16) (x7 : Vec F S1024x256 .bf16) (x8 : Vec F S64x256 .f32) (x9 : Vec F S64x256 .f32) (x10 : Vec F S384x256 .f32) (x11 : Vec F S256x256 .f32) (x12 : Vec F S96x256 .f32) (x13 : Vec F S96x256 .f32) (x14 : Vec F S32x256 .f32) (x15 : Vec F S32x256 .f32) (x16 : Vec F S16x256 .f32) (x17 : Vec F S16x256 .f32) (y : S2x256x1536.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).1 S1x256x1536.size (by sl_kernel_rfl) y

/-- What the body's stores leave in output 18's block. -/
def out0_A_18 (c : Dev nD) (i : grid0.Coords) (arg2 : Memref sig .tc .vmem S2x256x1024 .f32) (harg2 : arg2.IsWhole) (arg3 : Memref sig .tc .vmem S2x1x1x6144 .f32) (harg3 : arg3.IsWhole) (arg4 : Memref sig .tc .vmem S1x1024 .f32) (harg4 : arg4.IsWhole) (arg5 : Memref sig .tc .vmem S1024x1536 .bf16) (harg5 : arg5.IsWhole) (arg6 : Memref sig .tc .vmem S1024x3072 .bf16) (harg6 : arg6.IsWhole) (arg7 : Memref sig .tc .vmem S1440x1024 .bf16) (harg7 : arg7.IsWhole) (arg8 : Memref sig .tc .vmem S768x384 .bf16) (harg8 : arg8.IsWhole) (arg9 : Memref sig .tc .vmem S1024x256 .bf16) (harg9 : arg9.IsWhole) (arg10 : Memref sig .tc .vmem S64x256 .f32) (harg10 : arg10.IsWhole) (arg11 : Memref sig .tc .vmem S64x256 .f32) (harg11 : arg11.IsWhole) (arg12 : Memref sig .tc .vmem S384x256 .f32) (harg12 : arg12.IsWhole) (arg13 : Memref sig .tc .vmem S256x256 .f32) (harg13 : arg13.IsWhole) (arg14 : Memref sig .tc .vmem S96x256 .f32) (harg14 : arg14.IsWhole) (arg15 : Memref sig .tc .vmem S96x256 .f32) (harg15 : arg15.IsWhole) (arg16 : Memref sig .tc .vmem S32x256 .f32) (harg16 : arg16.IsWhole) (arg17 : Memref sig .tc .vmem S32x256 .f32) (harg17 : arg17.IsWhole) (arg18 : Memref sig .tc .vmem S16x256 .f32) (harg18 : arg18.IsWhole) (arg19 : Memref sig .tc .vmem S16x256 .f32) (harg19 : arg19.IsWhole) (arg20 : Memref sig .tc .vmem S2x256x1536 .bf16) (harg20 : arg20.IsWhole) (arg21 : Memref sig .tc .vmem S2x256x3072 .bf16) (harg21 : arg21.IsWhole) (arg22 : Memref sig .tc .vmem S2x512x256 .bf16) (harg22 : arg22.IsWhole) (arg23 : Memref sig .tc .vmem S2x256x256 .bf16) (harg23 : arg23.IsWhole) (arg24 : Memref sig .tc .vmem S2x160x256 .bf16) (harg24 : arg24.IsWhole) (arg25 : Memref sig .tc .vmem S2x1024x256 .bf16) (harg25 : arg25.IsWhole) (arg26 : Memref sig .tc .vmem S2x256x1024 .bf16) (harg26 : arg26.IsWhole) (arg27 : Memref sig .tc .vmem S2x1x640x256 .bf16) (harg27 : arg27.IsWhole)
    (x0 : Vec F S2x256x1024 .f32) (x1 : Vec F S2x1x1x6144 .f32) (x2 : Vec F S1x1024 .f32) (x3 : Vec F S1024x1536 .bf16) (x4 : Vec F S1024x3072 .bf16) (x5 : Vec F S1440x1024 .bf16) (x6 : Vec F S768x384 .bf16) (x7 : Vec F S1024x256 .bf16) (x8 : Vec F S64x256 .f32) (x9 : Vec F S64x256 .f32) (x10 : Vec F S384x256 .f32) (x11 : Vec F S256x256 .f32) (x12 : Vec F S96x256 .f32) (x13 : Vec F S96x256 .f32) (x14 : Vec F S32x256 .f32) (x15 : Vec F S32x256 .f32) (x16 : Vec F S16x256 .f32) (x17 : Vec F S16x256 .f32) : Vec F S2x256x1536 .bf16 :=
  VO0_18.read (Elt F) (VO0_18.writes (Elt F) VO0_18.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).1)

/-- The 6 stores into output 19's block, each of `S1x256x1024`, cover it. -/
theorem cover0_A_19 (c : Dev nD) (i : grid0.Coords) (arg2 : Memref sig .tc .vmem S2x256x1024 .f32) (harg2 : arg2.IsWhole) (arg3 : Memref sig .tc .vmem S2x1x1x6144 .f32) (harg3 : arg3.IsWhole) (arg4 : Memref sig .tc .vmem S1x1024 .f32) (harg4 : arg4.IsWhole) (arg5 : Memref sig .tc .vmem S1024x1536 .bf16) (harg5 : arg5.IsWhole) (arg6 : Memref sig .tc .vmem S1024x3072 .bf16) (harg6 : arg6.IsWhole) (arg7 : Memref sig .tc .vmem S1440x1024 .bf16) (harg7 : arg7.IsWhole) (arg8 : Memref sig .tc .vmem S768x384 .bf16) (harg8 : arg8.IsWhole) (arg9 : Memref sig .tc .vmem S1024x256 .bf16) (harg9 : arg9.IsWhole) (arg10 : Memref sig .tc .vmem S64x256 .f32) (harg10 : arg10.IsWhole) (arg11 : Memref sig .tc .vmem S64x256 .f32) (harg11 : arg11.IsWhole) (arg12 : Memref sig .tc .vmem S384x256 .f32) (harg12 : arg12.IsWhole) (arg13 : Memref sig .tc .vmem S256x256 .f32) (harg13 : arg13.IsWhole) (arg14 : Memref sig .tc .vmem S96x256 .f32) (harg14 : arg14.IsWhole) (arg15 : Memref sig .tc .vmem S96x256 .f32) (harg15 : arg15.IsWhole) (arg16 : Memref sig .tc .vmem S32x256 .f32) (harg16 : arg16.IsWhole) (arg17 : Memref sig .tc .vmem S32x256 .f32) (harg17 : arg17.IsWhole) (arg18 : Memref sig .tc .vmem S16x256 .f32) (harg18 : arg18.IsWhole) (arg19 : Memref sig .tc .vmem S16x256 .f32) (harg19 : arg19.IsWhole) (arg20 : Memref sig .tc .vmem S2x256x1536 .bf16) (harg20 : arg20.IsWhole) (arg21 : Memref sig .tc .vmem S2x256x3072 .bf16) (harg21 : arg21.IsWhole) (arg22 : Memref sig .tc .vmem S2x512x256 .bf16) (harg22 : arg22.IsWhole) (arg23 : Memref sig .tc .vmem S2x256x256 .bf16) (harg23 : arg23.IsWhole) (arg24 : Memref sig .tc .vmem S2x160x256 .bf16) (harg24 : arg24.IsWhole) (arg25 : Memref sig .tc .vmem S2x1024x256 .bf16) (harg25 : arg25.IsWhole) (arg26 : Memref sig .tc .vmem S2x256x1024 .bf16) (harg26 : arg26.IsWhole) (arg27 : Memref sig .tc .vmem S2x1x640x256 .bf16) (harg27 : arg27.IsWhole)
    (x0 : Vec F S2x256x1024 .f32) (x1 : Vec F S2x1x1x6144 .f32) (x2 : Vec F S1x1024 .f32) (x3 : Vec F S1024x1536 .bf16) (x4 : Vec F S1024x3072 .bf16) (x5 : Vec F S1440x1024 .bf16) (x6 : Vec F S768x384 .bf16) (x7 : Vec F S1024x256 .bf16) (x8 : Vec F S64x256 .f32) (x9 : Vec F S64x256 .f32) (x10 : Vec F S384x256 .f32) (x11 : Vec F S256x256 .f32) (x12 : Vec F S96x256 .f32) (x13 : Vec F S96x256 .f32) (x14 : Vec F S32x256 .f32) (x15 : Vec F S32x256 .f32) (x16 : Vec F S16x256 .f32) (x17 : Vec F S16x256 .f32) (y : S2x256x3072.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.1 S1x256x1024.size (by sl_kernel_rfl) y

/-- What the body's stores leave in output 19's block. -/
def out0_A_19 (c : Dev nD) (i : grid0.Coords) (arg2 : Memref sig .tc .vmem S2x256x1024 .f32) (harg2 : arg2.IsWhole) (arg3 : Memref sig .tc .vmem S2x1x1x6144 .f32) (harg3 : arg3.IsWhole) (arg4 : Memref sig .tc .vmem S1x1024 .f32) (harg4 : arg4.IsWhole) (arg5 : Memref sig .tc .vmem S1024x1536 .bf16) (harg5 : arg5.IsWhole) (arg6 : Memref sig .tc .vmem S1024x3072 .bf16) (harg6 : arg6.IsWhole) (arg7 : Memref sig .tc .vmem S1440x1024 .bf16) (harg7 : arg7.IsWhole) (arg8 : Memref sig .tc .vmem S768x384 .bf16) (harg8 : arg8.IsWhole) (arg9 : Memref sig .tc .vmem S1024x256 .bf16) (harg9 : arg9.IsWhole) (arg10 : Memref sig .tc .vmem S64x256 .f32) (harg10 : arg10.IsWhole) (arg11 : Memref sig .tc .vmem S64x256 .f32) (harg11 : arg11.IsWhole) (arg12 : Memref sig .tc .vmem S384x256 .f32) (harg12 : arg12.IsWhole) (arg13 : Memref sig .tc .vmem S256x256 .f32) (harg13 : arg13.IsWhole) (arg14 : Memref sig .tc .vmem S96x256 .f32) (harg14 : arg14.IsWhole) (arg15 : Memref sig .tc .vmem S96x256 .f32) (harg15 : arg15.IsWhole) (arg16 : Memref sig .tc .vmem S32x256 .f32) (harg16 : arg16.IsWhole) (arg17 : Memref sig .tc .vmem S32x256 .f32) (harg17 : arg17.IsWhole) (arg18 : Memref sig .tc .vmem S16x256 .f32) (harg18 : arg18.IsWhole) (arg19 : Memref sig .tc .vmem S16x256 .f32) (harg19 : arg19.IsWhole) (arg20 : Memref sig .tc .vmem S2x256x1536 .bf16) (harg20 : arg20.IsWhole) (arg21 : Memref sig .tc .vmem S2x256x3072 .bf16) (harg21 : arg21.IsWhole) (arg22 : Memref sig .tc .vmem S2x512x256 .bf16) (harg22 : arg22.IsWhole) (arg23 : Memref sig .tc .vmem S2x256x256 .bf16) (harg23 : arg23.IsWhole) (arg24 : Memref sig .tc .vmem S2x160x256 .bf16) (harg24 : arg24.IsWhole) (arg25 : Memref sig .tc .vmem S2x1024x256 .bf16) (harg25 : arg25.IsWhole) (arg26 : Memref sig .tc .vmem S2x256x1024 .bf16) (harg26 : arg26.IsWhole) (arg27 : Memref sig .tc .vmem S2x1x640x256 .bf16) (harg27 : arg27.IsWhole)
    (x0 : Vec F S2x256x1024 .f32) (x1 : Vec F S2x1x1x6144 .f32) (x2 : Vec F S1x1024 .f32) (x3 : Vec F S1024x1536 .bf16) (x4 : Vec F S1024x3072 .bf16) (x5 : Vec F S1440x1024 .bf16) (x6 : Vec F S768x384 .bf16) (x7 : Vec F S1024x256 .bf16) (x8 : Vec F S64x256 .f32) (x9 : Vec F S64x256 .f32) (x10 : Vec F S384x256 .f32) (x11 : Vec F S256x256 .f32) (x12 : Vec F S96x256 .f32) (x13 : Vec F S96x256 .f32) (x14 : Vec F S32x256 .f32) (x15 : Vec F S32x256 .f32) (x16 : Vec F S16x256 .f32) (x17 : Vec F S16x256 .f32) : Vec F S2x256x3072 .bf16 :=
  VO0_19.read (Elt F) (VO0_19.writes (Elt F) VO0_19.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.1)

/-- The 32 stores into output 20's block, each of `S1x32x256`, cover it. -/
theorem cover0_A_20 (c : Dev nD) (i : grid0.Coords) (arg2 : Memref sig .tc .vmem S2x256x1024 .f32) (harg2 : arg2.IsWhole) (arg3 : Memref sig .tc .vmem S2x1x1x6144 .f32) (harg3 : arg3.IsWhole) (arg4 : Memref sig .tc .vmem S1x1024 .f32) (harg4 : arg4.IsWhole) (arg5 : Memref sig .tc .vmem S1024x1536 .bf16) (harg5 : arg5.IsWhole) (arg6 : Memref sig .tc .vmem S1024x3072 .bf16) (harg6 : arg6.IsWhole) (arg7 : Memref sig .tc .vmem S1440x1024 .bf16) (harg7 : arg7.IsWhole) (arg8 : Memref sig .tc .vmem S768x384 .bf16) (harg8 : arg8.IsWhole) (arg9 : Memref sig .tc .vmem S1024x256 .bf16) (harg9 : arg9.IsWhole) (arg10 : Memref sig .tc .vmem S64x256 .f32) (harg10 : arg10.IsWhole) (arg11 : Memref sig .tc .vmem S64x256 .f32) (harg11 : arg11.IsWhole) (arg12 : Memref sig .tc .vmem S384x256 .f32) (harg12 : arg12.IsWhole) (arg13 : Memref sig .tc .vmem S256x256 .f32) (harg13 : arg13.IsWhole) (arg14 : Memref sig .tc .vmem S96x256 .f32) (harg14 : arg14.IsWhole) (arg15 : Memref sig .tc .vmem S96x256 .f32) (harg15 : arg15.IsWhole) (arg16 : Memref sig .tc .vmem S32x256 .f32) (harg16 : arg16.IsWhole) (arg17 : Memref sig .tc .vmem S32x256 .f32) (harg17 : arg17.IsWhole) (arg18 : Memref sig .tc .vmem S16x256 .f32) (harg18 : arg18.IsWhole) (arg19 : Memref sig .tc .vmem S16x256 .f32) (harg19 : arg19.IsWhole) (arg20 : Memref sig .tc .vmem S2x256x1536 .bf16) (harg20 : arg20.IsWhole) (arg21 : Memref sig .tc .vmem S2x256x3072 .bf16) (harg21 : arg21.IsWhole) (arg22 : Memref sig .tc .vmem S2x512x256 .bf16) (harg22 : arg22.IsWhole) (arg23 : Memref sig .tc .vmem S2x256x256 .bf16) (harg23 : arg23.IsWhole) (arg24 : Memref sig .tc .vmem S2x160x256 .bf16) (harg24 : arg24.IsWhole) (arg25 : Memref sig .tc .vmem S2x1024x256 .bf16) (harg25 : arg25.IsWhole) (arg26 : Memref sig .tc .vmem S2x256x1024 .bf16) (harg26 : arg26.IsWhole) (arg27 : Memref sig .tc .vmem S2x1x640x256 .bf16) (harg27 : arg27.IsWhole)
    (x0 : Vec F S2x256x1024 .f32) (x1 : Vec F S2x1x1x6144 .f32) (x2 : Vec F S1x1024 .f32) (x3 : Vec F S1024x1536 .bf16) (x4 : Vec F S1024x3072 .bf16) (x5 : Vec F S1440x1024 .bf16) (x6 : Vec F S768x384 .bf16) (x7 : Vec F S1024x256 .bf16) (x8 : Vec F S64x256 .f32) (x9 : Vec F S64x256 .f32) (x10 : Vec F S384x256 .f32) (x11 : Vec F S256x256 .f32) (x12 : Vec F S96x256 .f32) (x13 : Vec F S96x256 .f32) (x14 : Vec F S32x256 .f32) (x15 : Vec F S32x256 .f32) (x16 : Vec F S16x256 .f32) (x17 : Vec F S16x256 .f32) (y : S2x512x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.1 S1x32x256.size (by sl_kernel_rfl) y

/-- What the body's stores leave in output 20's block. -/
def out0_A_20 (c : Dev nD) (i : grid0.Coords) (arg2 : Memref sig .tc .vmem S2x256x1024 .f32) (harg2 : arg2.IsWhole) (arg3 : Memref sig .tc .vmem S2x1x1x6144 .f32) (harg3 : arg3.IsWhole) (arg4 : Memref sig .tc .vmem S1x1024 .f32) (harg4 : arg4.IsWhole) (arg5 : Memref sig .tc .vmem S1024x1536 .bf16) (harg5 : arg5.IsWhole) (arg6 : Memref sig .tc .vmem S1024x3072 .bf16) (harg6 : arg6.IsWhole) (arg7 : Memref sig .tc .vmem S1440x1024 .bf16) (harg7 : arg7.IsWhole) (arg8 : Memref sig .tc .vmem S768x384 .bf16) (harg8 : arg8.IsWhole) (arg9 : Memref sig .tc .vmem S1024x256 .bf16) (harg9 : arg9.IsWhole) (arg10 : Memref sig .tc .vmem S64x256 .f32) (harg10 : arg10.IsWhole) (arg11 : Memref sig .tc .vmem S64x256 .f32) (harg11 : arg11.IsWhole) (arg12 : Memref sig .tc .vmem S384x256 .f32) (harg12 : arg12.IsWhole) (arg13 : Memref sig .tc .vmem S256x256 .f32) (harg13 : arg13.IsWhole) (arg14 : Memref sig .tc .vmem S96x256 .f32) (harg14 : arg14.IsWhole) (arg15 : Memref sig .tc .vmem S96x256 .f32) (harg15 : arg15.IsWhole) (arg16 : Memref sig .tc .vmem S32x256 .f32) (harg16 : arg16.IsWhole) (arg17 : Memref sig .tc .vmem S32x256 .f32) (harg17 : arg17.IsWhole) (arg18 : Memref sig .tc .vmem S16x256 .f32) (harg18 : arg18.IsWhole) (arg19 : Memref sig .tc .vmem S16x256 .f32) (harg19 : arg19.IsWhole) (arg20 : Memref sig .tc .vmem S2x256x1536 .bf16) (harg20 : arg20.IsWhole) (arg21 : Memref sig .tc .vmem S2x256x3072 .bf16) (harg21 : arg21.IsWhole) (arg22 : Memref sig .tc .vmem S2x512x256 .bf16) (harg22 : arg22.IsWhole) (arg23 : Memref sig .tc .vmem S2x256x256 .bf16) (harg23 : arg23.IsWhole) (arg24 : Memref sig .tc .vmem S2x160x256 .bf16) (harg24 : arg24.IsWhole) (arg25 : Memref sig .tc .vmem S2x1024x256 .bf16) (harg25 : arg25.IsWhole) (arg26 : Memref sig .tc .vmem S2x256x1024 .bf16) (harg26 : arg26.IsWhole) (arg27 : Memref sig .tc .vmem S2x1x640x256 .bf16) (harg27 : arg27.IsWhole)
    (x0 : Vec F S2x256x1024 .f32) (x1 : Vec F S2x1x1x6144 .f32) (x2 : Vec F S1x1024 .f32) (x3 : Vec F S1024x1536 .bf16) (x4 : Vec F S1024x3072 .bf16) (x5 : Vec F S1440x1024 .bf16) (x6 : Vec F S768x384 .bf16) (x7 : Vec F S1024x256 .bf16) (x8 : Vec F S64x256 .f32) (x9 : Vec F S64x256 .f32) (x10 : Vec F S384x256 .f32) (x11 : Vec F S256x256 .f32) (x12 : Vec F S96x256 .f32) (x13 : Vec F S96x256 .f32) (x14 : Vec F S32x256 .f32) (x15 : Vec F S32x256 .f32) (x16 : Vec F S16x256 .f32) (x17 : Vec F S16x256 .f32) : Vec F S2x512x256 .bf16 :=
  VO0_20.read (Elt F) (VO0_20.writes (Elt F) VO0_20.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.1)

/-- The 2 stores into output 21's block, each of `S1x256x256`, cover it. -/
theorem cover0_A_21 (c : Dev nD) (i : grid0.Coords) (arg2 : Memref sig .tc .vmem S2x256x1024 .f32) (harg2 : arg2.IsWhole) (arg3 : Memref sig .tc .vmem S2x1x1x6144 .f32) (harg3 : arg3.IsWhole) (arg4 : Memref sig .tc .vmem S1x1024 .f32) (harg4 : arg4.IsWhole) (arg5 : Memref sig .tc .vmem S1024x1536 .bf16) (harg5 : arg5.IsWhole) (arg6 : Memref sig .tc .vmem S1024x3072 .bf16) (harg6 : arg6.IsWhole) (arg7 : Memref sig .tc .vmem S1440x1024 .bf16) (harg7 : arg7.IsWhole) (arg8 : Memref sig .tc .vmem S768x384 .bf16) (harg8 : arg8.IsWhole) (arg9 : Memref sig .tc .vmem S1024x256 .bf16) (harg9 : arg9.IsWhole) (arg10 : Memref sig .tc .vmem S64x256 .f32) (harg10 : arg10.IsWhole) (arg11 : Memref sig .tc .vmem S64x256 .f32) (harg11 : arg11.IsWhole) (arg12 : Memref sig .tc .vmem S384x256 .f32) (harg12 : arg12.IsWhole) (arg13 : Memref sig .tc .vmem S256x256 .f32) (harg13 : arg13.IsWhole) (arg14 : Memref sig .tc .vmem S96x256 .f32) (harg14 : arg14.IsWhole) (arg15 : Memref sig .tc .vmem S96x256 .f32) (harg15 : arg15.IsWhole) (arg16 : Memref sig .tc .vmem S32x256 .f32) (harg16 : arg16.IsWhole) (arg17 : Memref sig .tc .vmem S32x256 .f32) (harg17 : arg17.IsWhole) (arg18 : Memref sig .tc .vmem S16x256 .f32) (harg18 : arg18.IsWhole) (arg19 : Memref sig .tc .vmem S16x256 .f32) (harg19 : arg19.IsWhole) (arg20 : Memref sig .tc .vmem S2x256x1536 .bf16) (harg20 : arg20.IsWhole) (arg21 : Memref sig .tc .vmem S2x256x3072 .bf16) (harg21 : arg21.IsWhole) (arg22 : Memref sig .tc .vmem S2x512x256 .bf16) (harg22 : arg22.IsWhole) (arg23 : Memref sig .tc .vmem S2x256x256 .bf16) (harg23 : arg23.IsWhole) (arg24 : Memref sig .tc .vmem S2x160x256 .bf16) (harg24 : arg24.IsWhole) (arg25 : Memref sig .tc .vmem S2x1024x256 .bf16) (harg25 : arg25.IsWhole) (arg26 : Memref sig .tc .vmem S2x256x1024 .bf16) (harg26 : arg26.IsWhole) (arg27 : Memref sig .tc .vmem S2x1x640x256 .bf16) (harg27 : arg27.IsWhole)
    (x0 : Vec F S2x256x1024 .f32) (x1 : Vec F S2x1x1x6144 .f32) (x2 : Vec F S1x1024 .f32) (x3 : Vec F S1024x1536 .bf16) (x4 : Vec F S1024x3072 .bf16) (x5 : Vec F S1440x1024 .bf16) (x6 : Vec F S768x384 .bf16) (x7 : Vec F S1024x256 .bf16) (x8 : Vec F S64x256 .f32) (x9 : Vec F S64x256 .f32) (x10 : Vec F S384x256 .f32) (x11 : Vec F S256x256 .f32) (x12 : Vec F S96x256 .f32) (x13 : Vec F S96x256 .f32) (x14 : Vec F S32x256 .f32) (x15 : Vec F S32x256 .f32) (x16 : Vec F S16x256 .f32) (x17 : Vec F S16x256 .f32) (y : S2x256x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.1 S1x256x256.size (by sl_kernel_rfl) y

/-- What the body's stores leave in output 21's block. -/
def out0_A_21 (c : Dev nD) (i : grid0.Coords) (arg2 : Memref sig .tc .vmem S2x256x1024 .f32) (harg2 : arg2.IsWhole) (arg3 : Memref sig .tc .vmem S2x1x1x6144 .f32) (harg3 : arg3.IsWhole) (arg4 : Memref sig .tc .vmem S1x1024 .f32) (harg4 : arg4.IsWhole) (arg5 : Memref sig .tc .vmem S1024x1536 .bf16) (harg5 : arg5.IsWhole) (arg6 : Memref sig .tc .vmem S1024x3072 .bf16) (harg6 : arg6.IsWhole) (arg7 : Memref sig .tc .vmem S1440x1024 .bf16) (harg7 : arg7.IsWhole) (arg8 : Memref sig .tc .vmem S768x384 .bf16) (harg8 : arg8.IsWhole) (arg9 : Memref sig .tc .vmem S1024x256 .bf16) (harg9 : arg9.IsWhole) (arg10 : Memref sig .tc .vmem S64x256 .f32) (harg10 : arg10.IsWhole) (arg11 : Memref sig .tc .vmem S64x256 .f32) (harg11 : arg11.IsWhole) (arg12 : Memref sig .tc .vmem S384x256 .f32) (harg12 : arg12.IsWhole) (arg13 : Memref sig .tc .vmem S256x256 .f32) (harg13 : arg13.IsWhole) (arg14 : Memref sig .tc .vmem S96x256 .f32) (harg14 : arg14.IsWhole) (arg15 : Memref sig .tc .vmem S96x256 .f32) (harg15 : arg15.IsWhole) (arg16 : Memref sig .tc .vmem S32x256 .f32) (harg16 : arg16.IsWhole) (arg17 : Memref sig .tc .vmem S32x256 .f32) (harg17 : arg17.IsWhole) (arg18 : Memref sig .tc .vmem S16x256 .f32) (harg18 : arg18.IsWhole) (arg19 : Memref sig .tc .vmem S16x256 .f32) (harg19 : arg19.IsWhole) (arg20 : Memref sig .tc .vmem S2x256x1536 .bf16) (harg20 : arg20.IsWhole) (arg21 : Memref sig .tc .vmem S2x256x3072 .bf16) (harg21 : arg21.IsWhole) (arg22 : Memref sig .tc .vmem S2x512x256 .bf16) (harg22 : arg22.IsWhole) (arg23 : Memref sig .tc .vmem S2x256x256 .bf16) (harg23 : arg23.IsWhole) (arg24 : Memref sig .tc .vmem S2x160x256 .bf16) (harg24 : arg24.IsWhole) (arg25 : Memref sig .tc .vmem S2x1024x256 .bf16) (harg25 : arg25.IsWhole) (arg26 : Memref sig .tc .vmem S2x256x1024 .bf16) (harg26 : arg26.IsWhole) (arg27 : Memref sig .tc .vmem S2x1x640x256 .bf16) (harg27 : arg27.IsWhole)
    (x0 : Vec F S2x256x1024 .f32) (x1 : Vec F S2x1x1x6144 .f32) (x2 : Vec F S1x1024 .f32) (x3 : Vec F S1024x1536 .bf16) (x4 : Vec F S1024x3072 .bf16) (x5 : Vec F S1440x1024 .bf16) (x6 : Vec F S768x384 .bf16) (x7 : Vec F S1024x256 .bf16) (x8 : Vec F S64x256 .f32) (x9 : Vec F S64x256 .f32) (x10 : Vec F S384x256 .f32) (x11 : Vec F S256x256 .f32) (x12 : Vec F S96x256 .f32) (x13 : Vec F S96x256 .f32) (x14 : Vec F S32x256 .f32) (x15 : Vec F S32x256 .f32) (x16 : Vec F S16x256 .f32) (x17 : Vec F S16x256 .f32) : Vec F S2x256x256 .bf16 :=
  VO0_21.read (Elt F) (VO0_21.writes (Elt F) VO0_21.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.1)

/-- The 8 stores into output 22's block, of `S1x16x256`, `S1x64x256`, cover it: each is a whole number of pieces `![1, 16, 256]`, and these tile it. -/
theorem cover0_A_22 (c : Dev nD) (i : grid0.Coords) (arg2 : Memref sig .tc .vmem S2x256x1024 .f32) (harg2 : arg2.IsWhole) (arg3 : Memref sig .tc .vmem S2x1x1x6144 .f32) (harg3 : arg3.IsWhole) (arg4 : Memref sig .tc .vmem S1x1024 .f32) (harg4 : arg4.IsWhole) (arg5 : Memref sig .tc .vmem S1024x1536 .bf16) (harg5 : arg5.IsWhole) (arg6 : Memref sig .tc .vmem S1024x3072 .bf16) (harg6 : arg6.IsWhole) (arg7 : Memref sig .tc .vmem S1440x1024 .bf16) (harg7 : arg7.IsWhole) (arg8 : Memref sig .tc .vmem S768x384 .bf16) (harg8 : arg8.IsWhole) (arg9 : Memref sig .tc .vmem S1024x256 .bf16) (harg9 : arg9.IsWhole) (arg10 : Memref sig .tc .vmem S64x256 .f32) (harg10 : arg10.IsWhole) (arg11 : Memref sig .tc .vmem S64x256 .f32) (harg11 : arg11.IsWhole) (arg12 : Memref sig .tc .vmem S384x256 .f32) (harg12 : arg12.IsWhole) (arg13 : Memref sig .tc .vmem S256x256 .f32) (harg13 : arg13.IsWhole) (arg14 : Memref sig .tc .vmem S96x256 .f32) (harg14 : arg14.IsWhole) (arg15 : Memref sig .tc .vmem S96x256 .f32) (harg15 : arg15.IsWhole) (arg16 : Memref sig .tc .vmem S32x256 .f32) (harg16 : arg16.IsWhole) (arg17 : Memref sig .tc .vmem S32x256 .f32) (harg17 : arg17.IsWhole) (arg18 : Memref sig .tc .vmem S16x256 .f32) (harg18 : arg18.IsWhole) (arg19 : Memref sig .tc .vmem S16x256 .f32) (harg19 : arg19.IsWhole) (arg20 : Memref sig .tc .vmem S2x256x1536 .bf16) (harg20 : arg20.IsWhole) (arg21 : Memref sig .tc .vmem S2x256x3072 .bf16) (harg21 : arg21.IsWhole) (arg22 : Memref sig .tc .vmem S2x512x256 .bf16) (harg22 : arg22.IsWhole) (arg23 : Memref sig .tc .vmem S2x256x256 .bf16) (harg23 : arg23.IsWhole) (arg24 : Memref sig .tc .vmem S2x160x256 .bf16) (harg24 : arg24.IsWhole) (arg25 : Memref sig .tc .vmem S2x1024x256 .bf16) (harg25 : arg25.IsWhole) (arg26 : Memref sig .tc .vmem S2x256x1024 .bf16) (harg26 : arg26.IsWhole) (arg27 : Memref sig .tc .vmem S2x1x640x256 .bf16) (harg27 : arg27.IsWhole)
    (x0 : Vec F S2x256x1024 .f32) (x1 : Vec F S2x1x1x6144 .f32) (x2 : Vec F S1x1024 .f32) (x3 : Vec F S1024x1536 .bf16) (x4 : Vec F S1024x3072 .bf16) (x5 : Vec F S1440x1024 .bf16) (x6 : Vec F S768x384 .bf16) (x7 : Vec F S1024x256 .bf16) (x8 : Vec F S64x256 .f32) (x9 : Vec F S64x256 .f32) (x10 : Vec F S384x256 .f32) (x11 : Vec F S256x256 .f32) (x12 : Vec F S96x256 .f32) (x13 : Vec F S96x256 .f32) (x14 : Vec F S32x256 .f32) (x15 : Vec F S32x256 .f32) (x16 : Vec F S16x256 .f32) (x17 : Vec F S16x256 .f32) (y : S2x160x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.2.1 ![1, 16, 256] (by sl_kernel_rfl) y

/-- What the body's stores leave in output 22's block. -/
def out0_A_22 (c : Dev nD) (i : grid0.Coords) (arg2 : Memref sig .tc .vmem S2x256x1024 .f32) (harg2 : arg2.IsWhole) (arg3 : Memref sig .tc .vmem S2x1x1x6144 .f32) (harg3 : arg3.IsWhole) (arg4 : Memref sig .tc .vmem S1x1024 .f32) (harg4 : arg4.IsWhole) (arg5 : Memref sig .tc .vmem S1024x1536 .bf16) (harg5 : arg5.IsWhole) (arg6 : Memref sig .tc .vmem S1024x3072 .bf16) (harg6 : arg6.IsWhole) (arg7 : Memref sig .tc .vmem S1440x1024 .bf16) (harg7 : arg7.IsWhole) (arg8 : Memref sig .tc .vmem S768x384 .bf16) (harg8 : arg8.IsWhole) (arg9 : Memref sig .tc .vmem S1024x256 .bf16) (harg9 : arg9.IsWhole) (arg10 : Memref sig .tc .vmem S64x256 .f32) (harg10 : arg10.IsWhole) (arg11 : Memref sig .tc .vmem S64x256 .f32) (harg11 : arg11.IsWhole) (arg12 : Memref sig .tc .vmem S384x256 .f32) (harg12 : arg12.IsWhole) (arg13 : Memref sig .tc .vmem S256x256 .f32) (harg13 : arg13.IsWhole) (arg14 : Memref sig .tc .vmem S96x256 .f32) (harg14 : arg14.IsWhole) (arg15 : Memref sig .tc .vmem S96x256 .f32) (harg15 : arg15.IsWhole) (arg16 : Memref sig .tc .vmem S32x256 .f32) (harg16 : arg16.IsWhole) (arg17 : Memref sig .tc .vmem S32x256 .f32) (harg17 : arg17.IsWhole) (arg18 : Memref sig .tc .vmem S16x256 .f32) (harg18 : arg18.IsWhole) (arg19 : Memref sig .tc .vmem S16x256 .f32) (harg19 : arg19.IsWhole) (arg20 : Memref sig .tc .vmem S2x256x1536 .bf16) (harg20 : arg20.IsWhole) (arg21 : Memref sig .tc .vmem S2x256x3072 .bf16) (harg21 : arg21.IsWhole) (arg22 : Memref sig .tc .vmem S2x512x256 .bf16) (harg22 : arg22.IsWhole) (arg23 : Memref sig .tc .vmem S2x256x256 .bf16) (harg23 : arg23.IsWhole) (arg24 : Memref sig .tc .vmem S2x160x256 .bf16) (harg24 : arg24.IsWhole) (arg25 : Memref sig .tc .vmem S2x1024x256 .bf16) (harg25 : arg25.IsWhole) (arg26 : Memref sig .tc .vmem S2x256x1024 .bf16) (harg26 : arg26.IsWhole) (arg27 : Memref sig .tc .vmem S2x1x640x256 .bf16) (harg27 : arg27.IsWhole)
    (x0 : Vec F S2x256x1024 .f32) (x1 : Vec F S2x1x1x6144 .f32) (x2 : Vec F S1x1024 .f32) (x3 : Vec F S1024x1536 .bf16) (x4 : Vec F S1024x3072 .bf16) (x5 : Vec F S1440x1024 .bf16) (x6 : Vec F S768x384 .bf16) (x7 : Vec F S1024x256 .bf16) (x8 : Vec F S64x256 .f32) (x9 : Vec F S64x256 .f32) (x10 : Vec F S384x256 .f32) (x11 : Vec F S256x256 .f32) (x12 : Vec F S96x256 .f32) (x13 : Vec F S96x256 .f32) (x14 : Vec F S32x256 .f32) (x15 : Vec F S32x256 .f32) (x16 : Vec F S16x256 .f32) (x17 : Vec F S16x256 .f32) : Vec F S2x160x256 .bf16 :=
  VO0_22.read (Elt F) (VO0_22.writes (Elt F) VO0_22.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.2.1)

/-- The 64 stores into output 23's block, of `S1x16x256`, `S1x32x256`, `S1x64x256`, cover it: each is a whole number of pieces `![1, 16, 256]`, and these tile it. -/
theorem cover0_A_23 (c : Dev nD) (i : grid0.Coords) (arg2 : Memref sig .tc .vmem S2x256x1024 .f32) (harg2 : arg2.IsWhole) (arg3 : Memref sig .tc .vmem S2x1x1x6144 .f32) (harg3 : arg3.IsWhole) (arg4 : Memref sig .tc .vmem S1x1024 .f32) (harg4 : arg4.IsWhole) (arg5 : Memref sig .tc .vmem S1024x1536 .bf16) (harg5 : arg5.IsWhole) (arg6 : Memref sig .tc .vmem S1024x3072 .bf16) (harg6 : arg6.IsWhole) (arg7 : Memref sig .tc .vmem S1440x1024 .bf16) (harg7 : arg7.IsWhole) (arg8 : Memref sig .tc .vmem S768x384 .bf16) (harg8 : arg8.IsWhole) (arg9 : Memref sig .tc .vmem S1024x256 .bf16) (harg9 : arg9.IsWhole) (arg10 : Memref sig .tc .vmem S64x256 .f32) (harg10 : arg10.IsWhole) (arg11 : Memref sig .tc .vmem S64x256 .f32) (harg11 : arg11.IsWhole) (arg12 : Memref sig .tc .vmem S384x256 .f32) (harg12 : arg12.IsWhole) (arg13 : Memref sig .tc .vmem S256x256 .f32) (harg13 : arg13.IsWhole) (arg14 : Memref sig .tc .vmem S96x256 .f32) (harg14 : arg14.IsWhole) (arg15 : Memref sig .tc .vmem S96x256 .f32) (harg15 : arg15.IsWhole) (arg16 : Memref sig .tc .vmem S32x256 .f32) (harg16 : arg16.IsWhole) (arg17 : Memref sig .tc .vmem S32x256 .f32) (harg17 : arg17.IsWhole) (arg18 : Memref sig .tc .vmem S16x256 .f32) (harg18 : arg18.IsWhole) (arg19 : Memref sig .tc .vmem S16x256 .f32) (harg19 : arg19.IsWhole) (arg20 : Memref sig .tc .vmem S2x256x1536 .bf16) (harg20 : arg20.IsWhole) (arg21 : Memref sig .tc .vmem S2x256x3072 .bf16) (harg21 : arg21.IsWhole) (arg22 : Memref sig .tc .vmem S2x512x256 .bf16) (harg22 : arg22.IsWhole) (arg23 : Memref sig .tc .vmem S2x256x256 .bf16) (harg23 : arg23.IsWhole) (arg24 : Memref sig .tc .vmem S2x160x256 .bf16) (harg24 : arg24.IsWhole) (arg25 : Memref sig .tc .vmem S2x1024x256 .bf16) (harg25 : arg25.IsWhole) (arg26 : Memref sig .tc .vmem S2x256x1024 .bf16) (harg26 : arg26.IsWhole) (arg27 : Memref sig .tc .vmem S2x1x640x256 .bf16) (harg27 : arg27.IsWhole)
    (x0 : Vec F S2x256x1024 .f32) (x1 : Vec F S2x1x1x6144 .f32) (x2 : Vec F S1x1024 .f32) (x3 : Vec F S1024x1536 .bf16) (x4 : Vec F S1024x3072 .bf16) (x5 : Vec F S1440x1024 .bf16) (x6 : Vec F S768x384 .bf16) (x7 : Vec F S1024x256 .bf16) (x8 : Vec F S64x256 .f32) (x9 : Vec F S64x256 .f32) (x10 : Vec F S384x256 .f32) (x11 : Vec F S256x256 .f32) (x12 : Vec F S96x256 .f32) (x13 : Vec F S96x256 .f32) (x14 : Vec F S32x256 .f32) (x15 : Vec F S32x256 .f32) (x16 : Vec F S16x256 .f32) (x17 : Vec F S16x256 .f32) (y : S2x1024x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.2.2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.2.2.1 ![1, 16, 256] (by sl_kernel_rfl) y

/-- What the body's stores leave in output 23's block. -/
def out0_A_23 (c : Dev nD) (i : grid0.Coords) (arg2 : Memref sig .tc .vmem S2x256x1024 .f32) (harg2 : arg2.IsWhole) (arg3 : Memref sig .tc .vmem S2x1x1x6144 .f32) (harg3 : arg3.IsWhole) (arg4 : Memref sig .tc .vmem S1x1024 .f32) (harg4 : arg4.IsWhole) (arg5 : Memref sig .tc .vmem S1024x1536 .bf16) (harg5 : arg5.IsWhole) (arg6 : Memref sig .tc .vmem S1024x3072 .bf16) (harg6 : arg6.IsWhole) (arg7 : Memref sig .tc .vmem S1440x1024 .bf16) (harg7 : arg7.IsWhole) (arg8 : Memref sig .tc .vmem S768x384 .bf16) (harg8 : arg8.IsWhole) (arg9 : Memref sig .tc .vmem S1024x256 .bf16) (harg9 : arg9.IsWhole) (arg10 : Memref sig .tc .vmem S64x256 .f32) (harg10 : arg10.IsWhole) (arg11 : Memref sig .tc .vmem S64x256 .f32) (harg11 : arg11.IsWhole) (arg12 : Memref sig .tc .vmem S384x256 .f32) (harg12 : arg12.IsWhole) (arg13 : Memref sig .tc .vmem S256x256 .f32) (harg13 : arg13.IsWhole) (arg14 : Memref sig .tc .vmem S96x256 .f32) (harg14 : arg14.IsWhole) (arg15 : Memref sig .tc .vmem S96x256 .f32) (harg15 : arg15.IsWhole) (arg16 : Memref sig .tc .vmem S32x256 .f32) (harg16 : arg16.IsWhole) (arg17 : Memref sig .tc .vmem S32x256 .f32) (harg17 : arg17.IsWhole) (arg18 : Memref sig .tc .vmem S16x256 .f32) (harg18 : arg18.IsWhole) (arg19 : Memref sig .tc .vmem S16x256 .f32) (harg19 : arg19.IsWhole) (arg20 : Memref sig .tc .vmem S2x256x1536 .bf16) (harg20 : arg20.IsWhole) (arg21 : Memref sig .tc .vmem S2x256x3072 .bf16) (harg21 : arg21.IsWhole) (arg22 : Memref sig .tc .vmem S2x512x256 .bf16) (harg22 : arg22.IsWhole) (arg23 : Memref sig .tc .vmem S2x256x256 .bf16) (harg23 : arg23.IsWhole) (arg24 : Memref sig .tc .vmem S2x160x256 .bf16) (harg24 : arg24.IsWhole) (arg25 : Memref sig .tc .vmem S2x1024x256 .bf16) (harg25 : arg25.IsWhole) (arg26 : Memref sig .tc .vmem S2x256x1024 .bf16) (harg26 : arg26.IsWhole) (arg27 : Memref sig .tc .vmem S2x1x640x256 .bf16) (harg27 : arg27.IsWhole)
    (x0 : Vec F S2x256x1024 .f32) (x1 : Vec F S2x1x1x6144 .f32) (x2 : Vec F S1x1024 .f32) (x3 : Vec F S1024x1536 .bf16) (x4 : Vec F S1024x3072 .bf16) (x5 : Vec F S1440x1024 .bf16) (x6 : Vec F S768x384 .bf16) (x7 : Vec F S1024x256 .bf16) (x8 : Vec F S64x256 .f32) (x9 : Vec F S64x256 .f32) (x10 : Vec F S384x256 .f32) (x11 : Vec F S256x256 .f32) (x12 : Vec F S96x256 .f32) (x13 : Vec F S96x256 .f32) (x14 : Vec F S32x256 .f32) (x15 : Vec F S32x256 .f32) (x16 : Vec F S16x256 .f32) (x17 : Vec F S16x256 .f32) : Vec F S2x1024x256 .bf16 :=
  VO0_23.read (Elt F) (VO0_23.writes (Elt F) VO0_23.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.2.2.1)

/-- The 2 stores into output 24's block, each of `S1x256x1024`, cover it. -/
theorem cover0_A_24 (c : Dev nD) (i : grid0.Coords) (arg2 : Memref sig .tc .vmem S2x256x1024 .f32) (harg2 : arg2.IsWhole) (arg3 : Memref sig .tc .vmem S2x1x1x6144 .f32) (harg3 : arg3.IsWhole) (arg4 : Memref sig .tc .vmem S1x1024 .f32) (harg4 : arg4.IsWhole) (arg5 : Memref sig .tc .vmem S1024x1536 .bf16) (harg5 : arg5.IsWhole) (arg6 : Memref sig .tc .vmem S1024x3072 .bf16) (harg6 : arg6.IsWhole) (arg7 : Memref sig .tc .vmem S1440x1024 .bf16) (harg7 : arg7.IsWhole) (arg8 : Memref sig .tc .vmem S768x384 .bf16) (harg8 : arg8.IsWhole) (arg9 : Memref sig .tc .vmem S1024x256 .bf16) (harg9 : arg9.IsWhole) (arg10 : Memref sig .tc .vmem S64x256 .f32) (harg10 : arg10.IsWhole) (arg11 : Memref sig .tc .vmem S64x256 .f32) (harg11 : arg11.IsWhole) (arg12 : Memref sig .tc .vmem S384x256 .f32) (harg12 : arg12.IsWhole) (arg13 : Memref sig .tc .vmem S256x256 .f32) (harg13 : arg13.IsWhole) (arg14 : Memref sig .tc .vmem S96x256 .f32) (harg14 : arg14.IsWhole) (arg15 : Memref sig .tc .vmem S96x256 .f32) (harg15 : arg15.IsWhole) (arg16 : Memref sig .tc .vmem S32x256 .f32) (harg16 : arg16.IsWhole) (arg17 : Memref sig .tc .vmem S32x256 .f32) (harg17 : arg17.IsWhole) (arg18 : Memref sig .tc .vmem S16x256 .f32) (harg18 : arg18.IsWhole) (arg19 : Memref sig .tc .vmem S16x256 .f32) (harg19 : arg19.IsWhole) (arg20 : Memref sig .tc .vmem S2x256x1536 .bf16) (harg20 : arg20.IsWhole) (arg21 : Memref sig .tc .vmem S2x256x3072 .bf16) (harg21 : arg21.IsWhole) (arg22 : Memref sig .tc .vmem S2x512x256 .bf16) (harg22 : arg22.IsWhole) (arg23 : Memref sig .tc .vmem S2x256x256 .bf16) (harg23 : arg23.IsWhole) (arg24 : Memref sig .tc .vmem S2x160x256 .bf16) (harg24 : arg24.IsWhole) (arg25 : Memref sig .tc .vmem S2x1024x256 .bf16) (harg25 : arg25.IsWhole) (arg26 : Memref sig .tc .vmem S2x256x1024 .bf16) (harg26 : arg26.IsWhole) (arg27 : Memref sig .tc .vmem S2x1x640x256 .bf16) (harg27 : arg27.IsWhole)
    (x0 : Vec F S2x256x1024 .f32) (x1 : Vec F S2x1x1x6144 .f32) (x2 : Vec F S1x1024 .f32) (x3 : Vec F S1024x1536 .bf16) (x4 : Vec F S1024x3072 .bf16) (x5 : Vec F S1440x1024 .bf16) (x6 : Vec F S768x384 .bf16) (x7 : Vec F S1024x256 .bf16) (x8 : Vec F S64x256 .f32) (x9 : Vec F S64x256 .f32) (x10 : Vec F S384x256 .f32) (x11 : Vec F S256x256 .f32) (x12 : Vec F S96x256 .f32) (x13 : Vec F S96x256 .f32) (x14 : Vec F S32x256 .f32) (x15 : Vec F S32x256 .f32) (x16 : Vec F S16x256 .f32) (x17 : Vec F S16x256 .f32) (y : S2x256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.2.2.2.1 S1x256x1024.size (by sl_kernel_rfl) y

/-- What the body's stores leave in output 24's block. -/
def out0_A_24 (c : Dev nD) (i : grid0.Coords) (arg2 : Memref sig .tc .vmem S2x256x1024 .f32) (harg2 : arg2.IsWhole) (arg3 : Memref sig .tc .vmem S2x1x1x6144 .f32) (harg3 : arg3.IsWhole) (arg4 : Memref sig .tc .vmem S1x1024 .f32) (harg4 : arg4.IsWhole) (arg5 : Memref sig .tc .vmem S1024x1536 .bf16) (harg5 : arg5.IsWhole) (arg6 : Memref sig .tc .vmem S1024x3072 .bf16) (harg6 : arg6.IsWhole) (arg7 : Memref sig .tc .vmem S1440x1024 .bf16) (harg7 : arg7.IsWhole) (arg8 : Memref sig .tc .vmem S768x384 .bf16) (harg8 : arg8.IsWhole) (arg9 : Memref sig .tc .vmem S1024x256 .bf16) (harg9 : arg9.IsWhole) (arg10 : Memref sig .tc .vmem S64x256 .f32) (harg10 : arg10.IsWhole) (arg11 : Memref sig .tc .vmem S64x256 .f32) (harg11 : arg11.IsWhole) (arg12 : Memref sig .tc .vmem S384x256 .f32) (harg12 : arg12.IsWhole) (arg13 : Memref sig .tc .vmem S256x256 .f32) (harg13 : arg13.IsWhole) (arg14 : Memref sig .tc .vmem S96x256 .f32) (harg14 : arg14.IsWhole) (arg15 : Memref sig .tc .vmem S96x256 .f32) (harg15 : arg15.IsWhole) (arg16 : Memref sig .tc .vmem S32x256 .f32) (harg16 : arg16.IsWhole) (arg17 : Memref sig .tc .vmem S32x256 .f32) (harg17 : arg17.IsWhole) (arg18 : Memref sig .tc .vmem S16x256 .f32) (harg18 : arg18.IsWhole) (arg19 : Memref sig .tc .vmem S16x256 .f32) (harg19 : arg19.IsWhole) (arg20 : Memref sig .tc .vmem S2x256x1536 .bf16) (harg20 : arg20.IsWhole) (arg21 : Memref sig .tc .vmem S2x256x3072 .bf16) (harg21 : arg21.IsWhole) (arg22 : Memref sig .tc .vmem S2x512x256 .bf16) (harg22 : arg22.IsWhole) (arg23 : Memref sig .tc .vmem S2x256x256 .bf16) (harg23 : arg23.IsWhole) (arg24 : Memref sig .tc .vmem S2x160x256 .bf16) (harg24 : arg24.IsWhole) (arg25 : Memref sig .tc .vmem S2x1024x256 .bf16) (harg25 : arg25.IsWhole) (arg26 : Memref sig .tc .vmem S2x256x1024 .bf16) (harg26 : arg26.IsWhole) (arg27 : Memref sig .tc .vmem S2x1x640x256 .bf16) (harg27 : arg27.IsWhole)
    (x0 : Vec F S2x256x1024 .f32) (x1 : Vec F S2x1x1x6144 .f32) (x2 : Vec F S1x1024 .f32) (x3 : Vec F S1024x1536 .bf16) (x4 : Vec F S1024x3072 .bf16) (x5 : Vec F S1440x1024 .bf16) (x6 : Vec F S768x384 .bf16) (x7 : Vec F S1024x256 .bf16) (x8 : Vec F S64x256 .f32) (x9 : Vec F S64x256 .f32) (x10 : Vec F S384x256 .f32) (x11 : Vec F S256x256 .f32) (x12 : Vec F S96x256 .f32) (x13 : Vec F S96x256 .f32) (x14 : Vec F S32x256 .f32) (x15 : Vec F S32x256 .f32) (x16 : Vec F S16x256 .f32) (x17 : Vec F S16x256 .f32) : Vec F S2x256x1024 .bf16 :=
  VO0_24.read (Elt F) (VO0_24.writes (Elt F) VO0_24.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.2.2.2.1)

/-- The 32 stores into output 25's block, of `S1x1x16x256`, `S1x1x64x256`, cover it: each is a whole number of pieces `![1, 1, 16, 256]`, and these tile it. -/
theorem cover0_A_25 (c : Dev nD) (i : grid0.Coords) (arg2 : Memref sig .tc .vmem S2x256x1024 .f32) (harg2 : arg2.IsWhole) (arg3 : Memref sig .tc .vmem S2x1x1x6144 .f32) (harg3 : arg3.IsWhole) (arg4 : Memref sig .tc .vmem S1x1024 .f32) (harg4 : arg4.IsWhole) (arg5 : Memref sig .tc .vmem S1024x1536 .bf16) (harg5 : arg5.IsWhole) (arg6 : Memref sig .tc .vmem S1024x3072 .bf16) (harg6 : arg6.IsWhole) (arg7 : Memref sig .tc .vmem S1440x1024 .bf16) (harg7 : arg7.IsWhole) (arg8 : Memref sig .tc .vmem S768x384 .bf16) (harg8 : arg8.IsWhole) (arg9 : Memref sig .tc .vmem S1024x256 .bf16) (harg9 : arg9.IsWhole) (arg10 : Memref sig .tc .vmem S64x256 .f32) (harg10 : arg10.IsWhole) (arg11 : Memref sig .tc .vmem S64x256 .f32) (harg11 : arg11.IsWhole) (arg12 : Memref sig .tc .vmem S384x256 .f32) (harg12 : arg12.IsWhole) (arg13 : Memref sig .tc .vmem S256x256 .f32) (harg13 : arg13.IsWhole) (arg14 : Memref sig .tc .vmem S96x256 .f32) (harg14 : arg14.IsWhole) (arg15 : Memref sig .tc .vmem S96x256 .f32) (harg15 : arg15.IsWhole) (arg16 : Memref sig .tc .vmem S32x256 .f32) (harg16 : arg16.IsWhole) (arg17 : Memref sig .tc .vmem S32x256 .f32) (harg17 : arg17.IsWhole) (arg18 : Memref sig .tc .vmem S16x256 .f32) (harg18 : arg18.IsWhole) (arg19 : Memref sig .tc .vmem S16x256 .f32) (harg19 : arg19.IsWhole) (arg20 : Memref sig .tc .vmem S2x256x1536 .bf16) (harg20 : arg20.IsWhole) (arg21 : Memref sig .tc .vmem S2x256x3072 .bf16) (harg21 : arg21.IsWhole) (arg22 : Memref sig .tc .vmem S2x512x256 .bf16) (harg22 : arg22.IsWhole) (arg23 : Memref sig .tc .vmem S2x256x256 .bf16) (harg23 : arg23.IsWhole) (arg24 : Memref sig .tc .vmem S2x160x256 .bf16) (harg24 : arg24.IsWhole) (arg25 : Memref sig .tc .vmem S2x1024x256 .bf16) (harg25 : arg25.IsWhole) (arg26 : Memref sig .tc .vmem S2x256x1024 .bf16) (harg26 : arg26.IsWhole) (arg27 : Memref sig .tc .vmem S2x1x640x256 .bf16) (harg27 : arg27.IsWhole)
    (x0 : Vec F S2x256x1024 .f32) (x1 : Vec F S2x1x1x6144 .f32) (x2 : Vec F S1x1024 .f32) (x3 : Vec F S1024x1536 .bf16) (x4 : Vec F S1024x3072 .bf16) (x5 : Vec F S1440x1024 .bf16) (x6 : Vec F S768x384 .bf16) (x7 : Vec F S1024x256 .bf16) (x8 : Vec F S64x256 .f32) (x9 : Vec F S64x256 .f32) (x10 : Vec F S384x256 .f32) (x11 : Vec F S256x256 .f32) (x12 : Vec F S96x256 .f32) (x13 : Vec F S96x256 .f32) (x14 : Vec F S32x256 .f32) (x15 : Vec F S32x256 .f32) (x16 : Vec F S16x256 .f32) (x17 : Vec F S16x256 .f32) (y : S2x1x640x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.2.2.2.2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.2.2.2.2.1 ![1, 1, 16, 256] (by sl_kernel_rfl) y

/-- What the body's stores leave in output 25's block. -/
def out0_A_25 (c : Dev nD) (i : grid0.Coords) (arg2 : Memref sig .tc .vmem S2x256x1024 .f32) (harg2 : arg2.IsWhole) (arg3 : Memref sig .tc .vmem S2x1x1x6144 .f32) (harg3 : arg3.IsWhole) (arg4 : Memref sig .tc .vmem S1x1024 .f32) (harg4 : arg4.IsWhole) (arg5 : Memref sig .tc .vmem S1024x1536 .bf16) (harg5 : arg5.IsWhole) (arg6 : Memref sig .tc .vmem S1024x3072 .bf16) (harg6 : arg6.IsWhole) (arg7 : Memref sig .tc .vmem S1440x1024 .bf16) (harg7 : arg7.IsWhole) (arg8 : Memref sig .tc .vmem S768x384 .bf16) (harg8 : arg8.IsWhole) (arg9 : Memref sig .tc .vmem S1024x256 .bf16) (harg9 : arg9.IsWhole) (arg10 : Memref sig .tc .vmem S64x256 .f32) (harg10 : arg10.IsWhole) (arg11 : Memref sig .tc .vmem S64x256 .f32) (harg11 : arg11.IsWhole) (arg12 : Memref sig .tc .vmem S384x256 .f32) (harg12 : arg12.IsWhole) (arg13 : Memref sig .tc .vmem S256x256 .f32) (harg13 : arg13.IsWhole) (arg14 : Memref sig .tc .vmem S96x256 .f32) (harg14 : arg14.IsWhole) (arg15 : Memref sig .tc .vmem S96x256 .f32) (harg15 : arg15.IsWhole) (arg16 : Memref sig .tc .vmem S32x256 .f32) (harg16 : arg16.IsWhole) (arg17 : Memref sig .tc .vmem S32x256 .f32) (harg17 : arg17.IsWhole) (arg18 : Memref sig .tc .vmem S16x256 .f32) (harg18 : arg18.IsWhole) (arg19 : Memref sig .tc .vmem S16x256 .f32) (harg19 : arg19.IsWhole) (arg20 : Memref sig .tc .vmem S2x256x1536 .bf16) (harg20 : arg20.IsWhole) (arg21 : Memref sig .tc .vmem S2x256x3072 .bf16) (harg21 : arg21.IsWhole) (arg22 : Memref sig .tc .vmem S2x512x256 .bf16) (harg22 : arg22.IsWhole) (arg23 : Memref sig .tc .vmem S2x256x256 .bf16) (harg23 : arg23.IsWhole) (arg24 : Memref sig .tc .vmem S2x160x256 .bf16) (harg24 : arg24.IsWhole) (arg25 : Memref sig .tc .vmem S2x1024x256 .bf16) (harg25 : arg25.IsWhole) (arg26 : Memref sig .tc .vmem S2x256x1024 .bf16) (harg26 : arg26.IsWhole) (arg27 : Memref sig .tc .vmem S2x1x640x256 .bf16) (harg27 : arg27.IsWhole)
    (x0 : Vec F S2x256x1024 .f32) (x1 : Vec F S2x1x1x6144 .f32) (x2 : Vec F S1x1024 .f32) (x3 : Vec F S1024x1536 .bf16) (x4 : Vec F S1024x3072 .bf16) (x5 : Vec F S1440x1024 .bf16) (x6 : Vec F S768x384 .bf16) (x7 : Vec F S1024x256 .bf16) (x8 : Vec F S64x256 .f32) (x9 : Vec F S64x256 .f32) (x10 : Vec F S384x256 .f32) (x11 : Vec F S256x256 .f32) (x12 : Vec F S96x256 .f32) (x13 : Vec F S96x256 .f32) (x14 : Vec F S32x256 .f32) (x15 : Vec F S32x256 .f32) (x16 : Vec F S16x256 .f32) (x17 : Vec F S16x256 .f32) : Vec F S2x1x640x256 .bf16 :=
  VO0_25.read (Elt F) (VO0_25.writes (Elt F) VO0_25.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.2.2.2.2.1)

/-! ## What the outputs hold after each point -/

/-- What the eight outputs' blocks hold after the body at point `t`. -/
def outsAt0 (c : Dev nD) (t : Fin cfg0.N) : Vec F S2x256x1536 .bf16 × Vec F S2x256x3072 .bf16 × Vec F S2x512x256 .bf16 × Vec F S2x256x256 .bf16 × Vec F S2x160x256 .bf16 × Vec F S2x1024x256 .bf16 × Vec F S2x256x1024 .bf16 × Vec F S2x1x640x256 .bf16 :=
  (out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t))

/-! ## The proof data of the call -/

/-- The proof data of the call on core `c`: the arrays as the call finds them, and after the body at a point each input's
block as it was, each output's at what the body stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => (outsAt0 m c t).1
    | ⟨19, _⟩ => (outsAt0 m c t).2.1
    | ⟨20, _⟩ => (outsAt0 m c t).2.2.1
    | ⟨21, _⟩ => (outsAt0 m c t).2.2.2.1
    | ⟨22, _⟩ => (outsAt0 m c t).2.2.2.2.1
    | ⟨23, _⟩ => (outsAt0 m c t).2.2.2.2.2.1
    | ⟨24, _⟩ => (outsAt0 m c t).2.2.2.2.2.2.1
    | ⟨25, _⟩ => (outsAt0 m c t).2.2.2.2.2.2.2
    | ⟨_ + 26, h⟩ => absurd h (Nat.not_lt.2 (Nat.le_add_left _ _))
  Φ _ := Pipeline.ΦA spec0 c
  q _ := fullShare
  owed _ := 0

/-- The arrays of the proof data are those that the call finds. -/
theorem A_eq (c : Dev nD) (w : Fin cfg0.W) : (dats m 0 c).A w = V m c (Pipeline.arrRef spec0 w) := by
  dsimp only [dats]

/-! What the body leaves in each block. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = (outsAt0 m c t).1 := by dsimp only [dats]
theorem after0_19 (c : Dev nD) (t : Fin cfg0.N) : (dats m 0 c).after 19 t = (outsAt0 m c t).2.1 := by dsimp only [dats]
theorem after0_20 (c : Dev nD) (t : Fin cfg0.N) : (dats m 0 c).after 20 t = (outsAt0 m c t).2.2.1 := by dsimp only [dats]
theorem after0_21 (c : Dev nD) (t : Fin cfg0.N) : (dats m 0 c).after 21 t = (outsAt0 m c t).2.2.2.1 := by dsimp only [dats]
theorem after0_22 (c : Dev nD) (t : Fin cfg0.N) : (dats m 0 c).after 22 t = (outsAt0 m c t).2.2.2.2.1 := by dsimp only [dats]
theorem after0_23 (c : Dev nD) (t : Fin cfg0.N) : (dats m 0 c).after 23 t = (outsAt0 m c t).2.2.2.2.2.1 := by dsimp only [dats]
theorem after0_24 (c : Dev nD) (t : Fin cfg0.N) : (dats m 0 c).after 24 t = (outsAt0 m c t).2.2.2.2.2.2.1 := by dsimp only [dats]
theorem after0_25 (c : Dev nD) (t : Fin cfg0.N) : (dats m 0 c).after 25 t = (outsAt0 m c t).2.2.2.2.2.2.2 := by dsimp only [dats]

/-! Before the body at a point each input's buffer holds that point's block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

/-! ## The body obligation, at a generic point -/

/-- What holds before the body at point `t`: each block's buffer at what it has then. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d)))

/-- What holds after the body at point `t`: each block's buffer at what the body leaves there. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t))

set_option maxHeartbeats 2400000 in
/-- The body at any point takes the one to the other: the inputs' buffers hold their blocks, so the run applies, and the
core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25]
  unfold outsAt0
  unfold out0_A_18 out0_A_19 out0_A_20 out0_A_21 out0_A_22 out0_A_23 out0_A_24 out0_A_25; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  iintro ⟨H0, H1, H2, H3, H4, H5, H6, H7, H8, H9, H10, H11, H12, H13, H14, H15, H16, H17, ⟨%e18, H18⟩, ⟨%e19, H19⟩, ⟨%e20, H20⟩, ⟨%e21, H21⟩, ⟨%e22, H22⟩, ⟨%e23, H23⟩, ⟨%e24, H24⟩, ⟨%e25, H25⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H22]
  · unfold owns; iexists _; isplitr
    swap; · iexact H22
    ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H23]
  · unfold owns; iexists _; isplitr
    swap; · iexact H23
    ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H24]
  · unfold owns; iexists _; isplitr
    swap; · iexact H24
    ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H25
  ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body that the call runs at point `t` is the body on that point's buffers. -/
theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The body's part of the run of the call, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the library's theorem is matched against this statement through plain definitions
set_option backward.isDefEq.respectTransparency.types false in
/-- Every run of the program ends with the arrays at what the points leave, and with every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- Every run ends with the arguments as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

/-- Every run ends with the arguments as they were and every counter at zero: the frame, over any float words. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  θ_run_and (unchanged m ρ) ((θ_run defs _ _).mono (fun _ h => h.2) (run_main_quiescent m ρ))

end Cert.ProjFrame

end
-- ==== Proof.ProjSame.lean ====
/-
The projection call and its idealization have one text, so the run of Proof/ProjFrame.lean is the run of both: the frame
at the machine's float words.
-/
module

public import proofs.«01_k».proof.Proof.ProjFrame
public import proofs.«01_k».proof.Proof.Gen.Kernel3
public import proofs.«01_k».proof.Defs

@[expose] public section

noncomputable section

namespace Cert.Proj

open Idealize.ShloMosaic Idealize.ShloMosaic.Tactic Idealize.SL.Sem

/-- The frame of the program at the machine's float words. -/
theorem frame_kernel : Cert.quiescent_Kernel3 (hKernel3 := Cert.Kernel3.Gen.facts) := by
  have h := fun m ρ (_ : True) => Cert.ProjFrame.frame (F := Bits) m ρ
  exact cast (by sl_kernel_rfl) h

end Cert.Proj

end
-- ==== Proof.ProjRun.lean ====
/-
The projection call's run, with its arrays of the convolution's inputs and of the gates named.
-/
module

public import proofs.«01_k».proof.Proof.ProjFrame
public import Idealize.ShloMosaic.Lib.Pipeline.Value

@[expose] public section

noncomputable section

namespace Cert.Proj

open Idealize.ShloMosaic Idealize.ShloMosaic.TcCoe Idealize.SL.Sem
open Cert.Kernel3Ideal Cert.Kernel3Ideal.Gen Cert.ProjFrame

variable {F : FTy → Type} [FloatOps F]

/-- Every run ends with the two arrays at what the points of the grid leave. -/
theorem run_arrays (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v28_0) = (dats m 0 c).arrAt 18 cfg0.N
      ∧ r.2.mem ((c : Thread nD τ).loc main_v28_1) = (dats m 0 c).arrAt 19 cfg0.N :=
  (θ_run defs _ _).mono (fun _ h c => ⟨(h c).1 18, (h c).1 19⟩) (run_main m ρ)

end Cert.Proj

end
-- ==== Proof.ProjTile.lean ====
/-
What the projection call's body computes of one batch entry's tile of 256 tokens, read at a token: the normalised and
modulated tokens, their product with a matrix, and the gates.
-/
module

public import proofs.«01_k».proof.Proof.MergeRow
public import proofs.«01_k».proof.Proof.Gen.Kernel3Ideal.Skeleton
public import Idealize.ShloMosaic.Lib.Pointwise

@[expose] public section

noncomputable section

namespace Cert.Proj

open Idealize.ShloMosaic Idealize.ShloMosaic.TcCoe
open Cert.Kernel3Ideal Cert.Kernel3Ideal.Gen

/-- A row's product with a matrix. -/
def through {n : ℕ} (h : Fin 1024 → EReal) (w : Fin 1024 → Fin n → EReal) (f : Fin n) : EReal := ∑ d, h d * w d f

variable (r : Fin 256)

/-- The first batch entry's tokens. -/
theorem first_hidden (x : FVec Ideal S1x256x1024 .f32) (shift scale g : FVec Ideal S1x1024 .f32) (d : Fin 1024) :
    k0_pay6 (F := Ideal) x shift scale g (ix2 r d)
      = Merge.hidden (fun d => x (ix3 0 r d)) (fun d => g (ix2 0 d)) (fun d => scale (ix2 0 d)) (fun d => shift (ix2 0 d)) d := by
  pointwise [k0_pay6, k0_pay5, Merge.hidden]

/-- The second batch entry's tokens. -/
theorem second_hidden (x : FVec Ideal S1x256x1024 .f32) (shift scale g : FVec Ideal S1x1024 .f32) (d : Fin 1024) :
    k0_pay239 (F := Ideal) (k0_pay237 (F := Ideal) x) shift scale g (ix2 r d)
      = Merge.hidden (fun d => x (ix3 0 r d)) (fun d => g (ix2 0 d)) (fun d => scale (ix2 0 d)) (fun d => shift (ix2 0 d)) d := by
  pointwise [k0_pay237, k0_pay238, k0_pay239, Merge.hidden]

/-- The first batch entry's product. -/
theorem first_through (h : FVec Ideal S256x1024 .bf16) (w : FVec Ideal S1024x1536 .bf16) (f : Fin 1536) :
    k0_pay10 (F := Ideal) h w (ix3 0 r f) = through (fun d => h (ix2 r d)) (fun d f => w (ix2 d f)) f := by
  pointwise [k0_pay10, through]

/-- The second batch entry's product. -/
theorem second_through (x : FVec Ideal S256x1024 .f32) (shift scale g : FVec Ideal S1x1024 .f32)
    (w : FVec Ideal S1024x1536 .bf16) (f : Fin 1536) :
    k0_pay242 (F := Ideal) (k0_pay241 (F := Ideal) x shift scale g w) (ix3 0 r f)
      = through (fun d => k0_pay239 (F := Ideal) x shift scale g (ix2 r d)) (fun d f => w (ix2 d f)) f := by
  pointwise [k0_pay242, k0_pay241, through]

/-- A third of the gates. -/
theorem gate (h : FVec Ideal S256x1024 .bf16) (w : FVec Ideal S1024x1024 .bf16) (f : Fin 1024) :
    k0_pay11 (F := Ideal) h w (ix3 0 r f) = Ideal.logistic (through (fun d => h (ix2 r d)) (fun d f => w (ix2 d f)) f) := by
  pointwise [k0_pay11, through]

variable {F : FTy → Type} [FloatOps F]

/-- All thirds of the gates are computed alike. -/
theorem gate_alike (h : FVec F S256x1024 .bf16) (w : FVec F S1024x1024 .bf16) :
    k0_pay89 h w = k0_pay11 h w ∧ k0_pay230 (k0_pay229 h w) = k0_pay11 h w ∧ k0_pay243 h w = k0_pay11 h w
    ∧ k0_pay317 h w = k0_pay11 h w ∧ k0_pay458 h w = k0_pay11 h w :=
  ⟨rfl, rfl, rfl, rfl, rfl⟩

end Cert.Proj

end
-- ==== Proof.ProjOut.lean ====
/-
What a point of the projection call's grid leaves of the convolution's inputs and of the gates, read in the blocks that
the point is given.
-/
module

public import proofs.«01_k».proof.Proof.ProjTile
public import proofs.«01_k».proof.Proof.ProjFrame
public import Idealize.ShloMosaic.Lib.Pipeline.ValueKit
public import Idealize.ShloMosaic.Lib.ValueLayout

@[expose] public section

noncomputable section

namespace Cert.Proj

open Idealize.ShloMosaic Idealize.ShloMosaic.TcCoe
open Cert.Kernel3Ideal Cert.Kernel3Ideal.Gen Cert.ProjFrame

/-- A token of a point's blocks, normalised and modulated. -/
def hiddenAt (x0 : FVec Ideal S2x256x1024 .f32) (x1 : FVec Ideal S2x1x1x6144 .f32) (x2 : FVec Ideal S1x1024 .f32)
    (n : Fin 2) (r : Fin 256) : Fin 1024 → EReal :=
  Merge.hidden (fun d => x0 (ix3 n r d)) (fun d => x2 (ix2 0 d)) (fun d => x1 (ix4 n 0 0 ⟨1024 + d.val, by omega⟩))
    (fun d => x1 (ix4 n 0 0 ⟨d.val, by omega⟩))

/-- A part of a batch entry's row of the modulation, loaded. -/
theorem mod_load (M : Memref sig .tc .vmem S2x1x1x6144 .f32) (hM : M.IsWhole) (x1 : FVec Ideal S2x1x1x6144 .f32) (n k : ℕ)
    (p) (q) (h0) (hs) (h0') (hs') (hu) (hR) (d : Fin 1024) (j : Fin 6144) (hj : j.val = k + d.val) (n' : Fin 2)
    (hn : n'.val = n) :
    (LoadRect.valAlong (lr := (Rect.unit (s := S1x6144) ![0, k] ![1, 1024] q : LoadRect S1x6144)) (V := Elt Ideal .f32) hR (View.readAt (Elt Ideal) M.view
      ((Rect.unit (s := S2x1x1x6144) ![n, 0, 0, 0] ![1, 1, 1, 6144] p).withinL
        (LoadRect.consLift (n := 3) (d := ![1, 1, 6144])
          (LoadRect.consLift (n := 2) (d := ![1, 6144]) (Rect.unit (s := S1x6144) ![0, k] ![1, 1024] q) ![1, 1, 6144] h0 hs)
          ![1, 1, 1, 6144] h0' hs') hu) (hM.unread x1)) : S1x1024.Idx → EReal) (ix2 0 d)
      = x1 (ix4 n' 0 0 j) := by
  change M.view.read (Elt Ideal) (hM.unread x1) _ = _
  rw [hM.read_unread]
  refine congrArg x1 ?_
  funext a
  apply Fin.ext
  refine (congrArg (fun y => (LoadRect.idx _ y a).val) (ValueIdx.reshapeEquiv_ix2_11ab hR 0 d)).trans ?_
  fin_cases a
  · change n + 0 + 1 * 0 = n'.val
    omega
  · rfl
  · rfl
  · change 0 + k + 1 * d.val = j.val
    omega

/-- A block of the results at a batch entry. -/
theorem at_entry {w : ℕ} (n : Fin 2) (r : Fin 256) (f : Fin w) (k : Fin 2) (x : (⟨3, ![1, 256, w]⟩ : Shape).Idx)
    (h0 : n.val = k.val + (x 0).val) (h1 : r.val = (x 1).val) (h2 : f.val = (x 2).val) : n = k ∧ x = ix3 0 r f := by
  have e0 : (x 0).val < 1 := (x 0).isLt
  refine ⟨Fin.ext (by omega), funext fun a => ?_⟩
  fin_cases a
  · exact Fin.ext (by simpa using e0)
  · exact Fin.ext h1.symm
  · exact Fin.ext h2.symm

/-- A block of a third of the gates at a batch entry. -/
theorem at_third (n : Fin 2) (r : Fin 256) (f : Fin 3072) (k : Fin 2) (o : ℕ) (x : S1x256x1024.Idx)
    (h0 : n.val = k.val + (x 0).val) (h1 : r.val = (x 1).val) (h2 : f.val = o + (x 2).val) :
    n = k ∧ ∃ y : Fin 1024, ∃ h : o + y.val < 3072, f = ⟨o + y.val, h⟩ ∧ x = ix3 0 r y := by
  have e2 : (x 2).val < 1024 := (x 2).isLt
  have e := at_entry (w := 1024) n r ⟨(x 2).val, e2⟩ k x h0 h1 rfl
  exact ⟨e.1, ⟨(x 2).val, e2⟩, h2 ▸ f.isLt, Fin.ext h2, e.2⟩

/-- The gates at a column, of the tokens and of the columns of the matrix loaded. -/
theorem gate_at (h : FVec Ideal S256x1024 .bf16) (w : FVec Ideal S1024x1024 .bf16) (x4 : FVec Ideal S1024x3072 .bf16)
    (r : Fin 256) (y : Fin 1024) (f : Fin 3072) (H : Fin 1024 → EReal) (hh : ∀ d, h (ix2 r d) = H d)
    (hw : ∀ d, w (ix2 d y) = x4 (ix2 d f)) :
    k0_pay11 (F := Ideal) h w (ix3 0 r y) = Ideal.logistic (through H (fun d f => x4 (ix2 d f)) f) := by
  rw [gate]
  simp only [through, hh, hw]

variable (x0 : FVec Ideal S2x256x1024 .f32) (x1 : FVec Ideal S2x1x1x6144 .f32) (x2 : FVec Ideal S1x1024 .f32)
  (x : FVec Ideal S1x256x1024 .f32) (shift scale g : FVec Ideal S1x1024 .f32) (n : Fin 2) (r : Fin 256)
  (hx : ∀ d, x (ix3 0 r d) = x0 (ix3 n r d)) (hg : ∀ d, g (ix2 0 d) = x2 (ix2 0 d))
  (hscale : ∀ d : Fin 1024, scale (ix2 0 d) = x1 (ix4 n 0 0 ⟨1024 + d.val, by omega⟩))
  (hshift : ∀ d : Fin 1024, shift (ix2 0 d) = x1 (ix4 n 0 0 ⟨d.val, by omega⟩))

include hx hg hscale hshift

/-- The tokens of the first batch entry, of a point's blocks. -/
theorem first_at (d : Fin 1024) : k0_pay6 (F := Ideal) x shift scale g (ix2 r d) = hiddenAt x0 x1 x2 n r d := by
  rw [first_hidden]
  simp only [hx, hg, hscale, hshift, hiddenAt]

/-- The tokens of the second batch entry, of a point's blocks. -/
theorem second_at (d : Fin 1024) :
    k0_pay239 (F := Ideal) (k0_pay237 (F := Ideal) x) shift scale g (ix2 r d) = hiddenAt x0 x1 x2 n r d := by
  rw [second_hidden]
  simp only [hx, hg, hscale, hshift, hiddenAt]

omit hx hg hscale hshift

variable (m : (ℓ : Loc nD τ sig) → Buf (Elt Ideal) ℓ) (c : Dev nD) (t : Fin cfg0.N)

/-- The convolution's inputs that a point leaves. -/
theorem out_inputs (n : Fin 2) (r : Fin 256) (f : Fin 1536) :
    (outsAt0 m c t).1 (ix3 n r f)
      = through (hiddenAt (iblk m c 0 t) (iblk m c 1 t) (iblk m c 2 t) n r) (fun d f => iblk m c 3 t (ix2 d f)) f := by
  simp only [outsAt0]
  frame_out
  generalize iblk m c 0 t = x0, iblk m c 1 t = x1, iblk m c 2 t = x2, iblk m c 3 t = x3
  canon_tiles x h
  · obtain ⟨rfl, rfl⟩ := at_entry n r f 1 x h0 h1 h2
    rw [second_through]
    refine congrArg (fun h => through h _ f) (funext fun d => second_at x0 x1 x2 _ _ _ _ 1 r (fun d => by pointwise)
      (fun d => rfl) (fun d => mod_load _ _ x1 1 1024 _ _ _ _ _ _ _ _ d _ rfl 1 rfl)
      (fun d => mod_load _ _ x1 1 0 _ _ _ _ _ _ _ _ d _ (by simp) 1 rfl) d)
  · obtain ⟨rfl, rfl⟩ := at_entry n r f 0 x (by simpa using h0) h1 h2
    rw [first_through]
    refine congrArg (fun h => through h _ f) (funext fun d => first_at x0 x1 x2 _ _ _ _ 0 r (fun d => by pointwise)
      (fun d => rfl) (fun d => mod_load _ _ x1 0 1024 _ _ _ _ _ _ _ _ d _ rfl 0 rfl)
      (fun d => mod_load _ _ x1 0 0 _ _ _ _ _ _ _ _ d _ (by simp) 0 rfl) d)

/-- The gates that a point leaves. -/
theorem out_gates (n : Fin 2) (r : Fin 256) (f : Fin 3072) :
    (outsAt0 m c t).2.1 (ix3 n r f)
      = Ideal.logistic (through (hiddenAt (iblk m c 0 t) (iblk m c 1 t) (iblk m c 2 t) n r)
          (fun d f => iblk m c 4 t (ix2 d f)) f) := by
  simp only [outsAt0]
  frame_out
  generalize iblk m c 0 t = x0, iblk m c 1 t = x1, iblk m c 2 t = x2, iblk m c 4 t = x4
  canon_tiles x h
  · obtain ⟨rfl, y, hy, rfl, rfl⟩ := at_third n r f 1 2048 x h0 h1 h2
    rw [(gate_alike _ _).2.2.2.2]
    exact gate_at _ _ x4 r y _ _ (fun d => second_at x0 x1 x2 _ _ _ _ 1 r (fun d => by pointwise) (fun d => rfl)
      (fun d => mod_load _ _ x1 1 1024 _ _ _ _ _ _ _ _ d _ rfl 1 rfl)
      (fun d => mod_load _ _ x1 1 0 _ _ _ _ _ _ _ _ d _ (by simp) 1 rfl) d) (fun d => by pointwise)
  · obtain ⟨rfl, y, hy, rfl, rfl⟩ := at_third n r f 1 1024 x h0 h1 h2
    rw [(gate_alike _ _).2.2.2.1]
    exact gate_at _ _ x4 r y _ _ (fun d => second_at x0 x1 x2 _ _ _ _ 1 r (fun d => by pointwise) (fun d => rfl)
      (fun d => mod_load _ _ x1 1 1024 _ _ _ _ _ _ _ _ d _ rfl 1 rfl)
      (fun d => mod_load _ _ x1 1 0 _ _ _ _ _ _ _ _ d _ (by simp) 1 rfl) d) (fun d => by pointwise)
  · obtain ⟨rfl, y, hy, rfl, rfl⟩ := at_third n r f 1 0 x h0 h1 (by simpa using h2)
    rw [(gate_alike _ _).2.2.1]
    exact gate_at _ _ x4 r y _ _ (fun d => second_at x0 x1 x2 _ _ _ _ 1 r (fun d => by pointwise) (fun d => rfl)
      (fun d => mod_load _ _ x1 1 1024 _ _ _ _ _ _ _ _ d _ rfl 1 rfl)
      (fun d => mod_load _ _ x1 1 0 _ _ _ _ _ _ _ _ d _ (by simp) 1 rfl) d) (fun d => by pointwise)
  · obtain ⟨rfl, y, hy, rfl, rfl⟩ := at_third n r f 0 2048 x (by simpa using h0) h1 h2
    rw [(gate_alike _ _).2.1]
    exact gate_at _ _ x4 r y _ _ (fun d => first_at x0 x1 x2 _ _ _ _ 0 r (fun d => by pointwise) (fun d => rfl)
      (fun d => mod_load _ _ x1 0 1024 _ _ _ _ _ _ _ _ d _ rfl 0 rfl)
      (fun d => mod_load _ _ x1 0 0 _ _ _ _ _ _ _ _ d _ (by simp) 0 rfl) d) (fun d => by pointwise)
  · obtain ⟨rfl, y, hy, rfl, rfl⟩ := at_third n r f 0 1024 x (by simpa using h0) h1 h2
    rw [(gate_alike _ _).1]
    exact gate_at _ _ x4 r y _ _ (fun d => first_at x0 x1 x2 _ _ _ _ 0 r (fun d => by pointwise) (fun d => rfl)
      (fun d => mod_load _ _ x1 0 1024 _ _ _ _ _ _ _ _ d _ rfl 0 rfl)
      (fun d => mod_load _ _ x1 0 0 _ _ _ _ _ _ _ _ d _ (by simp) 0 rfl) d) (fun d => by pointwise)
  · obtain ⟨rfl, y, hy, rfl, rfl⟩ := at_third n r f 0 0 x (by simpa using h0) h1 (by simpa using h2)
    exact gate_at _ _ x4 r y _ _ (fun d => first_at x0 x1 x2 _ _ _ _ 0 r (fun d => by pointwise) (fun d => rfl)
      (fun d => mod_load _ _ x1 0 1024 _ _ _ _ _ _ _ _ d _ rfl 0 rfl)
      (fun d => mod_load _ _ x1 0 0 _ _ _ _ _ _ _ _ d _ (by simp) 0 rfl) d) (fun d => by pointwise)

end Cert.Proj

end
-- ==== Proof.ProjBlocks.lean ====
/-
The blocks a point of the projection call's grid is given: two batch entries, 256 tokens of each.
-/
module

public import proofs.«01_k».proof.Proof.Gen.Kernel3Ideal.Frame.Runs
public import Idealize.ShloMosaic.Lib.Pipeline.ValueKit
public import Idealize.ShloMosaic.Lib.Pointwise

@[expose] public section

noncomputable section

namespace Cert.Proj

open Idealize.ShloMosaic Idealize.ShloMosaic.TcCoe
open Cert.Kernel3Ideal Cert.Kernel3Ideal.Gen

variable {F : FTy → Type} [FloatOps F]

/-- The stream and the results, tile by tile of the tokens. -/
theorem index_rows : ∀ t : Fin cfg0.N,
    win0_0.index t = ![(grid0.coords t 0).val, (grid0.coords t 1).val, 0]
    ∧ win0_18.index t = ![(grid0.coords t 0).val, (grid0.coords t 1).val, 0]
    ∧ win0_19.index t = ![(grid0.coords t 0).val, (grid0.coords t 1).val, 0] :=
  (by decide +kernel : ∀ t : Fin grid0.N, _)

/-- The modulation, that of the context's tokens for the last tile, and the weights, whole. -/
theorem index_whole : ∀ t : Fin cfg0.N,
    win0_1.index t = ![(grid0.coords t 0).val, (grid0.coords t 1).val / 32, 0, 0]
    ∧ win0_2.index t = ![0, 0] ∧ win0_3.index t = ![0, 0] ∧ win0_4.index t = ![0, 0] :=
  (by decide +kernel : ∀ t : Fin grid0.N, _)

variable (m : (ℓ : Loc nD τ sig) → Buf (Elt F) ℓ) (c : Dev nD) (t : Fin cfg0.N)

/-- The weight of the norm. -/
theorem blk_norm (d : Fin 1024) : iblk m c 2 t (ix2 0 d) = V m c main_v27 (ix2 0 d) := by
  have e := (index_whole t).2.1
  blk_ext [iblk, e]

/-- The matrix of the convolution's inputs. -/
theorem blk_inputs (d : Fin 1024) (f : Fin 1536) : iblk m c 3 t (ix2 d f) = V m c main_v5 (ix2 d f) := by
  have e := (index_whole t).2.2.1
  blk_ext [iblk, e]

/-- The matrix of the gates. -/
theorem blk_gates (d : Fin 1024) (f : Fin 3072) : iblk m c 4 t (ix2 d f) = V m c main_v10 (ix2 d f) := by
  have e := (index_whole t).2.2.2
  blk_ext [iblk, e]

variable (b : Fin 8) (n : Fin 2) (hb : b.val = 2 * (grid0.coords t 0).val + n.val)

include hb

/-- The block of the modulation. -/
theorem blk_mod (j : Fin 2) (hj : j.val = (grid0.coords t 1).val / 32) (d : Fin 6144) :
    iblk m c 1 t (ix4 n 0 0 d) = V m c main_v3 (ix4 b j 0 d) := by
  have e := (index_whole t).1
  blk_ext [iblk, e, hb, hj]

/-- The block of the stream. -/
theorem blk_stream (q : Fin 8448) (r : Fin 256) (hq : q.val = 256 * (grid0.coords t 1).val + r.val) (d : Fin 1024) :
    iblk m c 0 t (ix3 n r d) = V m c main_arg0 (ix3 b q d) := by
  have e := (index_rows t).1
  blk_ext [iblk, e, hb, hq]

end Cert.Proj

end
-- ==== Proof.ProjOperands.lean ====
/-
The arrays the host hands to the projection call, read at an index over the extended reals.
-/
module

public import proofs.«01_k».proof.Proof.Gen.Kernel3Ideal.Frame.Runs
public import Idealize.ShloMosaic.Lib.StableHlo.Run
public import Idealize.ShloMosaic.Lib.Pointwise
public import Idealize.ShloMosaic.PureOps.Ideal.Laws

@[expose] public section

noncomputable section

namespace Cert.Proj

open Idealize.ShloMosaic Idealize.ShloMosaic.TcCoe
open Cert.Kernel3Ideal Cert.Kernel3Ideal.Gen

variable (m : (ℓ : Loc nD τ sig) → Buf (Elt Ideal) ℓ) (c : Dev nD)

/-- The modulation of the latent tokens and that of the context's. -/
theorem V_mod (b : Fin 8) (j : Fin 2) (d : Fin 6144) :
    V m c main_v3 (ix4 b j 0 d) = if _h : j.val < 1 then m ((c : Thread nD τ).loc main_arg1) (ix3 b 0 d)
      else m ((c : Thread nD τ).loc main_arg2) (ix3 0 0 d) := by
  dsimp only [V]
  simp only [hostOps0, List.flatten_cons, List.flatten_nil, List.append_nil, List.cons_append, List.nil_append]
  after_results
  pointwise

/-- The weight of the norm. -/
theorem V_norm (d : Fin 1024) : V m c main_v27 (ix2 0 d) = m ((c : Thread nD τ).loc main_arg3) (ix1 d) := by
  dsimp only [V]
  simp only [hostOps0, List.flatten_cons, List.flatten_nil, List.append_nil, List.cons_append, List.nil_append]
  after_results
  pointwise

/-- The matrix of the convolution's inputs. -/
theorem V_inputs (d : Fin 1024) (f : Fin 1536) :
    V m c main_v5 (ix2 d f) = m ((c : Thread nD τ).loc main_arg4) (ix2 d ⟨f.val, by omega⟩) := by
  dsimp only [V]
  simp only [hostOps0, List.flatten_cons, List.flatten_nil, List.append_nil, List.cons_append, List.nil_append]
  after_results
  pointwise

/-- The matrix of the gates. -/
theorem V_gates (d : Fin 1024) (f : Fin 3072) :
    V m c main_v10 (ix2 d f) = m ((c : Thread nD τ).loc main_arg4) (ix2 d ⟨2976 + f.val, by omega⟩) := by
  dsimp only [V]
  simp only [hostOps0, List.flatten_cons, List.flatten_nil, List.append_nil, List.cons_append, List.nil_append]
  after_results
  pointwise

end Cert.Proj

end
-- ==== Proof.ProjRef.lean ====
/-
The reference of the projection call: its stages named, and its results read at an index over the extended reals.
-/
module

public import proofs.«01_k».proof.Proof.Gen.Reference3Ideal.Run
public import proofs.«01_k».proof.Proof.MergeRow
public import Idealize.ShloMosaic.Lib.Pointwise
public import Idealize.ShloMosaic.PureOps.Ideal.Laws

@[expose] public section

noncomputable section

namespace Cert.ProjRef

open Idealize.ShloMosaic Idealize.ShloMosaic.TcCoe Idealize.SL.Sem
open Cert.Reference3Ideal Cert.Reference3Ideal.Gen

/-- The latent tokens, normalised and modulated. -/
def latents (a0 : FVec Ideal S8x8448x1024 .f32) (a1 : FVec Ideal S8x1x6144 .f32) (a3 : FVec Ideal S1024 .f32) :
    FVec Ideal S8x8192x1024 .f32 :=
  addf (mulf (mulf (mulf (extractStridedSlice S8x8192x1024 ![0, 0, 0] a0 slices_S8x8448x1024_S8x8192x1024_0_0_0)
      (broadcastInDim S8x8192x1024 ![0, 1, 2] bcast_S8x8192x1_S8x8192x1024_0_1_2
        (Host.rsqrt (addf (Host.divf (broadcastInDim S8x8192x1 ![0, 1] bcast_S8x8192_S8x8192x1_0_1
            (Host.reduceAdd (mulf (extractStridedSlice S8x8192x1024 ![0, 0, 0] a0 slices_S8x8448x1024_S8x8192x1024_0_0_0)
              (extractStridedSlice S8x8192x1024 ![0, 0, 0] a0 slices_S8x8448x1024_S8x8192x1024_0_0_0))
              (constant S_ .f32 0x00000000#32) reducesTo_S8x8192x1024_S8x8192_d2 h_S_))
          (broadcastInDim S8x8192x1 ![] bcast_S_S8x8192x1 (constant S_ .f32 0x44800000#32)))
          (broadcastInDim S8x8192x1 ![] bcast_S_S8x8192x1 (constant S_ .f32 0x358637BD#32))))))
      (broadcastInDim S8x8192x1024 ![0, 1, 2] bcast_S1x1x1024_S8x8192x1024_0_1_2
        (broadcastInDim S1x1x1024 ![2] bcast_S1024_S1x1x1024_2 a3)))
      (broadcastInDim S8x8192x1024 ![0, 1, 2] bcast_S8x1x1024_S8x8192x1024_0_1_2
        (addf (broadcastInDim S8x1x1024 ![] bcast_S_S8x1x1024 (constant S_ .f32 0x3F800000#32))
          (extractStridedSlice S8x1x1024 ![0, 0, 1024] a1 slices_S8x1x6144_S8x1x1024_0_0_1024))))
    (broadcastInDim S8x8192x1024 ![0, 1, 2] bcast_S8x1x1024_S8x8192x1024_0_1_2
      (extractStridedSlice S8x1x1024 ![0, 0, 0] a1 slices_S8x1x6144_S8x1x1024_0_0_0))

/-- The tokens of the context, normalised and modulated. -/
def contexts (a0 : FVec Ideal S8x8448x1024 .f32) (a2 : FVec Ideal S1x1x6144 .f32) (a3 : FVec Ideal S1024 .f32) :
    FVec Ideal S8x256x1024 .f32 :=
  addf (mulf (mulf (mulf (extractStridedSlice S8x256x1024 ![0, 8192, 0] a0 slices_S8x8448x1024_S8x256x1024_0_8192_0)
      (broadcastInDim S8x256x1024 ![0, 1, 2] bcast_S8x256x1_S8x256x1024_0_1_2
        (Host.rsqrt (addf (Host.divf (broadcastInDim S8x256x1 ![0, 1] bcast_S8x256_S8x256x1_0_1
            (Host.reduceAdd (mulf (extractStridedSlice S8x256x1024 ![0, 8192, 0] a0 slices_S8x8448x1024_S8x256x1024_0_8192_0)
              (extractStridedSlice S8x256x1024 ![0, 8192, 0] a0 slices_S8x8448x1024_S8x256x1024_0_8192_0))
              (constant S_ .f32 0x00000000#32) reducesTo_S8x256x1024_S8x256_d2 h_S_))
          (broadcastInDim S8x256x1 ![] bcast_S_S8x256x1 (constant S_ .f32 0x44800000#32)))
          (broadcastInDim S8x256x1 ![] bcast_S_S8x256x1 (constant S_ .f32 0x358637BD#32))))))
      (broadcastInDim S8x256x1024 ![0, 1, 2] bcast_S1x1x1024_S8x256x1024_0_1_2
        (broadcastInDim S1x1x1024 ![2] bcast_S1024_S1x1x1024_2 a3)))
      (broadcastInDim S8x256x1024 ![0, 1, 2] bcast_S1x1x1024_S8x256x1024_0_1_2
        (addf (broadcastInDim S1x1x1024 ![] bcast_S_S1x1x1024 (constant S_ .f32 0x3F800000#32))
          (extractStridedSlice S1x1x1024 ![0, 0, 1024] a2 slices_S1x1x6144_S1x1x1024_0_0_1024))))
    (broadcastInDim S8x256x1024 ![0, 1, 2] bcast_S1x1x1024_S8x256x1024_0_1_2
      (extractStridedSlice S1x1x1024 ![0, 0, 0] a2 slices_S1x1x6144_S1x1x1024_0_0_0))

/-- All tokens. -/
def tokens (l : FVec Ideal S8x8192x1024 .f32) (x : FVec Ideal S8x256x1024 .f32) : FVec Ideal S8x8448x1024 .f32 :=
  concatenate S8x8448x1024 1 [⟨S8x8192x1024, l⟩, ⟨S8x256x1024, x⟩] concatenates_S8x8192x1024_S8x256x1024_S8x8448x1024_d1

/-- The inputs of the convolution. -/
def inputs (h : FVec Ideal S8x8448x1024 .f32) (a4 : FVec Ideal S1024x6048 .f32) : FVec Ideal S8x8448x1536 .bf16 :=
  truncf .bf16 (Host.dotGeneral dot_S8x8448x1024_S1024x1536_S8x8448x1536_2_0_01_1_n_n none h
    (extractStridedSlice S1024x1536 ![0, 0] a4 slices_S1024x6048_S1024x1536_0_0)) bitsLt_bf16_f32

/-- The gates of the branches. -/
def gates (h : FVec Ideal S8x8448x1024 .f32) (a4 : FVec Ideal S1024x6048 .f32) : FVec Ideal S8x8448x3072 .bf16 :=
  truncf .bf16 (Host.divf (broadcastInDim S8x8448x3072 ![] bcast_S_S8x8448x3072 (constant S_ .f32 0x3F800000#32))
    (addf (broadcastInDim S8x8448x3072 ![] bcast_S_S8x8448x3072 (constant S_ .f32 0x3F800000#32))
      (Host.exp (Host.negf (Host.dotGeneral dot_S8x8448x1024_S1024x3072_S8x8448x3072_2_0_01_1_n_n none h
        (extractStridedSlice S1024x3072 ![0, 2976] a4 slices_S1024x6048_S1024x3072_0_2976)))))) bitsLt_bf16_f32

variable (b : Fin 8) (d : Fin 1024)

/-- The word of the float zero. -/
theorem zero_word : Ideal.ofBits .f32 0x00000000#32 = 0 := by
  simp [Ideal.ofBits, Ideal.ieee]

/-- An element of a latent token. -/
theorem latents_apply (a0 : FVec Ideal S8x8448x1024 .f32) (a1 : FVec Ideal S8x1x6144 .f32) (a3 : FVec Ideal S1024 .f32)
    (q : Fin 8192) :
    latents a0 a1 a3 (ix3 b q d)
      = Merge.hidden (fun d => a0 (ix3 b ⟨q.val, by omega⟩ d)) (fun d => a3 (ix1 d))
          (fun d => a1 (ix3 b 0 ⟨1024 + d.val, by omega⟩)) (fun d => a1 (ix3 b 0 ⟨d.val, by omega⟩)) d := by
  pointwise [latents, Merge.hidden, zero_word, zero_add]

/-- An element of a token of the context. -/
theorem contexts_apply (a0 : FVec Ideal S8x8448x1024 .f32) (a2 : FVec Ideal S1x1x6144 .f32) (a3 : FVec Ideal S1024 .f32)
    (q : Fin 256) :
    contexts a0 a2 a3 (ix3 b q d)
      = Merge.hidden (fun d => a0 (ix3 b ⟨8192 + q.val, by omega⟩ d)) (fun d => a3 (ix1 d))
          (fun d => a2 (ix3 0 0 ⟨1024 + d.val, by omega⟩)) (fun d => a2 (ix3 0 0 ⟨d.val, by omega⟩)) d := by
  pointwise [contexts, Merge.hidden, zero_word, zero_add]

/-- An element of all tokens. -/
theorem tokens_apply (l : FVec Ideal S8x8192x1024 .f32) (x : FVec Ideal S8x256x1024 .f32) (q : Fin 8448) :
    tokens l x (ix3 b q d)
      = if h : q.val < 8192 then l (ix3 b ⟨q.val, h⟩ d) else x (ix3 b ⟨q.val - 8192, by omega⟩ d) := by
  pointwise [tokens]

/-- An element of the convolution's inputs. -/
theorem inputs_apply (h : FVec Ideal S8x8448x1024 .f32) (a4 : FVec Ideal S1024x6048 .f32) (q : Fin 8448) (f : Fin 1536) :
    inputs h a4 (ix3 b q f) = ∑ d : Fin 1024, h (ix3 b q d) * a4 (ix2 d ⟨f.val, by omega⟩) := by
  pointwise [inputs]

/-- An element of the gates. -/
theorem gates_apply (h : FVec Ideal S8x8448x1024 .f32) (a4 : FVec Ideal S1024x6048 .f32) (q : Fin 8448) (f : Fin 3072) :
    gates h a4 (ix3 b q f)
      = Ideal.logistic (∑ d : Fin 1024, h (ix3 b q d) * a4 (ix2 d ⟨2976 + f.val, by omega⟩)) := by
  pointwise [gates, Ideal.logistic]

set_option maxRecDepth 8192 in
/-- A run's results are those. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v55)
          = inputs (tokens (latents (m ((c.tc : Thread nD τ).loc main_arg0)) (m ((c.tc : Thread nD τ).loc main_arg1))
              (m ((c.tc : Thread nD τ).loc main_arg3)))
            (contexts (m ((c.tc : Thread nD τ).loc main_arg0)) (m ((c.tc : Thread nD τ).loc main_arg2))
              (m ((c.tc : Thread nD τ).loc main_arg3)))) (m ((c.tc : Thread nD τ).loc main_arg4))
      ∧ r.2.mem ((c.tc : Thread nD τ).loc main_v56)
          = gates (tokens (latents (m ((c.tc : Thread nD τ).loc main_arg0)) (m ((c.tc : Thread nD τ).loc main_arg1))
              (m ((c.tc : Thread nD τ).loc main_arg3)))
            (contexts (m ((c.tc : Thread nD τ).loc main_arg0)) (m ((c.tc : Thread nD τ).loc main_arg2))
              (m ((c.tc : Thread nD τ).loc main_arg3)))) (m ((c.tc : Thread nD τ).loc main_arg4)) := by
  unfold inputs gates tokens latents contexts
  exact (θ_run _ _ _).mono (fun _ h c => ⟨(h c).1, (h c).2.1⟩) (Value.run m ρ)

end Cert.ProjRef

end
-- ==== Proof.ProjValue.lean ====
/-
The projection call's arrays of the convolution's inputs and of the gates over the extended reals are its reference's.
-/
module

public import proofs.«01_k».proof.Proof.ProjOut
public import proofs.«01_k».proof.Proof.ProjBlocks
public import proofs.«01_k».proof.Proof.ProjOperands
public import proofs.«01_k».proof.Proof.ProjRef

@[expose] public section

noncomputable section

namespace Cert.Proj

open Idealize.ShloMosaic Idealize.ShloMosaic.TcCoe
open Cert.Kernel3Ideal Cert.Kernel3Ideal.Gen Cert.ProjFrame

variable (m : (ℓ : Loc nD τ sig) → Buf (Elt Ideal) ℓ) (c : Dev nD)
  (a0 : FVec Ideal S8x8448x1024 .f32) (a1 : FVec Ideal S8x1x6144 .f32) (a2 : FVec Ideal S1x1x6144 .f32)
  (a3 : FVec Ideal S1024 .f32) (a4 : FVec Ideal S1024x6048 .f32)
  (e0 : m ((c : Thread nD τ).loc main_arg0) = a0) (e1 : m ((c : Thread nD τ).loc main_arg1) = a1)
  (e2 : m ((c : Thread nD τ).loc main_arg2) = a2) (e3 : m ((c : Thread nD τ).loc main_arg3) = a3)
  (e4 : m ((c : Thread nD τ).loc main_arg4) = a4)

section Point

variable (t : Fin cfg0.N) (b : Fin 8) (n : Fin 2) (hb : b.val = 2 * (grid0.coords t 0).val + n.val)
  (q : Fin 8448) (r : Fin 256) (hq : q.val = 256 * (grid0.coords t 1).val + r.val)

include hb hq e0 e1 e2 e3

/-- A token of a point's blocks, normalised and modulated, is the reference's. -/
theorem hidden_eq (d : Fin 1024) :
    hiddenAt (iblk m c 0 t) (iblk m c 1 t) (iblk m c 2 t) n r d
      = ProjRef.tokens (ProjRef.latents a0 a1 a3) (ProjRef.contexts a0 a2 a3) (ix3 b q d) := by
  subst e0 e1 e2 e3
  have g1 : (grid0.coords t 1).val < 33 := (grid0.coords t 1).isLt
  have s0 : ∀ d : Fin 1024, iblk m c 0 t (ix3 n r d) = m ((c : Thread nD τ).loc main_arg0) (ix3 b q d) :=
    fun d => (blk_stream m c t b n hb q r hq d).trans (congrFun (V_main_arg0 m c) _)
  have s2 : ∀ d : Fin 1024, iblk m c 2 t (ix2 0 d) = m ((c : Thread nD τ).loc main_arg3) (ix1 d) :=
    fun d => (blk_norm m c t d).trans (V_norm m c d)
  have s1 := fun (j : Fin 2) (hj : j.val = (grid0.coords t 1).val / 32) (d : Fin 6144) =>
    (blk_mod m c t b n hb j hj d).trans (V_mod m c b j d)
  rw [ProjRef.tokens_apply]
  unfold hiddenAt
  by_cases h : q.val < 8192
  · have s := s1 0 (by show 0 = _; omega)
    rw [dif_pos h, ProjRef.latents_apply]
    simp only [s0, s2, s, Fin.val_zero, Nat.zero_lt_one, dite_true]
  · have s := s1 1 (by show 1 = _; omega)
    rw [dif_neg h, ProjRef.contexts_apply]
    have hq' : ∀ p, (⟨8192 + (q.val - 8192), p⟩ : Fin 8448) = q := fun p => Fin.ext (by show 8192 + (q.val - 8192) = q.val; omega)
    simp only [s0, s2, s, Fin.val_one, Nat.lt_irrefl, dite_false, hq']

include e4

/-- The convolution's inputs that a point leaves are the reference's. -/
theorem inputs_eq (f : Fin 1536) :
    (outsAt0 m c t).1 (ix3 n r f)
      = ProjRef.inputs (ProjRef.tokens (ProjRef.latents a0 a1 a3) (ProjRef.contexts a0 a2 a3)) a4 (ix3 b q f) := by
  rw [out_inputs, ProjRef.inputs_apply]
  unfold through
  refine Finset.sum_congr rfl fun d _ => ?_
  rw [hidden_eq m c a0 a1 a2 a3 e0 e1 e2 e3 t b n hb q r hq d]
  subst e4
  exact congrArg _ ((blk_inputs m c t d f).trans (V_inputs m c d f))

/-- The gates that a point leaves are the reference's. -/
theorem gates_eq (f : Fin 3072) :
    (outsAt0 m c t).2.1 (ix3 n r f)
      = ProjRef.gates (ProjRef.tokens (ProjRef.latents a0 a1 a3) (ProjRef.contexts a0 a2 a3)) a4 (ix3 b q f) := by
  rw [out_gates, ProjRef.gates_apply]
  unfold through
  refine congrArg Ideal.logistic (Finset.sum_congr rfl fun d _ => ?_)
  rw [hidden_eq m c a0 a1 a2 a3 e0 e1 e2 e3 t b n hb q r hq d]
  subst e4
  exact congrArg _ ((blk_gates m c t d f).trans (V_gates m c d f))

end Point

include e0 e1 e2 e3 e4

/-- The array of the convolution's inputs is the reference's. -/
theorem array_inputs :
    (dats m 0 c).arrAt 18 cfg0.N
      = ProjRef.inputs (ProjRef.tokens (ProjRef.latents a0 a1 a3) (ProjRef.contexts a0 a2 a3)) a4 := by
  refine (dats m 0 c).arrAt_eq_of_covers 18 _ (by decide +kernel) fun t hf y => ?_
  blk_simp
  rw [after0_18]
  have e := (index_rows t).2.1
  have g0 : (grid0.coords t 0).val < 4 := (grid0.coords t 0).isLt
  have g1 : (grid0.coords t 1).val < 33 := (grid0.coords t 1).isLt
  have h0' : (y 0).val < 2 := (y 0).isLt
  have h1' : (y 1).val < 256 := (y 1).isLt
  have h2' : (y 2).val < 1536 := (y 2).isLt
  have hy : y = ix3 (n0 := 2) (n1 := 256) (n2 := 1536) ⟨(y 0).val, h0'⟩ ⟨(y 1).val, h1'⟩ ⟨(y 2).val, h2'⟩ := by
    funext a
    match a with
    | ⟨0, _⟩ => rfl
    | ⟨1, _⟩ => rfl
    | ⟨2, _⟩ => rfl
  have hp := inputs_eq m c a0 a1 a2 a3 a4 e0 e1 e2 e3 e4 t ⟨2 * (grid0.coords t 0).val + (y 0).val, by omega⟩
    ⟨(y 0).val, h0'⟩ rfl ⟨256 * (grid0.coords t 1).val + (y 1).val, by omega⟩ ⟨(y 1).val, h1'⟩ rfl ⟨(y 2).val, h2'⟩
  generalize ProjRef.inputs (ProjRef.tokens (ProjRef.latents a0 a1 a3) (ProjRef.contexts a0 a2 a3)) a4 = G at hp ⊢
  refine (congrArg (outsAt0 m c t).1 hy).trans (hp.trans ?_)
  blk_ext [e]

/-- The array of the gates is the reference's. -/
theorem array_gates :
    (dats m 0 c).arrAt 19 cfg0.N
      = ProjRef.gates (ProjRef.tokens (ProjRef.latents a0 a1 a3) (ProjRef.contexts a0 a2 a3)) a4 := by
  refine (dats m 0 c).arrAt_eq_of_covers 19 _ (by decide +kernel) fun t hf y => ?_
  blk_simp
  rw [after0_19]
  have e := (index_rows t).2.2
  have g0 : (grid0.coords t 0).val < 4 := (grid0.coords t 0).isLt
  have g1 : (grid0.coords t 1).val < 33 := (grid0.coords t 1).isLt
  have h0' : (y 0).val < 2 := (y 0).isLt
  have h1' : (y 1).val < 256 := (y 1).isLt
  have h2' : (y 2).val < 3072 := (y 2).isLt
  have hy : y = ix3 (n0 := 2) (n1 := 256) (n2 := 3072) ⟨(y 0).val, h0'⟩ ⟨(y 1).val, h1'⟩ ⟨(y 2).val, h2'⟩ := by
    funext a
    match a with
    | ⟨0, _⟩ => rfl
    | ⟨1, _⟩ => rfl
    | ⟨2, _⟩ => rfl
  have hp := gates_eq m c a0 a1 a2 a3 a4 e0 e1 e2 e3 e4 t ⟨2 * (grid0.coords t 0).val + (y 0).val, by omega⟩
    ⟨(y 0).val, h0'⟩ rfl ⟨256 * (grid0.coords t 1).val + (y 1).val, by omega⟩ ⟨(y 1).val, h1'⟩ rfl ⟨(y 2).val, h2'⟩
  generalize ProjRef.gates (ProjRef.tokens (ProjRef.latents a0 a1 a3) (ProjRef.contexts a0 a2 a3)) a4 = G at hp ⊢
  refine (congrArg (outsAt0 m c t).2.1 hy).trans (hp.trans ?_)
  blk_ext [e]

end Cert.Proj

end
-- ==== Proof.lean ====
/- The proof of the claims about the latent attention, the merge and the projections. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Same
public import proofs.«01_k».proof.Proof.Pre
public import proofs.«01_k».proof.Proof.Value
public import proofs.«01_k».proof.Proof.MergeValue
public import proofs.«01_k».proof.Proof.ProjSame
public import proofs.«01_k».proof.Proof.ProjRun
public import proofs.«01_k».proof.Proof.ProjValue
public import Idealize.ShloMosaic.Adequacy
public import Idealize.ShloMosaic.Init

@[expose] public section

noncomputable section

namespace Cert.Proof

open Idealize.ShloMosaic Idealize.SL.Sem

/-- The reference ends with its arguments and its counters as they were. -/
theorem reference_frame : Cert.quiescent_ReferenceIdeal (hReferenceIdeal := Cert.ReferenceIdeal.Gen.facts) := fun m ρ _ =>
  (θ_run _ _ _).mono (fun r h => ⟨fun c => (h c).2, sem_eq_zero_of_no_sems (by decide) r.2⟩)
    (Cert.ReferenceIdeal.Value.run m ρ)

/-- Where the queries of the frames and all keys are finite, the kernel and the reference end with one result. -/
theorem same_result : Cert.algebraic_KernelIdeal_ReferenceIdeal_pre_finite (hKernelIdeal := Cert.KernelIdeal.Gen.facts)
    (hReferenceIdeal := Cert.ReferenceIdeal.Gen.facts) (hPre_finite := Cert.Mla.preFacts) := fun m ρ m' ρ' hpre hag => by
  refine ⟨fun c => (Cert.Mla.dats m 0 c).arrAt 3 Cert.KernelIdeal.cfg0.N,
    (θ_run _ _ _).mono (fun r h c => ⟨h.1 c, h.2.1 c⟩) (θ_run_and (Cert.Mla.run_value m ρ) (Cert.Mla.frame_run m ρ)),
    (θ_run _ _ _).mono (fun r h c => ⟨(h c).1.trans ?_, (h c).2⟩) (Cert.ReferenceIdeal.Value.run m' ρ')⟩
  obtain ⟨e0, e1, e2, -, e4, e5⟩ := hag c
  obtain ⟨h0, h1, h4⟩ := Cert.Mla.real_of_pre (hpre c)
  exact (Cert.Ref.result_named m' c).trans
    (Cert.Mla.array_eq m c _ _ _ _ _ e0.symm e1.symm e2.symm e4.symm e5.symm
      (by rw [e0]; exact h0) (by rw [e1]; exact h1) (by rw [e4]; exact h4)).symm

/-- The reference of the merge ends with its arguments and its counters as they were. -/
theorem reference2_frame : Cert.quiescent_Reference2Ideal (hReference2Ideal := Cert.Reference2Ideal.Gen.facts) := fun m ρ _ =>
  (θ_run _ _ _).mono (fun r h => ⟨fun c => (h c).2, sem_eq_zero_of_no_sems (by decide) r.2⟩)
    (Cert.Reference2Ideal.Value.run m ρ)

/-- The merge's kernel and its reference end with one result. -/
theorem same_result2 : Cert.algebraic_Kernel2Ideal_Reference2Ideal (hKernel2Ideal := Cert.Kernel2Ideal.Gen.facts)
    (hReference2Ideal := Cert.Reference2Ideal.Gen.facts) := fun m ρ m' ρ' _ hag => by
  refine ⟨fun c => (Cert.Kernel2Ideal.Gen.dats m 0 c).arrAt 18 Cert.Kernel2Ideal.cfg0.N,
    Cert.Kernel2Ideal.Value.run_blocks m ρ,
    (θ_run _ _ _).mono (fun r h c => ⟨(h c).1.trans ?_, (h c).2⟩) (Cert.Reference2Ideal.Value.run m' ρ')⟩
  obtain ⟨e0, e1, -, e3, e4, e5, -, -, -, e9, e10, e11, -, e13, e14, e15, e16, e17, e18⟩ := hag c
  exact (Cert.MergeRef.result_named m' c).trans
    (Cert.Merge.array_eq m c _ _ _ _ _ _ _ _ _ _ _ _ _ _ e0.symm e1.symm e3.symm e4.symm e5.symm e9.symm e10.symm
      e11.symm e13.symm e14.symm e15.symm e16.symm e17.symm e18.symm).symm

/-- The reference of the projections ends with its arguments and its counters as they were. -/
theorem reference3_frame : Cert.quiescent_Reference3Ideal (hReference3Ideal := Cert.Reference3Ideal.Gen.facts) := fun m ρ _ =>
  (θ_run _ _ _).mono (fun r h => ⟨fun c => (h c).2.2, sem_eq_zero_of_no_sems (by decide) r.2⟩)
    (Cert.Reference3Ideal.Value.run m ρ)

/-- The projections' kernel and their reference end with the same two results. -/
theorem same_result3 : Cert.algebraic_Kernel3Ideal_Reference3Ideal (hKernel3Ideal := Cert.Kernel3Ideal.Gen.facts)
    (hReference3Ideal := Cert.Reference3Ideal.Gen.facts) := fun m ρ m' ρ' _ hag => by
  refine ⟨fun c => (Cert.ProjFrame.dats m 0 c).arrAt 18 Cert.Kernel3Ideal.cfg0.N,
    fun c => (Cert.ProjFrame.dats m 0 c).arrAt 19 Cert.Kernel3Ideal.cfg0.N,
    (θ_run _ _ _).mono (fun r h c => ⟨(h.1 c).1, (h.1 c).2, h.2.1 c⟩)
      (θ_run_and (Cert.Proj.run_arrays m ρ) (Cert.ProjFrame.frame m ρ)),
    (θ_run _ _ _).mono (fun r h c => ⟨(h.1 c).1.trans ?_, (h.1 c).2.trans ?_, (h.2 c).2.2⟩)
      (θ_run_and (Cert.ProjRef.run_named m' ρ') (Cert.Reference3Ideal.Value.run m' ρ'))⟩
  all_goals obtain ⟨e0, e1, e2, e3, e4, -⟩ := hag c
  · exact (Cert.Proj.array_inputs m c _ _ _ _ _ e0.symm e1.symm e2.symm e3.symm e4.symm).symm
  · exact (Cert.Proj.array_gates m c _ _ _ _ _ e0.symm e1.symm e2.symm e3.symm e4.symm).symm

/-- The claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Mla.preFacts, Cert.Mla.frame_kernel, fun m ρ _ => Cert.Mla.frame_run m ρ, fun m ρ _ => Cert.Mla.frame_run m ρ,
  reference_frame, fun m ρ _ => reference_frame m ρ trivial, fun m ρ _ => Cert.Kernel2.Gen.frame m ρ,
  fun m ρ _ => Cert.Kernel2Ideal.Gen.frame m ρ, reference2_frame, Cert.Proj.frame_kernel,
  fun m ρ _ => Cert.ProjFrame.frame m ρ, reference3_frame, trivial, same_result, trivial, same_result2,
  trivial, same_result3⟩

end Cert.Proof

end
